-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v46) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x1024x1024 : Shape := ⟨3, ![1, 1024, 1024]⟩
abbrev S1024x1024 : Shape := ⟨2, ![1024, 1024]⟩
abbrev S1x1024x128x128 : Shape := ⟨4, ![1, 1024, 128, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x128x128 : S_.BroadcastsInDim S1x1024x128x128 (![] : Fin 0 → Fin S1x1024x128x128.rank)
  reducesTo_S1x1024x128x128_S_d0_1_2_3 : S1x1024x128x128.ReducesTo [0, 1, 2, 3] S_

variable [Facts]

def fn {F : FTy → Type} [FloatOps F] (main_arg0 : FVec F S1x1024x1024 .f32) (main_arg1 : FVec F S1024x1024 .f32) (main_arg2 : FVec F S1x1024x128x128 .f32) (main_arg3 : FVec F S1x1024x128x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024x128x128 .f32 := Host.absf main_arg2
  let main_cst_2 : FVec F S_ .f32 := constant S_ .f32 0x7F800000#32
  let main_v10 : FVec F S1x1024x128x128 .f32 := broadcastInDim S1x1024x128x128 ![] bcast_S_S1x1024x128x128 main_cst_2
  let main_v11 : IVec S1x1024x128x128 1 := cmpf .olt main_v9 main_v10
  let main_c_3 : IVec S_ 1 := constantI S_ 1 1#1
  let main_v12 : IVec S_ 1 := (fun x v => Host.reduce IntOp.andi x v reducesTo_S1x1024x128x128_S_d0_1_2_3 h_S_) main_v11 main_c_3
  let main_v13 : IVec S_ 1 := andi main_v8 main_v12
  main_v13
-- ==== Pre_finite_scores_ReferenceIdeal.lean ====
abbrev S1x1024x1024 : Shape := ⟨3, ![1, 1024, 1024]⟩
abbrev S1024x16384 : Shape := ⟨2, ![1024, 16384]⟩
abbrev S1x1024x128x128 : Shape := ⟨4, ![1, 1024, 128, 128]⟩
abbrev S16384x1024 : Shape := ⟨2, ![16384, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S1x1024x128x128 : S_.BroadcastsInDim S1x1024x128x128 (![] : Fin 0 → Fin S1x1024x128x128.rank)
  reducesTo_S1x1024x128x128_S_d0_1_2_3 : S1x1024x128x128.ReducesTo [0, 1, 2, 3] S_

variable [Facts]

def fn {F : FTy → Type} [FloatOps F] (main_arg0 : FVec F S1x1024x1024 .f32) (main_arg1 : FVec F S1024x16384 .f32) (main_arg2 : FVec F S1x1024x128x128 .f32) (main_arg3 : FVec F S1x1024x128x128 .f32) (main_arg4 : FVec F S16384x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S1x1024x128x128 .f32 := Host.absf main_arg2
  let main_cst_2 : FVec F S_ .f32 := constant S_ .f32 0x7F800000#32
  let main_v10 : FVec F S1x1024x128x128 .f32 := broadcastInDim S1x1024x128x128 ![] bcast_S_S1x1024x128x128 main_cst_2
  let main_v11 : IVec S1x1024x128x128 1 := cmpf .olt main_v9 main_v10
  let main_c_3 : IVec S_ 1 := constantI S_ 1 1#1
  let main_v12 : IVec S_ 1 := (fun x v => Host.reduce IntOp.andi x v reducesTo_S1x1024x128x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x1024 : Shape := ⟨2, ![1024, 1024]⟩
abbrev S1x1024x128x128 : Shape := ⟨4, ![1, 1024, 128, 128]⟩
abbrev S256x1024 : Shape := ⟨2, ![256, 1024]⟩
abbrev S15x64x1024 : Shape := ⟨3, ![15, 64, 1024]⟩
abbrev S16 : Shape := ⟨1, ![16]⟩
abbrev S15 : Shape := ⟨1, ![15]⟩
abbrev S1 : Shape := ⟨1, ![1]⟩
abbrev S_ : Shape := ⟨0, ![]⟩
abbrev S1024x128 : Shape := ⟨2, ![1024, 128]⟩
abbrev S1x1024x1x128 : Shape := ⟨4, ![1, 1024, 1, 128]⟩
abbrev S256x1 : Shape := ⟨2, ![256, 1]⟩
abbrev S1x1024 : Shape := ⟨2, ![1, 1024]⟩
abbrev S256x128 : Shape := ⟨2, ![256, 128]⟩
abbrev S256 : Shape := ⟨1, ![256]⟩
abbrev S1x64x1024 : Shape := ⟨3, ![1, 64, 1024]⟩
abbrev S64x1024 : Shape := ⟨2, ![64, 1024]⟩

abbrev nBuf : Space → Nat
  | .hbm => 6
  | .vmem => 15
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x128x128, .f32⟩
  | .hbm, ⟨3, _⟩ => ⟨S1x1024x128x128, .f32⟩
  | .hbm, ⟨4, _⟩ => ⟨S1024x1024, .f32⟩
  | .hbm, ⟨5, _⟩ => ⟨S1024x1024, .bf16⟩
  | .local _ .vmem, ⟨0, _⟩ => ⟨S1x1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S256x1024, .bf16⟩
  | .local _ .vmem, ⟨13, _⟩ => ⟨S1024x1024, .bf16⟩
  | .local _ .vmem, ⟨14, _⟩ => ⟨S15x64x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  (ofTc nBuf bufTy 1 80 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_off1 (d0 : Dev nD) (c0_i32 : BitVec 32) : Fin 4 → Nat :=
  let c0_i32_2 : BitVec 32 := 0#32
  let c0_i32_6 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v3 : BitVec 32 := Scalar.muli v2 c8_i32
  let v4 : BitVec 32 := Scalar.addi v3 c0_i32
  let c0_i32_7 : BitVec 32 := 0#32
  ![0, 0, v4.toNat, 0]
def k0_dev1 (d0 : Dev nD) : Nat :=
  let c0_i32_110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_106 : BitVec 32 := 1#32
  let v116 : BitVec 32 := Scalar.addi v2 c1_i32_106
  let c16_i32_107 : BitVec 32 := 16#32
  let v117 : BitVec 32 := Scalar.remsi v116 c16_i32_107
  let c1_i32_109 : BitVec 32 := 1#32
  let v118 : BitVec 32 := Scalar.muli v117 c1_i32_109
  let v119 : BitVec 32 := Scalar.addi c0_i32_110 v118
  v119.toNat
def k0_dev2 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_111 : BitVec 32 := 2#32
  let v120 : BitVec 32 := Scalar.addi v2 c2_i32_111
  let c16_i32_112 : BitVec 32 := 16#32
  let v121 : BitVec 32 := Scalar.remsi v120 c16_i32_112
  let c1_i32_114 : BitVec 32 := 1#32
  let v122 : BitVec 32 := Scalar.muli v121 c1_i32_114
  let v123 : BitVec 32 := Scalar.addi c0_i32_115 v122
  v123.toNat
def k0_dev3 (d0 : Dev nD) : Nat :=
  let c0_i32_120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_116 : BitVec 32 := 3#32
  let v124 : BitVec 32 := Scalar.addi v2 c3_i32_116
  let c16_i32_117 : BitVec 32 := 16#32
  let v125 : BitVec 32 := Scalar.remsi v124 c16_i32_117
  let c1_i32_119 : BitVec 32 := 1#32
  let v126 : BitVec 32 := Scalar.muli v125 c1_i32_119
  let v127 : BitVec 32 := Scalar.addi c0_i32_120 v126
  v127.toNat
def k0_dev4 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_121 : BitVec 32 := 4#32
  let v128 : BitVec 32 := Scalar.addi v2 c4_i32_121
  let c16_i32_122 : BitVec 32 := 16#32
  let v129 : BitVec 32 := Scalar.remsi v128 c16_i32_122
  let c1_i32_124 : BitVec 32 := 1#32
  let v130 : BitVec 32 := Scalar.muli v129 c1_i32_124
  let v131 : BitVec 32 := Scalar.addi c0_i32_125 v130
  v131.toNat
def k0_dev5 (d0 : Dev nD) : Nat :=
  let c0_i32_130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_126 : BitVec 32 := 5#32
  let v132 : BitVec 32 := Scalar.addi v2 c5_i32_126
  let c16_i32_127 : BitVec 32 := 16#32
  let v133 : BitVec 32 := Scalar.remsi v132 c16_i32_127
  let c1_i32_129 : BitVec 32 := 1#32
  let v134 : BitVec 32 := Scalar.muli v133 c1_i32_129
  let v135 : BitVec 32 := Scalar.addi c0_i32_130 v134
  v135.toNat
def k0_dev6 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_131 : BitVec 32 := 6#32
  let v136 : BitVec 32 := Scalar.addi v2 c6_i32_131
  let c16_i32_132 : BitVec 32 := 16#32
  let v137 : BitVec 32 := Scalar.remsi v136 c16_i32_132
  let c1_i32_134 : BitVec 32 := 1#32
  let v138 : BitVec 32 := Scalar.muli v137 c1_i32_134
  let v139 : BitVec 32 := Scalar.addi c0_i32_135 v138
  v139.toNat
def k0_dev7 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_136 : BitVec 32 := 7#32
  let v140 : BitVec 32 := Scalar.addi v2 c7_i32_136
  let c16_i32_137 : BitVec 32 := 16#32
  let v141 : BitVec 32 := Scalar.remsi v140 c16_i32_137
  let c1_i32_139 : BitVec 32 := 1#32
  let v142 : BitVec 32 := Scalar.muli v141 c1_i32_139
  let v143 : BitVec 32 := Scalar.addi c0_i32_140 v142
  v143.toNat
def k0_dev8 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_141 : BitVec 32 := 8#32
  let v144 : BitVec 32 := Scalar.addi v2 c8_i32_141
  let c16_i32_142 : BitVec 32 := 16#32
  let v145 : BitVec 32 := Scalar.remsi v144 c16_i32_142
  let c1_i32_144 : BitVec 32 := 1#32
  let v146 : BitVec 32 := Scalar.muli v145 c1_i32_144
  let v147 : BitVec 32 := Scalar.addi c0_i32_145 v146
  v147.toNat
def k0_dev9 (d0 : Dev nD) : Nat :=
  let c0_i32_150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_146 : BitVec 32 := 9#32
  let v148 : BitVec 32 := Scalar.addi v2 c9_i32_146
  let c16_i32_147 : BitVec 32 := 16#32
  let v149 : BitVec 32 := Scalar.remsi v148 c16_i32_147
  let c1_i32_149 : BitVec 32 := 1#32
  let v150 : BitVec 32 := Scalar.muli v149 c1_i32_149
  let v151 : BitVec 32 := Scalar.addi c0_i32_150 v150
  v151.toNat
def k0_dev10 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_151 : BitVec 32 := 10#32
  let v152 : BitVec 32 := Scalar.addi v2 c10_i32_151
  let c16_i32_152 : BitVec 32 := 16#32
  let v153 : BitVec 32 := Scalar.remsi v152 c16_i32_152
  let c1_i32_154 : BitVec 32 := 1#32
  let v154 : BitVec 32 := Scalar.muli v153 c1_i32_154
  let v155 : BitVec 32 := Scalar.addi c0_i32_155 v154
  v155.toNat
def k0_dev11 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_156 : BitVec 32 := 11#32
  let v156 : BitVec 32 := Scalar.addi v2 c11_i32_156
  let c16_i32_157 : BitVec 32 := 16#32
  let v157 : BitVec 32 := Scalar.remsi v156 c16_i32_157
  let c1_i32_159 : BitVec 32 := 1#32
  let v158 : BitVec 32 := Scalar.muli v157 c1_i32_159
  let v159 : BitVec 32 := Scalar.addi c0_i32_160 v158
  v159.toNat
def k0_dev12 (d0 : Dev nD) : Nat :=
  let c0_i32_165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_161 : BitVec 32 := 12#32
  let v160 : BitVec 32 := Scalar.addi v2 c12_i32_161
  let c16_i32_162 : BitVec 32 := 16#32
  let v161 : BitVec 32 := Scalar.remsi v160 c16_i32_162
  let c1_i32_164 : BitVec 32 := 1#32
  let v162 : BitVec 32 := Scalar.muli v161 c1_i32_164
  let v163 : BitVec 32 := Scalar.addi c0_i32_165 v162
  v163.toNat
def k0_dev13 (d0 : Dev nD) : Nat :=
  let c0_i32_170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_166 : BitVec 32 := 13#32
  let v164 : BitVec 32 := Scalar.addi v2 c13_i32_166
  let c16_i32_167 : BitVec 32 := 16#32
  let v165 : BitVec 32 := Scalar.remsi v164 c16_i32_167
  let c1_i32_169 : BitVec 32 := 1#32
  let v166 : BitVec 32 := Scalar.muli v165 c1_i32_169
  let v167 : BitVec 32 := Scalar.addi c0_i32_170 v166
  v167.toNat
def k0_dev14 (d0 : Dev nD) : Nat :=
  let c0_i32_175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_171 : BitVec 32 := 14#32
  let v168 : BitVec 32 := Scalar.addi v2 c14_i32_171
  let c16_i32_172 : BitVec 32 := 16#32
  let v169 : BitVec 32 := Scalar.remsi v168 c16_i32_172
  let c1_i32_174 : BitVec 32 := 1#32
  let v170 : BitVec 32 := Scalar.muli v169 c1_i32_174
  let v171 : BitVec 32 := Scalar.addi c0_i32_175 v170
  v171.toNat
def k0_dev15 (d0 : Dev nD) : Nat :=
  let c0_i32_180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_176 : BitVec 32 := 15#32
  let v172 : BitVec 32 := Scalar.addi v2 c15_i32_176
  let c16_i32_177 : BitVec 32 := 16#32
  let v173 : BitVec 32 := Scalar.remsi v172 c16_i32_177
  let c1_i32_179 : BitVec 32 := 1#32
  let v174 : BitVec 32 := Scalar.muli v173 c1_i32_179
  let v175 : BitVec 32 := Scalar.addi c0_i32_180 v174
  v175.toNat
def k0_off2 (d0 : Dev nD) (c1_i32_325 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let v361 : BitVec 32 := Scalar.addi v358 c1_i32_325
  let c4_i32_326 : BitVec 32 := 4#32
  let v362 : BitVec 32 := Scalar.remsi v361 c4_i32_326
  let c256_i32_327 : BitVec 32 := 256#32
  let v363 : BitVec 32 := Scalar.muli v362 c256_i32_327
  let v385 : Index := Scalar.indexCast v363
  let c0_334 : Index := 0#32
  ![v385.toNat, 0]
def k0_off3 (d0 : Dev nD) (c1_i32_325 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let v361 : BitVec 32 := Scalar.addi v358 c1_i32_325
  let c4_i32_326 : BitVec 32 := 4#32
  let v362 : BitVec 32 := Scalar.remsi v361 c4_i32_326
  let c256_i32_327 : BitVec 32 := 256#32
  let v363 : BitVec 32 := Scalar.muli v362 c256_i32_327
  let v404 : Index := Scalar.indexCast v363
  let c128 : Index := 128#32
  ![v404.toNat, 128]
def k0_off4 (d0 : Dev nD) (c1_i32_325 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let v361 : BitVec 32 := Scalar.addi v358 c1_i32_325
  let c4_i32_326 : BitVec 32 := 4#32
  let v362 : BitVec 32 := Scalar.remsi v361 c4_i32_326
  let c256_i32_327 : BitVec 32 := 256#32
  let v363 : BitVec 32 := Scalar.muli v362 c256_i32_327
  let v423 : Index := Scalar.indexCast v363
  let c256 : Index := 256#32
  ![v423.toNat, 256]
def k0_off5 (d0 : Dev nD) (c1_i32_325 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let v361 : BitVec 32 := Scalar.addi v358 c1_i32_325
  let c4_i32_326 : BitVec 32 := 4#32
  let v362 : BitVec 32 := Scalar.remsi v361 c4_i32_326
  let c256_i32_327 : BitVec 32 := 256#32
  let v363 : BitVec 32 := Scalar.muli v362 c256_i32_327
  let v442 : Index := Scalar.indexCast v363
  let c384 : Index := 384#32
  ![v442.toNat, 384]
def k0_off6 (d0 : Dev nD) (c1_i32_325 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let v361 : BitVec 32 := Scalar.addi v358 c1_i32_325
  let c4_i32_326 : BitVec 32 := 4#32
  let v362 : BitVec 32 := Scalar.remsi v361 c4_i32_326
  let c256_i32_327 : BitVec 32 := 256#32
  let v363 : BitVec 32 := Scalar.muli v362 c256_i32_327
  let v461 : Index := Scalar.indexCast v363
  let c512 : Index := 512#32
  ![v461.toNat, 512]
def k0_off7 (d0 : Dev nD) (c1_i32_325 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let v361 : BitVec 32 := Scalar.addi v358 c1_i32_325
  let c4_i32_326 : BitVec 32 := 4#32
  let v362 : BitVec 32 := Scalar.remsi v361 c4_i32_326
  let c256_i32_327 : BitVec 32 := 256#32
  let v363 : BitVec 32 := Scalar.muli v362 c256_i32_327
  let v480 : Index := Scalar.indexCast v363
  let c640 : Index := 640#32
  ![v480.toNat, 640]
def k0_off8 (d0 : Dev nD) (c1_i32_325 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let v361 : BitVec 32 := Scalar.addi v358 c1_i32_325
  let c4_i32_326 : BitVec 32 := 4#32
  let v362 : BitVec 32 := Scalar.remsi v361 c4_i32_326
  let c256_i32_327 : BitVec 32 := 256#32
  let v363 : BitVec 32 := Scalar.muli v362 c256_i32_327
  let v499 : Index := Scalar.indexCast v363
  let c768 : Index := 768#32
  ![v499.toNat, 768]
def k0_off9 (d0 : Dev nD) (c1_i32_325 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let v361 : BitVec 32 := Scalar.addi v358 c1_i32_325
  let c4_i32_326 : BitVec 32 := 4#32
  let v362 : BitVec 32 := Scalar.remsi v361 c4_i32_326
  let c256_i32_327 : BitVec 32 := 256#32
  let v363 : BitVec 32 := Scalar.muli v362 c256_i32_327
  let v518 : Index := Scalar.indexCast v363
  let c896 : Index := 896#32
  ![v518.toNat, 896]
def k0_off10 (d0 : Dev nD) (c1_i32_325 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let v361 : BitVec 32 := Scalar.addi v358 c1_i32_325
  let c4_i32_326 : BitVec 32 := 4#32
  let v362 : BitVec 32 := Scalar.remsi v361 c4_i32_326
  let c256_i32_327 : BitVec 32 := 256#32
  let v363 : BitVec 32 := Scalar.muli v362 c256_i32_327
  let v541 : Index := Scalar.indexCast v363
  let c0_420 : Index := 0#32
  ![v541.toNat, 0]
def k0_off11 (d0 : Dev nD) (c0_i32_424 : BitVec 32) (c1_i32_325 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let v361 : BitVec 32 := Scalar.addi v358 c1_i32_325
  let c4_i32_326 : BitVec 32 := 4#32
  let v362 : BitVec 32 := Scalar.remsi v361 c4_i32_326
  let v547 : BitVec 32 := Scalar.addi c0_i32_424 v362
  let v548 : BitVec 32 := Scalar.subi v547 v2
  let c16_i32_425 : BitVec 32 := 16#32
  let v549 : BitVec 32 := Scalar.addi v548 c16_i32_425
  let c16_i32_426 : BitVec 32 := 16#32
  let v550 : BitVec 32 := Scalar.remsi v549 c16_i32_426
  let c1_i32_427 : BitVec 32 := 1#32
  let v551 : BitVec 32 := Scalar.subi v550 c1_i32_427
  ![v551.toNat]
def k0_off12 (d0 : Dev nD) (c0_i32_424 : BitVec 32) (c1_i32_325 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let v361 : BitVec 32 := Scalar.addi v358 c1_i32_325
  let c4_i32_326 : BitVec 32 := 4#32
  let v362 : BitVec 32 := Scalar.remsi v361 c4_i32_326
  let v547 : BitVec 32 := Scalar.addi c0_i32_424 v362
  let v548 : BitVec 32 := Scalar.subi v547 v2
  let c16_i32_425 : BitVec 32 := 16#32
  let v549 : BitVec 32 := Scalar.addi v548 c16_i32_425
  let c16_i32_426 : BitVec 32 := 16#32
  let v550 : BitVec 32 := Scalar.remsi v549 c16_i32_426
  let c1_i32_427 : BitVec 32 := 1#32
  let v551 : BitVec 32 := Scalar.subi v550 c1_i32_427
  let c0_i32_431 : BitVec 32 := 0#32
  let c0_i32_432 : BitVec 32 := 0#32
  ![v551.toNat, 0, 0]
def k0_off13 (d0 : Dev nD) (c1_i32_325 : BitVec 32) (c0_i32_423 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let v361 : BitVec 32 := Scalar.addi v358 c1_i32_325
  let c4_i32_326 : BitVec 32 := 4#32
  let v362 : BitVec 32 := Scalar.remsi v361 c4_i32_326
  let c4_i32_422 : BitVec 32 := 4#32
  let v545 : BitVec 32 := Scalar.muli v362 c4_i32_422
  let v546 : BitVec 32 := Scalar.addi v545 c0_i32_423
  let c64_i32_428 : BitVec 32 := 64#32
  let v552 : BitVec 32 := Scalar.muli v546 c64_i32_428
  let c0_i32_433 : BitVec 32 := 0#32
  ![v552.toNat, 0]
def k0_dev16 (d0 : Dev nD) : Nat :=
  let c0_i32_430 : BitVec 32 := 0#32
  let c0_i32_424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let c1_i32_325 : BitVec 32 := 1#32
  let v361 : BitVec 32 := Scalar.addi v358 c1_i32_325
  let c4_i32_326 : BitVec 32 := 4#32
  let v362 : BitVec 32 := Scalar.remsi v361 c4_i32_326
  let v547 : BitVec 32 := Scalar.addi c0_i32_424 v362
  let c1_i32_429 : BitVec 32 := 1#32
  let v553 : BitVec 32 := Scalar.muli v547 c1_i32_429
  let v554 : BitVec 32 := Scalar.addi c0_i32_430 v553
  v554.toNat
def k0_dev17 (d0 : Dev nD) : Nat :=
  let c0_i32_442 : BitVec 32 := 0#32
  let c4_i32_436 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let c1_i32_325 : BitVec 32 := 1#32
  let v361 : BitVec 32 := Scalar.addi v358 c1_i32_325
  let c4_i32_326 : BitVec 32 := 4#32
  let v362 : BitVec 32 := Scalar.remsi v361 c4_i32_326
  let v564 : BitVec 32 := Scalar.addi c4_i32_436 v362
  let c1_i32_441 : BitVec 32 := 1#32
  let v570 : BitVec 32 := Scalar.muli v564 c1_i32_441
  let v571 : BitVec 32 := Scalar.addi c0_i32_442 v570
  v571.toNat
def k0_dev18 (d0 : Dev nD) : Nat :=
  let c0_i32_454 : BitVec 32 := 0#32
  let c8_i32_448 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let c1_i32_325 : BitVec 32 := 1#32
  let v361 : BitVec 32 := Scalar.addi v358 c1_i32_325
  let c4_i32_326 : BitVec 32 := 4#32
  let v362 : BitVec 32 := Scalar.remsi v361 c4_i32_326
  let v581 : BitVec 32 := Scalar.addi c8_i32_448 v362
  let c1_i32_453 : BitVec 32 := 1#32
  let v587 : BitVec 32 := Scalar.muli v581 c1_i32_453
  let v588 : BitVec 32 := Scalar.addi c0_i32_454 v587
  v588.toNat
def k0_dev19 (d0 : Dev nD) : Nat :=
  let c0_i32_466 : BitVec 32 := 0#32
  let c12_i32_460 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let c1_i32_325 : BitVec 32 := 1#32
  let v361 : BitVec 32 := Scalar.addi v358 c1_i32_325
  let c4_i32_326 : BitVec 32 := 4#32
  let v362 : BitVec 32 := Scalar.remsi v361 c4_i32_326
  let v598 : BitVec 32 := Scalar.addi c12_i32_460 v362
  let c1_i32_465 : BitVec 32 := 1#32
  let v604 : BitVec 32 := Scalar.muli v598 c1_i32_465
  let v605 : BitVec 32 := Scalar.addi c0_i32_466 v604
  v605.toNat
def k0_dev20 (d0 : Dev nD) : Nat :=
  let c0_i32_581 : BitVec 32 := 0#32
  let c0_i32_575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let c2_i32_470 : BitVec 32 := 2#32
  let v613 : BitVec 32 := Scalar.addi v358 c2_i32_470
  let c4_i32_471 : BitVec 32 := 4#32
  let v614 : BitVec 32 := Scalar.remsi v613 c4_i32_471
  let v799 : BitVec 32 := Scalar.addi c0_i32_575 v614
  let c1_i32_580 : BitVec 32 := 1#32
  let v805 : BitVec 32 := Scalar.muli v799 c1_i32_580
  let v806 : BitVec 32 := Scalar.addi c0_i32_581 v805
  v806.toNat
def k0_dev21 (d0 : Dev nD) : Nat :=
  let c0_i32_593 : BitVec 32 := 0#32
  let c4_i32_587 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let c2_i32_470 : BitVec 32 := 2#32
  let v613 : BitVec 32 := Scalar.addi v358 c2_i32_470
  let c4_i32_471 : BitVec 32 := 4#32
  let v614 : BitVec 32 := Scalar.remsi v613 c4_i32_471
  let v816 : BitVec 32 := Scalar.addi c4_i32_587 v614
  let c1_i32_592 : BitVec 32 := 1#32
  let v822 : BitVec 32 := Scalar.muli v816 c1_i32_592
  let v823 : BitVec 32 := Scalar.addi c0_i32_593 v822
  v823.toNat
def k0_dev22 (d0 : Dev nD) : Nat :=
  let c0_i32_605 : BitVec 32 := 0#32
  let c8_i32_599 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let c2_i32_470 : BitVec 32 := 2#32
  let v613 : BitVec 32 := Scalar.addi v358 c2_i32_470
  let c4_i32_471 : BitVec 32 := 4#32
  let v614 : BitVec 32 := Scalar.remsi v613 c4_i32_471
  let v833 : BitVec 32 := Scalar.addi c8_i32_599 v614
  let c1_i32_604 : BitVec 32 := 1#32
  let v839 : BitVec 32 := Scalar.muli v833 c1_i32_604
  let v840 : BitVec 32 := Scalar.addi c0_i32_605 v839
  v840.toNat
def k0_dev23 (d0 : Dev nD) : Nat :=
  let c0_i32_617 : BitVec 32 := 0#32
  let c12_i32_611 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let c2_i32_470 : BitVec 32 := 2#32
  let v613 : BitVec 32 := Scalar.addi v358 c2_i32_470
  let c4_i32_471 : BitVec 32 := 4#32
  let v614 : BitVec 32 := Scalar.remsi v613 c4_i32_471
  let v850 : BitVec 32 := Scalar.addi c12_i32_611 v614
  let c1_i32_616 : BitVec 32 := 1#32
  let v856 : BitVec 32 := Scalar.muli v850 c1_i32_616
  let v857 : BitVec 32 := Scalar.addi c0_i32_617 v856
  v857.toNat
def k0_dev24 (d0 : Dev nD) : Nat :=
  let c0_i32_732 : BitVec 32 := 0#32
  let c0_i32_726 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let c3_i32_621 : BitVec 32 := 3#32
  let v865 : BitVec 32 := Scalar.addi v358 c3_i32_621
  let c4_i32_622 : BitVec 32 := 4#32
  let v866 : BitVec 32 := Scalar.remsi v865 c4_i32_622
  let v1051 : BitVec 32 := Scalar.addi c0_i32_726 v866
  let c1_i32_731 : BitVec 32 := 1#32
  let v1057 : BitVec 32 := Scalar.muli v1051 c1_i32_731
  let v1058 : BitVec 32 := Scalar.addi c0_i32_732 v1057
  v1058.toNat
def k0_dev25 (d0 : Dev nD) : Nat :=
  let c0_i32_744 : BitVec 32 := 0#32
  let c4_i32_738 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let c3_i32_621 : BitVec 32 := 3#32
  let v865 : BitVec 32 := Scalar.addi v358 c3_i32_621
  let c4_i32_622 : BitVec 32 := 4#32
  let v866 : BitVec 32 := Scalar.remsi v865 c4_i32_622
  let v1068 : BitVec 32 := Scalar.addi c4_i32_738 v866
  let c1_i32_743 : BitVec 32 := 1#32
  let v1074 : BitVec 32 := Scalar.muli v1068 c1_i32_743
  let v1075 : BitVec 32 := Scalar.addi c0_i32_744 v1074
  v1075.toNat
def k0_dev26 (d0 : Dev nD) : Nat :=
  let c0_i32_756 : BitVec 32 := 0#32
  let c8_i32_750 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let c3_i32_621 : BitVec 32 := 3#32
  let v865 : BitVec 32 := Scalar.addi v358 c3_i32_621
  let c4_i32_622 : BitVec 32 := 4#32
  let v866 : BitVec 32 := Scalar.remsi v865 c4_i32_622
  let v1085 : BitVec 32 := Scalar.addi c8_i32_750 v866
  let c1_i32_755 : BitVec 32 := 1#32
  let v1091 : BitVec 32 := Scalar.muli v1085 c1_i32_755
  let v1092 : BitVec 32 := Scalar.addi c0_i32_756 v1091
  v1092.toNat
def k0_dev27 (d0 : Dev nD) : Nat :=
  let c0_i32_768 : BitVec 32 := 0#32
  let c12_i32_762 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let c3_i32_621 : BitVec 32 := 3#32
  let v865 : BitVec 32 := Scalar.addi v358 c3_i32_621
  let c4_i32_622 : BitVec 32 := 4#32
  let v866 : BitVec 32 := Scalar.remsi v865 c4_i32_622
  let v1102 : BitVec 32 := Scalar.addi c12_i32_762 v866
  let c1_i32_767 : BitVec 32 := 1#32
  let v1108 : BitVec 32 := Scalar.muli v1102 c1_i32_767
  let v1109 : BitVec 32 := Scalar.addi c0_i32_768 v1108
  v1109.toNat
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let c256_i32_772 : BitVec 32 := 256#32
  let v1117 : BitVec 32 := Scalar.muli v358 c256_i32_772
  let v1139 : Index := Scalar.indexCast v1117
  let c0_779 : Index := 0#32
  ![v1139.toNat, 0]
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let c256_i32_772 : BitVec 32 := 256#32
  let v1117 : BitVec 32 := Scalar.muli v358 c256_i32_772
  let v1158 : Index := Scalar.indexCast v1117
  let c128_790 : Index := 128#32
  ![v1158.toNat, 128]
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let c256_i32_772 : BitVec 32 := 256#32
  let v1117 : BitVec 32 := Scalar.muli v358 c256_i32_772
  let v1177 : Index := Scalar.indexCast v1117
  let c256_801 : Index := 256#32
  ![v1177.toNat, 256]
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let c256_i32_772 : BitVec 32 := 256#32
  let v1117 : BitVec 32 := Scalar.muli v358 c256_i32_772
  let v1196 : Index := Scalar.indexCast v1117
  let c384_812 : Index := 384#32
  ![v1196.toNat, 384]
def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let c256_i32_772 : BitVec 32 := 256#32
  let v1117 : BitVec 32 := Scalar.muli v358 c256_i32_772
  let v1215 : Index := Scalar.indexCast v1117
  let c512_823 : Index := 512#32
  ![v1215.toNat, 512]
def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let c256_i32_772 : BitVec 32 := 256#32
  let v1117 : BitVec 32 := Scalar.muli v358 c256_i32_772
  let v1234 : Index := Scalar.indexCast v1117
  let c640_834 : Index := 640#32
  ![v1234.toNat, 640]
def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let c256_i32_772 : BitVec 32 := 256#32
  let v1117 : BitVec 32 := Scalar.muli v358 c256_i32_772
  let v1253 : Index := Scalar.indexCast v1117
  let c768_845 : Index := 768#32
  ![v1253.toNat, 768]
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let c256_i32_772 : BitVec 32 := 256#32
  let v1117 : BitVec 32 := Scalar.muli v358 c256_i32_772
  let v1272 : Index := Scalar.indexCast v1117
  let c896_856 : Index := 896#32
  ![v1272.toNat, 896]
def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let c256_i32_772 : BitVec 32 := 256#32
  let v1117 : BitVec 32 := Scalar.muli v358 c256_i32_772
  let v1295 : Index := Scalar.indexCast v1117
  let c0_872 : Index := 0#32
  ![v1295.toNat, 0]
def k0_off23 (d0 : Dev nD) (c1_i32_873 : BitVec 32) : Fin 1 → Nat :=
  let c4_i32_876 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_317 : BitVec 32 := 0#32
  let v342 : BitVec 1 := Scalar.cmpi .sgt v2 c0_i32_317
  let v343 : BitVec 32 := Scalar.extui v342
  let c0_i32_318 : BitVec 32 := 0#32
  let v344 : BitVec 1 := Scalar.cmpi .slt v2 c0_i32_318
  let v345 : BitVec 32 := Scalar.extui v344
  let v346 : BitVec 32 := Scalar.subi v343 v345
  let c4_i32_316 : BitVec 32 := 4#32
  let c0_i32_319 : BitVec 32 := 0#32
  let v347 : BitVec 1 := Scalar.cmpi .sgt c4_i32_316 c0_i32_319
  let v348 : BitVec 32 := Scalar.extui v347
  let c0_i32_320 : BitVec 32 := 0#32
  let v349 : BitVec 1 := Scalar.cmpi .slt c4_i32_316 c0_i32_320
  let v350 : BitVec 32 := Scalar.extui v349
  let v351 : BitVec 32 := Scalar.subi v348 v350
  let v352 : BitVec 1 := Scalar.cmpi .ne v346 v351
  let v353 : BitVec 32 := Scalar.remsi v2 c4_i32_316
  let c0_i32_321 : BitVec 32 := 0#32
  let v354 : BitVec 1 := Scalar.cmpi .ne v353 c0_i32_321
  let v355 : BitVec 1 := Scalar.andi v352 v354
  let v341 : BitVec 32 := Scalar.divsi v2 c4_i32_316
  let c1_i32_322 : BitVec 32 := 1#32
  let v356 : BitVec 32 := Scalar.subi v341 c1_i32_322
  let v357 : BitVec 32 := Scalar.select v355 v356 v341
  let v1299 : BitVec 32 := Scalar.addi v357 c1_i32_873
  let c4_i32_874 : BitVec 32 := 4#32
  let v1300 : BitVec 32 := Scalar.remsi v1299 c4_i32_874
  let v1303 : BitVec 32 := Scalar.muli c4_i32_876 v1300
  let c4_i32_323 : BitVec 32 := 4#32
  let v358 : BitVec 32 := Scalar.remsi v2 c4_i32_323
  let v1304 : BitVec 32 := Scalar.addi v1303 v358
  let v1305 : BitVec 32 := Scalar.subi v1304 v2
  let c16_i32_877 : BitVec 32 := 16#32
  let v1306 : BitVec 32 := Scalar.addi v1305 c16_i32_877
  let c16_i32_878 : BitVec 32 := 16#32
  let v1307 : BitVec 32 := Scalar.remsi v1306 c16_i32_878
  let c1_i32_879 : BitVec 32 := 1#32
  let v1308 : BitVec 32 := Scalar.subi v1307 c1_i32_879
  ![v1308.toNat]
def k0_off24 (d0 : Dev nD) (c1_i32_873 : BitVec 32) : Fin 3 → Nat :=
  let c4_i32_876 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_317 : BitVec 32 := 0#32
  let v342 : BitVec 1 := Scalar.cmpi .sgt v2 c0_i32_317
  let v343 : BitVec 32 := Scalar.extui v342
  let c0_i32_318 : BitVec 32 := 0#32
  let v344 : BitVec 1 := Scalar.cmpi .slt v2 c0_i32_318
  let v345 : BitVec 32 := Scalar.extui v344
  let v346 : BitVec 32 := Scalar.subi v343 v345
  let c4_i32_316 : BitVec 32 := 4#32
  let c0_i32_319 : BitVec 32 := 0#32
  let v347 : BitVec 1 := Scalar.cmpi .sgt c4_i32_316 c0_i32_319
  let v348 : BitVec 32 := Scalar.extui v347
  let c0_i32_320 : BitVec 32 := 0#32
  let v349 : BitVec 1 := Scalar.cmpi .slt c4_i32_316 c0_i32_320
  let v350 : BitVec 32 := Scalar.extui v349
  let v351 : BitVec 32 := Scalar.subi v348 v350
  let v352 : BitVec 1 := Scalar.cmpi .ne v346 v351
  let v353 : BitVec 32 := Scalar.remsi v2 c4_i32_316
  let c0_i32_321 : BitVec 32 := 0#32
  let v354 : BitVec 1 := Scalar.cmpi .ne v353 c0_i32_321
  let v355 : BitVec 1 := Scalar.andi v352 v354
  let v341 : BitVec 32 := Scalar.divsi v2 c4_i32_316
  let c1_i32_322 : BitVec 32 := 1#32
  let v356 : BitVec 32 := Scalar.subi v341 c1_i32_322
  let v357 : BitVec 32 := Scalar.select v355 v356 v341
  let v1299 : BitVec 32 := Scalar.addi v357 c1_i32_873
  let c4_i32_874 : BitVec 32 := 4#32
  let v1300 : BitVec 32 := Scalar.remsi v1299 c4_i32_874
  let v1303 : BitVec 32 := Scalar.muli c4_i32_876 v1300
  let c4_i32_323 : BitVec 32 := 4#32
  let v358 : BitVec 32 := Scalar.remsi v2 c4_i32_323
  let v1304 : BitVec 32 := Scalar.addi v1303 v358
  let v1305 : BitVec 32 := Scalar.subi v1304 v2
  let c16_i32_877 : BitVec 32 := 16#32
  let v1306 : BitVec 32 := Scalar.addi v1305 c16_i32_877
  let c16_i32_878 : BitVec 32 := 16#32
  let v1307 : BitVec 32 := Scalar.remsi v1306 c16_i32_878
  let c1_i32_879 : BitVec 32 := 1#32
  let v1308 : BitVec 32 := Scalar.subi v1307 c1_i32_879
  let c0_i32_883 : BitVec 32 := 0#32
  let c0_i32_884 : BitVec 32 := 0#32
  ![v1308.toNat, 0, 0]
def k0_off25 (d0 : Dev nD) (c1_i32_873 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let c4_i32_875 : BitVec 32 := 4#32
  let v1301 : BitVec 32 := Scalar.muli v358 c4_i32_875
  let c0_i32_317 : BitVec 32 := 0#32
  let v342 : BitVec 1 := Scalar.cmpi .sgt v2 c0_i32_317
  let v343 : BitVec 32 := Scalar.extui v342
  let c0_i32_318 : BitVec 32 := 0#32
  let v344 : BitVec 1 := Scalar.cmpi .slt v2 c0_i32_318
  let v345 : BitVec 32 := Scalar.extui v344
  let v346 : BitVec 32 := Scalar.subi v343 v345
  let c4_i32_316 : BitVec 32 := 4#32
  let c0_i32_319 : BitVec 32 := 0#32
  let v347 : BitVec 1 := Scalar.cmpi .sgt c4_i32_316 c0_i32_319
  let v348 : BitVec 32 := Scalar.extui v347
  let c0_i32_320 : BitVec 32 := 0#32
  let v349 : BitVec 1 := Scalar.cmpi .slt c4_i32_316 c0_i32_320
  let v350 : BitVec 32 := Scalar.extui v349
  let v351 : BitVec 32 := Scalar.subi v348 v350
  let v352 : BitVec 1 := Scalar.cmpi .ne v346 v351
  let v353 : BitVec 32 := Scalar.remsi v2 c4_i32_316
  let c0_i32_321 : BitVec 32 := 0#32
  let v354 : BitVec 1 := Scalar.cmpi .ne v353 c0_i32_321
  let v355 : BitVec 1 := Scalar.andi v352 v354
  let v341 : BitVec 32 := Scalar.divsi v2 c4_i32_316
  let c1_i32_322 : BitVec 32 := 1#32
  let v356 : BitVec 32 := Scalar.subi v341 c1_i32_322
  let v357 : BitVec 32 := Scalar.select v355 v356 v341
  let v1299 : BitVec 32 := Scalar.addi v357 c1_i32_873
  let c4_i32_874 : BitVec 32 := 4#32
  let v1300 : BitVec 32 := Scalar.remsi v1299 c4_i32_874
  let v1302 : BitVec 32 := Scalar.addi v1301 v1300
  let c64_i32_880 : BitVec 32 := 64#32
  let v1309 : BitVec 32 := Scalar.muli v1302 c64_i32_880
  let c0_i32_885 : BitVec 32 := 0#32
  ![v1309.toNat, 0]
def k0_dev28 (d0 : Dev nD) : Nat :=
  let c0_i32_882 : BitVec 32 := 0#32
  let c4_i32_876 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_317 : BitVec 32 := 0#32
  let v342 : BitVec 1 := Scalar.cmpi .sgt v2 c0_i32_317
  let v343 : BitVec 32 := Scalar.extui v342
  let c0_i32_318 : BitVec 32 := 0#32
  let v344 : BitVec 1 := Scalar.cmpi .slt v2 c0_i32_318
  let v345 : BitVec 32 := Scalar.extui v344
  let v346 : BitVec 32 := Scalar.subi v343 v345
  let c4_i32_316 : BitVec 32 := 4#32
  let c0_i32_319 : BitVec 32 := 0#32
  let v347 : BitVec 1 := Scalar.cmpi .sgt c4_i32_316 c0_i32_319
  let v348 : BitVec 32 := Scalar.extui v347
  let c0_i32_320 : BitVec 32 := 0#32
  let v349 : BitVec 1 := Scalar.cmpi .slt c4_i32_316 c0_i32_320
  let v350 : BitVec 32 := Scalar.extui v349
  let v351 : BitVec 32 := Scalar.subi v348 v350
  let v352 : BitVec 1 := Scalar.cmpi .ne v346 v351
  let v353 : BitVec 32 := Scalar.remsi v2 c4_i32_316
  let c0_i32_321 : BitVec 32 := 0#32
  let v354 : BitVec 1 := Scalar.cmpi .ne v353 c0_i32_321
  let v355 : BitVec 1 := Scalar.andi v352 v354
  let v341 : BitVec 32 := Scalar.divsi v2 c4_i32_316
  let c1_i32_322 : BitVec 32 := 1#32
  let v356 : BitVec 32 := Scalar.subi v341 c1_i32_322
  let v357 : BitVec 32 := Scalar.select v355 v356 v341
  let c1_i32_873 : BitVec 32 := 1#32
  let v1299 : BitVec 32 := Scalar.addi v357 c1_i32_873
  let c4_i32_874 : BitVec 32 := 4#32
  let v1300 : BitVec 32 := Scalar.remsi v1299 c4_i32_874
  let v1303 : BitVec 32 := Scalar.muli c4_i32_876 v1300
  let c4_i32_323 : BitVec 32 := 4#32
  let v358 : BitVec 32 := Scalar.remsi v2 c4_i32_323
  let v1304 : BitVec 32 := Scalar.addi v1303 v358
  let c1_i32_881 : BitVec 32 := 1#32
  let v1310 : BitVec 32 := Scalar.muli v1304 c1_i32_881
  let v1311 : BitVec 32 := Scalar.addi c0_i32_882 v1310
  v1311.toNat
def k0_dev29 (d0 : Dev nD) : Nat :=
  let c0_i32_895 : BitVec 32 := 0#32
  let c4_i32_889 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_317 : BitVec 32 := 0#32
  let v342 : BitVec 1 := Scalar.cmpi .sgt v2 c0_i32_317
  let v343 : BitVec 32 := Scalar.extui v342
  let c0_i32_318 : BitVec 32 := 0#32
  let v344 : BitVec 1 := Scalar.cmpi .slt v2 c0_i32_318
  let v345 : BitVec 32 := Scalar.extui v344
  let v346 : BitVec 32 := Scalar.subi v343 v345
  let c4_i32_316 : BitVec 32 := 4#32
  let c0_i32_319 : BitVec 32 := 0#32
  let v347 : BitVec 1 := Scalar.cmpi .sgt c4_i32_316 c0_i32_319
  let v348 : BitVec 32 := Scalar.extui v347
  let c0_i32_320 : BitVec 32 := 0#32
  let v349 : BitVec 1 := Scalar.cmpi .slt c4_i32_316 c0_i32_320
  let v350 : BitVec 32 := Scalar.extui v349
  let v351 : BitVec 32 := Scalar.subi v348 v350
  let v352 : BitVec 1 := Scalar.cmpi .ne v346 v351
  let v353 : BitVec 32 := Scalar.remsi v2 c4_i32_316
  let c0_i32_321 : BitVec 32 := 0#32
  let v354 : BitVec 1 := Scalar.cmpi .ne v353 c0_i32_321
  let v355 : BitVec 1 := Scalar.andi v352 v354
  let v341 : BitVec 32 := Scalar.divsi v2 c4_i32_316
  let c1_i32_322 : BitVec 32 := 1#32
  let v356 : BitVec 32 := Scalar.subi v341 c1_i32_322
  let v357 : BitVec 32 := Scalar.select v355 v356 v341
  let c2_i32_886 : BitVec 32 := 2#32
  let v1319 : BitVec 32 := Scalar.addi v357 c2_i32_886
  let c4_i32_887 : BitVec 32 := 4#32
  let v1320 : BitVec 32 := Scalar.remsi v1319 c4_i32_887
  let v1323 : BitVec 32 := Scalar.muli c4_i32_889 v1320
  let c4_i32_323 : BitVec 32 := 4#32
  let v358 : BitVec 32 := Scalar.remsi v2 c4_i32_323
  let v1324 : BitVec 32 := Scalar.addi v1323 v358
  let c1_i32_894 : BitVec 32 := 1#32
  let v1330 : BitVec 32 := Scalar.muli v1324 c1_i32_894
  let v1331 : BitVec 32 := Scalar.addi c0_i32_895 v1330
  v1331.toNat
def k0_dev30 (d0 : Dev nD) : Nat :=
  let c0_i32_908 : BitVec 32 := 0#32
  let c4_i32_902 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_317 : BitVec 32 := 0#32
  let v342 : BitVec 1 := Scalar.cmpi .sgt v2 c0_i32_317
  let v343 : BitVec 32 := Scalar.extui v342
  let c0_i32_318 : BitVec 32 := 0#32
  let v344 : BitVec 1 := Scalar.cmpi .slt v2 c0_i32_318
  let v345 : BitVec 32 := Scalar.extui v344
  let v346 : BitVec 32 := Scalar.subi v343 v345
  let c4_i32_316 : BitVec 32 := 4#32
  let c0_i32_319 : BitVec 32 := 0#32
  let v347 : BitVec 1 := Scalar.cmpi .sgt c4_i32_316 c0_i32_319
  let v348 : BitVec 32 := Scalar.extui v347
  let c0_i32_320 : BitVec 32 := 0#32
  let v349 : BitVec 1 := Scalar.cmpi .slt c4_i32_316 c0_i32_320
  let v350 : BitVec 32 := Scalar.extui v349
  let v351 : BitVec 32 := Scalar.subi v348 v350
  let v352 : BitVec 1 := Scalar.cmpi .ne v346 v351
  let v353 : BitVec 32 := Scalar.remsi v2 c4_i32_316
  let c0_i32_321 : BitVec 32 := 0#32
  let v354 : BitVec 1 := Scalar.cmpi .ne v353 c0_i32_321
  let v355 : BitVec 1 := Scalar.andi v352 v354
  let v341 : BitVec 32 := Scalar.divsi v2 c4_i32_316
  let c1_i32_322 : BitVec 32 := 1#32
  let v356 : BitVec 32 := Scalar.subi v341 c1_i32_322
  let v357 : BitVec 32 := Scalar.select v355 v356 v341
  let c3_i32_899 : BitVec 32 := 3#32
  let v1339 : BitVec 32 := Scalar.addi v357 c3_i32_899
  let c4_i32_900 : BitVec 32 := 4#32
  let v1340 : BitVec 32 := Scalar.remsi v1339 c4_i32_900
  let v1343 : BitVec 32 := Scalar.muli c4_i32_902 v1340
  let c4_i32_323 : BitVec 32 := 4#32
  let v358 : BitVec 32 := Scalar.remsi v2 c4_i32_323
  let v1344 : BitVec 32 := Scalar.addi v1343 v358
  let c1_i32_907 : BitVec 32 := 1#32
  let v1350 : BitVec 32 := Scalar.muli v1344 c1_i32_907
  let v1351 : BitVec 32 := Scalar.addi c0_i32_908 v1350
  v1351.toNat
def k0_off26 (d0 : Dev nD) : Fin 2 → Nat :=
  let c4_i32_324 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let v359 : BitVec 32 := Scalar.muli c4_i32_324 v358
  let c0_i32_317 : BitVec 32 := 0#32
  let v342 : BitVec 1 := Scalar.cmpi .sgt v2 c0_i32_317
  let v343 : BitVec 32 := Scalar.extui v342
  let c0_i32_318 : BitVec 32 := 0#32
  let v344 : BitVec 1 := Scalar.cmpi .slt v2 c0_i32_318
  let v345 : BitVec 32 := Scalar.extui v344
  let v346 : BitVec 32 := Scalar.subi v343 v345
  let c4_i32_316 : BitVec 32 := 4#32
  let c0_i32_319 : BitVec 32 := 0#32
  let v347 : BitVec 1 := Scalar.cmpi .sgt c4_i32_316 c0_i32_319
  let v348 : BitVec 32 := Scalar.extui v347
  let c0_i32_320 : BitVec 32 := 0#32
  let v349 : BitVec 1 := Scalar.cmpi .slt c4_i32_316 c0_i32_320
  let v350 : BitVec 32 := Scalar.extui v349
  let v351 : BitVec 32 := Scalar.subi v348 v350
  let v352 : BitVec 1 := Scalar.cmpi .ne v346 v351
  let v353 : BitVec 32 := Scalar.remsi v2 c4_i32_316
  let c0_i32_321 : BitVec 32 := 0#32
  let v354 : BitVec 1 := Scalar.cmpi .ne v353 c0_i32_321
  let v355 : BitVec 1 := Scalar.andi v352 v354
  let v341 : BitVec 32 := Scalar.divsi v2 c4_i32_316
  let c1_i32_322 : BitVec 32 := 1#32
  let v356 : BitVec 32 := Scalar.subi v341 c1_i32_322
  let v357 : BitVec 32 := Scalar.select v355 v356 v341
  let v360 : BitVec 32 := Scalar.addi v359 v357
  let c64_i32_912 : BitVec 32 := 64#32
  let v1359 : BitVec 32 := Scalar.muli v360 c64_i32_912
  let v1360 : Index := Scalar.indexCast v1359
  let c0_913 : Index := 0#32
  ![v1360.toNat, 0]
def k0_off27 (d0 : Dev nD) : Fin 2 → Nat :=
  let c4_i32_324 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_323 : BitVec 32 := 4#32
  let v358 : BitVec 32 := Scalar.remsi v2 c4_i32_323
  let v359 : BitVec 32 := Scalar.muli c4_i32_324 v358
  let c0_i32_317 : BitVec 32 := 0#32
  let v342 : BitVec 1 := Scalar.cmpi .sgt v2 c0_i32_317
  let v343 : BitVec 32 := Scalar.extui v342
  let c0_i32_318 : BitVec 32 := 0#32
  let v344 : BitVec 1 := Scalar.cmpi .slt v2 c0_i32_318
  let v345 : BitVec 32 := Scalar.extui v344
  let v346 : BitVec 32 := Scalar.subi v343 v345
  let c4_i32_316 : BitVec 32 := 4#32
  let c0_i32_319 : BitVec 32 := 0#32
  let v347 : BitVec 1 := Scalar.cmpi .sgt c4_i32_316 c0_i32_319
  let v348 : BitVec 32 := Scalar.extui v347
  let c0_i32_320 : BitVec 32 := 0#32
  let v349 : BitVec 1 := Scalar.cmpi .slt c4_i32_316 c0_i32_320
  let v350 : BitVec 32 := Scalar.extui v349
  let v351 : BitVec 32 := Scalar.subi v348 v350
  let v352 : BitVec 1 := Scalar.cmpi .ne v346 v351
  let v353 : BitVec 32 := Scalar.remsi v2 c4_i32_316
  let c0_i32_321 : BitVec 32 := 0#32
  let v354 : BitVec 1 := Scalar.cmpi .ne v353 c0_i32_321
  let v355 : BitVec 1 := Scalar.andi v352 v354
  let v341 : BitVec 32 := Scalar.divsi v2 c4_i32_316
  let c1_i32_322 : BitVec 32 := 1#32
  let v356 : BitVec 32 := Scalar.subi v341 c1_i32_322
  let v357 : BitVec 32 := Scalar.select v355 v356 v341
  let v360 : BitVec 32 := Scalar.addi v359 v357
  let c64_i32_914 : BitVec 32 := 64#32
  let v1363 : BitVec 32 := Scalar.muli v360 c64_i32_914
  let c0_i32_922 : BitVec 32 := 0#32
  ![v1363.toNat, 0]
def k0_dev31 (d0 : Dev nD) : Nat :=
  let c0_i32_1089 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1082 : BitVec 32 := 1#32
  let v1547 : BitVec 32 := Scalar.addi v2 c1_i32_1082
  let c16_i32_1083 : BitVec 32 := 16#32
  let v1548 : BitVec 32 := Scalar.remsi v1547 c16_i32_1083
  let c1_i32_1088 : BitVec 32 := 1#32
  let v1551 : BitVec 32 := Scalar.muli v1548 c1_i32_1088
  let v1552 : BitVec 32 := Scalar.addi c0_i32_1089 v1551
  v1552.toNat
def k0_dev32 (d0 : Dev nD) : Nat :=
  let c0_i32_1099 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1092 : BitVec 32 := 2#32
  let v1559 : BitVec 32 := Scalar.addi v2 c2_i32_1092
  let c16_i32_1093 : BitVec 32 := 16#32
  let v1560 : BitVec 32 := Scalar.remsi v1559 c16_i32_1093
  let c1_i32_1098 : BitVec 32 := 1#32
  let v1563 : BitVec 32 := Scalar.muli v1560 c1_i32_1098
  let v1564 : BitVec 32 := Scalar.addi c0_i32_1099 v1563
  v1564.toNat
def k0_dev33 (d0 : Dev nD) : Nat :=
  let c0_i32_1109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1102 : BitVec 32 := 3#32
  let v1571 : BitVec 32 := Scalar.addi v2 c3_i32_1102
  let c16_i32_1103 : BitVec 32 := 16#32
  let v1572 : BitVec 32 := Scalar.remsi v1571 c16_i32_1103
  let c1_i32_1108 : BitVec 32 := 1#32
  let v1575 : BitVec 32 := Scalar.muli v1572 c1_i32_1108
  let v1576 : BitVec 32 := Scalar.addi c0_i32_1109 v1575
  v1576.toNat
def k0_dev34 (d0 : Dev nD) : Nat :=
  let c0_i32_1119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1112 : BitVec 32 := 4#32
  let v1583 : BitVec 32 := Scalar.addi v2 c4_i32_1112
  let c16_i32_1113 : BitVec 32 := 16#32
  let v1584 : BitVec 32 := Scalar.remsi v1583 c16_i32_1113
  let c1_i32_1118 : BitVec 32 := 1#32
  let v1587 : BitVec 32 := Scalar.muli v1584 c1_i32_1118
  let v1588 : BitVec 32 := Scalar.addi c0_i32_1119 v1587
  v1588.toNat
def k0_dev35 (d0 : Dev nD) : Nat :=
  let c0_i32_1129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1122 : BitVec 32 := 5#32
  let v1595 : BitVec 32 := Scalar.addi v2 c5_i32_1122
  let c16_i32_1123 : BitVec 32 := 16#32
  let v1596 : BitVec 32 := Scalar.remsi v1595 c16_i32_1123
  let c1_i32_1128 : BitVec 32 := 1#32
  let v1599 : BitVec 32 := Scalar.muli v1596 c1_i32_1128
  let v1600 : BitVec 32 := Scalar.addi c0_i32_1129 v1599
  v1600.toNat
def k0_dev36 (d0 : Dev nD) : Nat :=
  let c0_i32_1139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1132 : BitVec 32 := 6#32
  let v1607 : BitVec 32 := Scalar.addi v2 c6_i32_1132
  let c16_i32_1133 : BitVec 32 := 16#32
  let v1608 : BitVec 32 := Scalar.remsi v1607 c16_i32_1133
  let c1_i32_1138 : BitVec 32 := 1#32
  let v1611 : BitVec 32 := Scalar.muli v1608 c1_i32_1138
  let v1612 : BitVec 32 := Scalar.addi c0_i32_1139 v1611
  v1612.toNat
def k0_dev37 (d0 : Dev nD) : Nat :=
  let c0_i32_1149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1142 : BitVec 32 := 7#32
  let v1619 : BitVec 32 := Scalar.addi v2 c7_i32_1142
  let c16_i32_1143 : BitVec 32 := 16#32
  let v1620 : BitVec 32 := Scalar.remsi v1619 c16_i32_1143
  let c1_i32_1148 : BitVec 32 := 1#32
  let v1623 : BitVec 32 := Scalar.muli v1620 c1_i32_1148
  let v1624 : BitVec 32 := Scalar.addi c0_i32_1149 v1623
  v1624.toNat
def k0_dev38 (d0 : Dev nD) : Nat :=
  let c0_i32_1159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1152 : BitVec 32 := 8#32
  let v1631 : BitVec 32 := Scalar.addi v2 c8_i32_1152
  let c16_i32_1153 : BitVec 32 := 16#32
  let v1632 : BitVec 32 := Scalar.remsi v1631 c16_i32_1153
  let c1_i32_1158 : BitVec 32 := 1#32
  let v1635 : BitVec 32 := Scalar.muli v1632 c1_i32_1158
  let v1636 : BitVec 32 := Scalar.addi c0_i32_1159 v1635
  v1636.toNat
def k0_dev39 (d0 : Dev nD) : Nat :=
  let c0_i32_1169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1162 : BitVec 32 := 9#32
  let v1643 : BitVec 32 := Scalar.addi v2 c9_i32_1162
  let c16_i32_1163 : BitVec 32 := 16#32
  let v1644 : BitVec 32 := Scalar.remsi v1643 c16_i32_1163
  let c1_i32_1168 : BitVec 32 := 1#32
  let v1647 : BitVec 32 := Scalar.muli v1644 c1_i32_1168
  let v1648 : BitVec 32 := Scalar.addi c0_i32_1169 v1647
  v1648.toNat
def k0_dev40 (d0 : Dev nD) : Nat :=
  let c0_i32_1179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1172 : BitVec 32 := 10#32
  let v1655 : BitVec 32 := Scalar.addi v2 c10_i32_1172
  let c16_i32_1173 : BitVec 32 := 16#32
  let v1656 : BitVec 32 := Scalar.remsi v1655 c16_i32_1173
  let c1_i32_1178 : BitVec 32 := 1#32
  let v1659 : BitVec 32 := Scalar.muli v1656 c1_i32_1178
  let v1660 : BitVec 32 := Scalar.addi c0_i32_1179 v1659
  v1660.toNat
def k0_dev41 (d0 : Dev nD) : Nat :=
  let c0_i32_1189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1182 : BitVec 32 := 11#32
  let v1667 : BitVec 32 := Scalar.addi v2 c11_i32_1182
  let c16_i32_1183 : BitVec 32 := 16#32
  let v1668 : BitVec 32 := Scalar.remsi v1667 c16_i32_1183
  let c1_i32_1188 : BitVec 32 := 1#32
  let v1671 : BitVec 32 := Scalar.muli v1668 c1_i32_1188
  let v1672 : BitVec 32 := Scalar.addi c0_i32_1189 v1671
  v1672.toNat
def k0_dev42 (d0 : Dev nD) : Nat :=
  let c0_i32_1199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1192 : BitVec 32 := 12#32
  let v1679 : BitVec 32 := Scalar.addi v2 c12_i32_1192
  let c16_i32_1193 : BitVec 32 := 16#32
  let v1680 : BitVec 32 := Scalar.remsi v1679 c16_i32_1193
  let c1_i32_1198 : BitVec 32 := 1#32
  let v1683 : BitVec 32 := Scalar.muli v1680 c1_i32_1198
  let v1684 : BitVec 32 := Scalar.addi c0_i32_1199 v1683
  v1684.toNat
def k0_dev43 (d0 : Dev nD) : Nat :=
  let c0_i32_1209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1202 : BitVec 32 := 13#32
  let v1691 : BitVec 32 := Scalar.addi v2 c13_i32_1202
  let c16_i32_1203 : BitVec 32 := 16#32
  let v1692 : BitVec 32 := Scalar.remsi v1691 c16_i32_1203
  let c1_i32_1208 : BitVec 32 := 1#32
  let v1695 : BitVec 32 := Scalar.muli v1692 c1_i32_1208
  let v1696 : BitVec 32 := Scalar.addi c0_i32_1209 v1695
  v1696.toNat
def k0_dev44 (d0 : Dev nD) : Nat :=
  let c0_i32_1219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1212 : BitVec 32 := 14#32
  let v1703 : BitVec 32 := Scalar.addi v2 c14_i32_1212
  let c16_i32_1213 : BitVec 32 := 16#32
  let v1704 : BitVec 32 := Scalar.remsi v1703 c16_i32_1213
  let c1_i32_1218 : BitVec 32 := 1#32
  let v1707 : BitVec 32 := Scalar.muli v1704 c1_i32_1218
  let v1708 : BitVec 32 := Scalar.addi c0_i32_1219 v1707
  v1708.toNat
def k0_dev45 (d0 : Dev nD) : Nat :=
  let c0_i32_1229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1222 : BitVec 32 := 15#32
  let v1715 : BitVec 32 := Scalar.addi v2 c15_i32_1222
  let c16_i32_1223 : BitVec 32 := 16#32
  let v1716 : BitVec 32 := Scalar.remsi v1715 c16_i32_1223
  let c1_i32_1228 : BitVec 32 := 1#32
  let v1719 : BitVec 32 := Scalar.muli v1716 c1_i32_1228
  let v1720 : BitVec 32 := Scalar.addi c0_i32_1229 v1719
  v1720.toNat
def k0_off28 (d0 : Dev nD) (c0_i32_1232 : BitVec 32) : Fin 2 → Nat :=
  let c4_i32_1237 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1727 : BitVec 32 := Scalar.subi v2 c0_i32_1232
  let c1_i32_1233 : BitVec 32 := 1#32
  let v1728 : BitVec 32 := Scalar.subi v1727 c1_i32_1233
  let c16_i32_1234 : BitVec 32 := 16#32
  let v1729 : BitVec 32 := Scalar.addi v1728 c16_i32_1234
  let c16_i32_1235 : BitVec 32 := 16#32
  let v1730 : BitVec 32 := Scalar.remsi v1729 c16_i32_1235
  let c4_i32_1236 : BitVec 32 := 4#32
  let v1731 : BitVec 32 := Scalar.remsi v1730 c4_i32_1236
  let v1732 : BitVec 32 := Scalar.muli c4_i32_1237 v1731
  let c0_i32_1239 : BitVec 32 := 0#32
  let v1734 : BitVec 1 := Scalar.cmpi .sgt v1730 c0_i32_1239
  let v1735 : BitVec 32 := Scalar.extui v1734
  let c0_i32_1240 : BitVec 32 := 0#32
  let v1736 : BitVec 1 := Scalar.cmpi .slt v1730 c0_i32_1240
  let v1737 : BitVec 32 := Scalar.extui v1736
  let v1738 : BitVec 32 := Scalar.subi v1735 v1737
  let c4_i32_1238 : BitVec 32 := 4#32
  let c0_i32_1241 : BitVec 32 := 0#32
  let v1739 : BitVec 1 := Scalar.cmpi .sgt c4_i32_1238 c0_i32_1241
  let v1740 : BitVec 32 := Scalar.extui v1739
  let c0_i32_1242 : BitVec 32 := 0#32
  let v1741 : BitVec 1 := Scalar.cmpi .slt c4_i32_1238 c0_i32_1242
  let v1742 : BitVec 32 := Scalar.extui v1741
  let v1743 : BitVec 32 := Scalar.subi v1740 v1742
  let v1744 : BitVec 1 := Scalar.cmpi .ne v1738 v1743
  let v1745 : BitVec 32 := Scalar.remsi v1730 c4_i32_1238
  let c0_i32_1243 : BitVec 32 := 0#32
  let v1746 : BitVec 1 := Scalar.cmpi .ne v1745 c0_i32_1243
  let v1747 : BitVec 1 := Scalar.andi v1744 v1746
  let v1733 : BitVec 32 := Scalar.divsi v1730 c4_i32_1238
  let c1_i32_1244 : BitVec 32 := 1#32
  let v1748 : BitVec 32 := Scalar.subi v1733 c1_i32_1244
  let v1749 : BitVec 32 := Scalar.select v1747 v1748 v1733
  let v1750 : BitVec 32 := Scalar.addi v1732 v1749
  let c64_i32_1246 : BitVec 32 := 64#32
  let v1752 : BitVec 32 := Scalar.muli v1750 c64_i32_1246
  let c0_i32_1251 : BitVec 32 := 0#32
  ![v1752.toNat, 0]
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x16384 : Shape := ⟨2, ![1024, 16384]⟩
abbrev S1x1024x128x128 : Shape := ⟨4, ![1, 1024, 128, 128]⟩
abbrev S16384x1024 : Shape := ⟨2, ![16384, 1024]⟩
abbrev S1x1024x16384 : Shape := ⟨3, ![1, 1024, 16384]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S1x128x1024x1024 : Shape := ⟨4, ![1, 128, 1024, 1024]⟩
abbrev S1x1x1024x1024 : Shape := ⟨4, ![1, 1, 1024, 1024]⟩
abbrev S1x128x1024 : Shape := ⟨3, ![1, 128, 1024]⟩
abbrev S1x128x1024x1 : Shape := ⟨4, ![1, 128, 1024, 1]⟩
abbrev S1x1x1024x1 : Shape := ⟨4, ![1, 1, 1024, 1]⟩
abbrev S1x128x128x1024 : Shape := ⟨4, ![1, 128, 128, 1024]⟩

abbrev nBuf : Space → Nat
  | .hbm => 125
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x16384, .f32⟩
  | .hbm, ⟨2, _⟩ => ⟨S1x1024x128x128, .f32⟩
  | .hbm, ⟨3, _⟩ => ⟨S1x1024x128x128, .f32⟩
  | .hbm, ⟨4, _⟩ => ⟨S16384x1024, .f32⟩
  | .hbm, ⟨5, _⟩ => ⟨S1x1024x16384, .f32⟩
  | .hbm, ⟨6, _⟩ => ⟨S1x1024x128x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1x1024, .i32⟩
  | .hbm, ⟨47, _⟩ => ⟨S1024x1024, .i32⟩
  | .hbm, ⟨48, _⟩ => ⟨S1024x1024, .i32⟩
  | .hbm, ⟨49, _⟩ => ⟨S1024x1024, .i1⟩
  | .hbm, ⟨50, _⟩ => ⟨S_, .i32⟩
  | .hbm, ⟨51, _⟩ => ⟨S1x1024, .i32⟩
  | .hbm, ⟨52, _⟩ => ⟨S1x1024, .i1⟩
  | .hbm, ⟨53, _⟩ => ⟨S1024x1024, .i1⟩
  | .hbm, ⟨54, _⟩ => ⟨S1024x1024, .i1⟩
  | .hbm, ⟨55, _⟩ => ⟨S1024x1024, .i32⟩
  | .hbm, ⟨56, _⟩ => ⟨S1024x1024, .i32⟩
  | .hbm, ⟨57, _⟩ => ⟨S1024x1024, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S1024x1024, .i32⟩
  | .hbm, ⟨65, _⟩ => ⟨S1024x1024, .i32⟩
  | .hbm, ⟨66, _⟩ => ⟨S_, .i32⟩
  | .hbm, ⟨67, _⟩ => ⟨S1024x1024, .i32⟩
  | .hbm, ⟨68, _⟩ => ⟨S1024x1024, .i1⟩
  | .hbm, ⟨69, _⟩ => ⟨S_, .i32⟩
  | .hbm, ⟨70, _⟩ => ⟨S1024x1024, .i32⟩
  | .hbm, ⟨71, _⟩ => ⟨S1024x1024, .i1⟩
  | .hbm, ⟨72, _⟩ => ⟨S_, .i32⟩
  | .hbm, ⟨73, _⟩ => ⟨S_, .i1⟩
  | .hbm, ⟨74, _⟩ => ⟨S1024x1024, .i1⟩
  | .hbm, ⟨75, _⟩ => ⟨S1024x1024, .i1⟩
  | .hbm, ⟨76, _⟩ => ⟨S1024x1024, .i1⟩
  | .hbm, ⟨77, _⟩ => ⟨S1024x1024, .i32⟩
  | .hbm, ⟨78, _⟩ => ⟨S1024x1024, .i32⟩
  | .hbm, ⟨79, _⟩ => ⟨S1024x1024, .i32⟩
  | .hbm, ⟨80, _⟩ => ⟨S_, .i32⟩
  | .hbm, ⟨81, _⟩ => ⟨S1024x1024, .i32⟩
  | .hbm, ⟨82, _⟩ => ⟨S1024x1024, .i1⟩
  | .hbm, ⟨83, _⟩ => ⟨S1024x1024, .i1⟩
  | .hbm, ⟨84, _⟩ => ⟨S1x128x1024x1024, .f32⟩
  | .hbm, ⟨85, _⟩ => ⟨S_, .f32⟩
  | .hbm, ⟨86, _⟩ => ⟨S1x128x1024x1024, .f32⟩
  | .hbm, ⟨87, _⟩ => ⟨S1x128x1024x1024, .f32⟩
  | .hbm, ⟨88, _⟩ => ⟨S1x1x1024x1024, .i1⟩
  | .hbm, ⟨89, _⟩ => ⟨S_, .f32⟩
  | .hbm, ⟨90, _⟩ => ⟨S_, .f32⟩
  | .hbm, ⟨91, _⟩ => ⟨S1x128x1024x1024, .i1⟩
  | .hbm, ⟨92, _⟩ => ⟨S1x128x1024x1024, .f32⟩
  | .hbm, ⟨93, _⟩ => ⟨S1x128x1024x1024, .f32⟩
  | .hbm, ⟨94, _⟩ => ⟨S_, .f32⟩
  | .hbm, ⟨95, _⟩ => ⟨S1x128x1024, .f32⟩
  | .hbm, ⟨96, _⟩ => ⟨S1x128x1024x1, .f32⟩
  | .hbm, ⟨97, _⟩ => ⟨S1x128x1024x1024, .f32⟩
  | .hbm, ⟨98, _⟩ => ⟨S1x128x1024x1024, .f32⟩
  | .hbm, ⟨99, _⟩ => ⟨S1x128x1024x1024, .f32⟩
  | .hbm, ⟨100, _⟩ => ⟨S_, .i1⟩
  | .hbm, ⟨101, _⟩ => ⟨S1024, .i1⟩
  | .hbm, ⟨102, _⟩ => ⟨S1x1x1024x1, .i1⟩
  | .hbm, ⟨103, _⟩ => ⟨S_, .f32⟩
  | .hbm, ⟨104, _⟩ => ⟨S1x128x1024, .f32⟩
  | .hbm, ⟨105, _⟩ => ⟨S1x128x1024x1, .f32⟩
  | .hbm, ⟨106, _⟩ => ⟨S_, .f32⟩
  | .hbm, ⟨107, _⟩ => ⟨S_, .f32⟩
  | .hbm, ⟨108, _⟩ => ⟨S1x128x1024x1, .i1⟩
  | .hbm, ⟨109, _⟩ => ⟨S1x128x1024x1, .f32⟩
  | .hbm, ⟨110, _⟩ => ⟨S1x128x1024x1, .f32⟩
  | .hbm, ⟨111, _⟩ => ⟨S1x128x1024x1024, .f32⟩
  | .hbm, ⟨112, _⟩ => ⟨S1x128x1024x1024, .f32⟩
  | .hbm, ⟨113, _⟩ => ⟨S1x1x1024x1, .i1⟩
  | .hbm, ⟨114, _⟩ => ⟨S_, .f32⟩
  | .hbm, ⟨115, _⟩ => ⟨S_, .f32⟩
  | .hbm, ⟨116, _⟩ => ⟨S1x128x1024x1024, .i1⟩
  | .hbm, ⟨117, _⟩ => ⟨S1x128x1024x1024, .f32⟩
  | .hbm, ⟨118, _⟩ => ⟨S1x128x1024x1024, .f32⟩
  | .hbm, ⟨119, _⟩ => ⟨S1x128x128x1024, .f32⟩
  | .hbm, ⟨120, _⟩ => ⟨S1x1024x128x128, .f32⟩
  | .hbm, ⟨121, _⟩ => ⟨S1x1024x16384, .f32⟩
  | .hbm, ⟨122, _⟩ => ⟨S1x1024x1024, .f32⟩
  | .hbm, ⟨123, _⟩ => ⟨S1024x1024, .f32⟩
  | .hbm, ⟨124, _⟩ => ⟨S1024x1024, .bf16⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩

abbrev nD : Nat := 1
abbrev τ : Topo := Topo.v7x

variable {F : FTy → Type} [FloatOps F]
-- ==== Proof.KernelIdeal.Prog.lean ====
/-
  The kernel's body, written again as a short program: loops over heads, slabs, chunks and peers in place of the
  printed text's straight line of operations, with the printed offsets and devices looked up in small tables. That
  the two are the same program is checked by unfolding (`body_eq`).
-/
module

public import proofs.«01_k».proof.Proof.Gen.KernelIdeal.Frame
public import proofs.«01_k».proof.Proof.Gen.KernelIdeal.Skeleton

@[expose] public section

set_option maxRecDepth 65536

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]

/-! ## Buffers -/

abbrev mX : Memref sig .tc .vmem S1x1024x1024 .f32 := Memref.whole cc0_stg0_0
abbrev mWq : Memref sig .tc .vmem S1024x1024 .f32 := Memref.whole cc0_stg1_0
abbrev mK : Memref sig .tc .hbm S1x1024x128x128 .f32 := Memref.whole main_arg2
abbrev mV : Memref sig .tc .hbm S1x1024x128x128 .f32 := Memref.whole main_arg3
abbrev mWo : Memref sig .tc .vmem S1024x1024 .f32 := Memref.whole cc0_stg2_0
abbrev mOut : Memref sig .tc .vmem S1024x1024 .bf16 := Memref.whole cc0_stg3_0
abbrev mKf : Memref sig .tc .vmem S1024x1024 .f32 := Memref.whole cc0_scratch0
abbrev mVf : Memref sig .tc .vmem S1024x1024 .f32 := Memref.whole cc0_scratch1
abbrev mKb : Memref sig .tc .vmem S1024x1024 .bf16 := Memref.whole cc0_scratch2
abbrev mVb : Memref sig .tc .vmem S1024x1024 .bf16 := Memref.whole cc0_scratch3
abbrev mQ : Memref sig .tc .vmem S1024x1024 .bf16 := Memref.whole cc0_scratch4
abbrev mXb : Memref sig .tc .vmem S1024x1024 .bf16 := Memref.whole cc0_scratch5
abbrev mWqb : Memref sig .tc .vmem S1024x1024 .bf16 := Memref.whole cc0_scratch6
abbrev mWob : Memref sig .tc .vmem S1024x1024 .bf16 := Memref.whole cc0_scratch7
abbrev mCtx : Memref sig .tc .vmem S256x1024 .bf16 := Memref.whole cc0_scratch8
abbrev mPart : Memref sig .tc .vmem S1024x1024 .bf16 := Memref.whole cc0_scratch9
abbrev mRs : Memref sig .tc .vmem S15x64x1024 .bf16 := Memref.whole cc0_scratch10

variable (F) in
/-- Programs of a core: what the body's pieces are. -/
abbrev PG (α : Type) := Prog (TpuEff nD τ sig (Elt F) Λ₀ .tc) α

/-- Run `f` on each element of a list, in order. -/
def forL {α : Type} (l : List α) (f : α → PG F PUnit) : PG F PUnit :=
  match l with
  | [] => pure ⟨⟩
  | a :: r => f a >>= fun _ => forL r f

/-! ## Side facts for a column block and a slot -/

/-- A head's columns lie within the gathered array. -/
theorem inbC (h : Fin 8) : ∀ a, (![0, 128 * h.val] : Fin 2 → Nat) a + S1024x128.size a ≤ S1024x1024.size a := by
  revert h; decide
/-- A head's columns lie within a slab's attention. -/
theorem inbX (h : Fin 8) : ∀ a, (![0, 128 * h.val] : Fin 2 → Nat) a + S256x128.size a ≤ S256x1024.size a := by
  revert h; decide
/-- The number of a load's semaphore is within its array. -/
theorem inbSem16 (h : Fin 16) : ∀ a, (![h.val] : Fin 1 → Nat) a + S1.size a ≤ S16.size a := by
  revert h; decide
/-- The number of a peer's semaphore is within its array. -/
theorem inbSem15 (h : Fin 15) : ∀ a, (![h.val] : Fin 1 → Nat) a + S1.size a ≤ S15.size a := by
  revert h; decide
/-- A receive slot lies within the receive buffer. -/
theorem inbSlot (h : Fin 15) : ∀ a, (![h.val, 0, 0] : Fin 3 → Nat) a + S1x64x1024.size a ≤ S15x64x1024.size a := by
  revert h; decide

/-- A head's columns of a slab's attention are packed rows. -/
theorem packX (h : Fin 8) : (Rect.unit (s := S256x1024) ![0, 128 * h.val] S256x128.size (inbX h)).PackedRows (EltTy.packing .bf16) := by
  fin_cases h
  · exact packedbf16_S256x1024_S256x128_0_0
  · exact packedbf16_S256x1024_S256x128_0_128
  · exact packedbf16_S256x1024_S256x128_0_256
  · exact packedbf16_S256x1024_S256x128_0_384
  · exact packedbf16_S256x1024_S256x128_0_512
  · exact packedbf16_S256x1024_S256x128_0_640
  · exact packedbf16_S256x1024_S256x128_0_768
  · exact packedbf16_S256x1024_S256x128_0_896

/-- A receive slot is made of whole words. -/
theorem wordSlot (h : Fin 15) : (Rect.unit (s := S15x64x1024) ![h.val, 0, 0] S1x64x1024.size (inbSlot h)).WholeWords (EltTy.packing .bf16) := by
  fin_cases h
  · exact wordsbf16_S15x64x1024_S1x64x1024_0_0_0
  · exact wordsbf16_S15x64x1024_S1x64x1024_1_0_0
  · exact wordsbf16_S15x64x1024_S1x64x1024_2_0_0
  · exact wordsbf16_S15x64x1024_S1x64x1024_3_0_0
  · exact wordsbf16_S15x64x1024_S1x64x1024_4_0_0
  · exact wordsbf16_S15x64x1024_S1x64x1024_5_0_0
  · exact wordsbf16_S15x64x1024_S1x64x1024_6_0_0
  · exact wordsbf16_S15x64x1024_S1x64x1024_7_0_0
  · exact wordsbf16_S15x64x1024_S1x64x1024_8_0_0
  · exact wordsbf16_S15x64x1024_S1x64x1024_9_0_0
  · exact wordsbf16_S15x64x1024_S1x64x1024_10_0_0
  · exact wordsbf16_S15x64x1024_S1x64x1024_11_0_0
  · exact wordsbf16_S15x64x1024_S1x64x1024_12_0_0
  · exact wordsbf16_S15x64x1024_S1x64x1024_13_0_0
  · exact wordsbf16_S15x64x1024_S1x64x1024_14_0_0

/-! ## Pieces of buffers and semaphores -/

/-- One semaphore of an array of sixteen. -/
abbrev sem16 (A : DmaSems sig S16) (o : Fin 1 → Nat) (h : ∀ a, o a + S1.size a ≤ S16.size a) : DmaSem sig :=
  ((A.slice (Rect.unit (s := S16) o S1.size h)).squeeze S_ squeezes_S1_S_).sem
/-- One semaphore of an array of fifteen. -/
abbrev sem15 (A : DmaSems sig S15) (o : Fin 1 → Nat) (h : ∀ a, o a + S1.size a ≤ S15.size a) : DmaSem sig :=
  ((A.slice (Rect.unit (s := S15) o S1.size h)).squeeze S_ squeezes_S1_S_).sem
/-- A slot of the receive buffer. -/
abbrev slotM (o : Fin 3 → Nat) (h : ∀ a, o a + S1x64x1024.size a ≤ S15x64x1024.size a) : Memref sig .tc .vmem S64x1024 .bf16 :=
  (mRs.slice (Rect.unit (s := S15x64x1024) o S1x64x1024.size h) (fun _ => rfl)).squeeze S64x1024 squeezes_S1x64x1024_S64x1024
/-- Sixty-four rows of a square buffer. -/
abbrev rowsM (m : Memref sig .tc .vmem S1024x1024 .bf16) (o : Fin 2 → Nat) (h : ∀ a, o a + S64x1024.size a ≤ S1024x1024.size a) :
    Memref sig .tc .vmem S64x1024 .bf16 :=
  m.slice (Rect.unit (s := S1024x1024) o S64x1024.size h) (fun _ => rfl)
/-- A column block of a square buffer: one head's. -/
abbrev colM (m : Memref sig .tc .vmem S1024x1024 .f32) (h : Fin 8) : Memref sig .tc .vmem S1024x128 .f32 :=
  m.slice (Rect.unit (s := S1024x1024) ![0, 128 * h.val] S1024x128.size (inbC h)) (fun _ => rfl)
/-- One head of a device's own eight in the keys (or values). -/
abbrev headM (m : Memref sig .tc .hbm S1x1024x128x128 .f32) (c : Dev nD) (h : Fin 8) : Memref sig .tc .hbm S1024x128 .f32 :=
  (m.slice (Rect.unit (s := S1x1024x128x128) (k0_off1 c (BitVec.ofNat 32 h.val)) S1x1024x1x128.size (k0_off1_inb c h)) (fun _ => rfl)).squeeze
    S1024x128 squeezes_S1x1024x1x128_S1024x128

/-- The runtime's barrier semaphore. -/
abbrev barS : Sem sig := (SemArray.scalar (sig.barrier 0 rfl) : Sems sig S_).sem

/-! ## Loads of the keys and values -/

/-- The transfer of one head starts. -/
def ldStart (m : Memref sig .tc .hbm S1x1024x128x128 .f32) (d : Memref sig .tc .vmem S1024x1024 .f32) (c : Dev nD) (k : Fin 16) (h : Fin 8) :
    PG F PUnit :=
  Prog.lift (.enqueueDma (headM m c h) (.here (colM d h)) (.dma (sem16 cc0_scratch11 ![k.val] (inbSem16 k)))
    ((View.wordExact_bits rfl).reshape _ _) (View.wordExact_bits rfl) ⟨Or.inl rfl, trivial⟩)

/-- The wait for it. -/
def ldWait (m : Memref sig .tc .hbm S1x1024x128x128 .f32) (d : Memref sig .tc .vmem S1024x1024 .f32) (c : Dev nD) (k : Fin 16) (h : Fin 8) :
    PG F PUnit :=
  Prog.lift (.waitDma2 (sem16 cc0_scratch11 ![k.val] (inbSem16 k)) (headM m c h) (colM d h)
    ((View.wordExact_bits rfl).reshape _ _) (View.wordExact_bits rfl))

/-- The semaphore of a head's keys, and of its values. -/
abbrev semK (h : Fin 8) : Fin 16 := ⟨h.val, by omega⟩
abbrev semV (h : Fin 8) : Fin 16 := ⟨8 + h.val, by omega⟩

abbrev heads : List (Fin 8) := [0, 1, 2, 3, 4, 5, 6, 7]
abbrev peers : List (Fin 15) := [0, 1, 2, 3, 4, 5, 6, 7, 8, 9, 10, 11, 12, 13, 14]

def loads (c : Dev nD) : PG F PUnit :=
  forL heads fun h => ldStart mK mKf c (semK h) h >>= fun _ => ldStart mV mVf c (semV h) h
def loadWaits (c : Dev nD) : PG F PUnit :=
  forL heads fun h => ldWait mK mKf c (semK h) h >>= fun _ => ldWait mV mVf c (semV h) h

/-! ## The barrier -/

/-- The device the signal number `j` goes to. -/
def sigDev (c : Dev nD) (j : Fin 15) : Dev nD :=
  match j with
  | 0 => ⟨k0_dev1 c, k0_dev1_lt c⟩
  | 1 => ⟨k0_dev2 c, k0_dev2_lt c⟩
  | 2 => ⟨k0_dev3 c, k0_dev3_lt c⟩
  | 3 => ⟨k0_dev4 c, k0_dev4_lt c⟩
  | 4 => ⟨k0_dev5 c, k0_dev5_lt c⟩
  | 5 => ⟨k0_dev6 c, k0_dev6_lt c⟩
  | 6 => ⟨k0_dev7 c, k0_dev7_lt c⟩
  | 7 => ⟨k0_dev8 c, k0_dev8_lt c⟩
  | 8 => ⟨k0_dev9 c, k0_dev9_lt c⟩
  | 9 => ⟨k0_dev10 c, k0_dev10_lt c⟩
  | 10 => ⟨k0_dev11 c, k0_dev11_lt c⟩
  | 11 => ⟨k0_dev12 c, k0_dev12_lt c⟩
  | 12 => ⟨k0_dev13 c, k0_dev13_lt c⟩
  | 13 => ⟨k0_dev14 c, k0_dev14_lt c⟩
  | 14 => ⟨k0_dev15 c, k0_dev15_lt c⟩

def signal (c : Dev nD) (j : Fin 15) : PG F PUnit := semSignalWord (sigDev c j) barS 1#32
def signals (c : Dev nD) : PG F PUnit := forL peers (signal c)

/-! ## The casts and the projection of the queries -/

def castX : PG F PUnit := do
  let x ← Prog.lift (.load mX (Rect.unit (s := S1x1024x1024) ![0, 0, 0] S1x1024x1024.size inb_S1x1024x1024_S1x1024x1024_0_0_0).toLoadRect (View.loadsAt_vmem h_S1x1024x1024))
  let _ ← Prog.lift (.load mXb (Rect.unit (s := S1024x1024) ![0, 0] S1024x1024.size inb_S1024x1024_S1024x1024_0_0).toLoadRect (View.loadsAt_vmem h_S1024x1024))
  Prog.lift (.store mXb (Rect.unit (s := S1024x1024) ![0, 0] S1024x1024.size inb_S1024x1024_S1024x1024_0_0) (k0_pay2 (k0_pay1 x)) Finset.univ (View.stores_vmem h_S1024x1024 ((Memref.isWhole_whole _).storeExact_slice rfl _ packedbf16_S1024x1024_S1024x1024_0_0) (fun _ => rfl)) (.inl rfl))

/-- A square buffer of singles cast into one of halves. -/
def castSq (a : Memref sig .tc .vmem S1024x1024 .f32) (b : Memref sig .tc .vmem S1024x1024 .bf16) (hb : b.IsWhole)
    (f : Vec F S1024x1024 .f32 → FVec F S1024x1024 .bf16) : PG F PUnit := do
  let x ← Prog.lift (.load a (Rect.unit (s := S1024x1024) ![0, 0] S1024x1024.size inb_S1024x1024_S1024x1024_0_0).toLoadRect (View.loadsAt_vmem h_S1024x1024))
  let _ ← Prog.lift (.load b (Rect.unit (s := S1024x1024) ![0, 0] S1024x1024.size inb_S1024x1024_S1024x1024_0_0).toLoadRect (View.loadsAt_vmem h_S1024x1024))
  Prog.lift (.store b (Rect.unit (s := S1024x1024) ![0, 0] S1024x1024.size inb_S1024x1024_S1024x1024_0_0) (f x) Finset.univ (View.stores_vmem h_S1024x1024 (hb.storeExact_slice rfl _ packedbf16_S1024x1024_S1024x1024_0_0) (fun _ => rfl)) (.inl rfl))

def project : PG F PUnit := do
  let x ← Prog.lift (.load mXb (Rect.unit (s := S1024x1024) ![0, 0] S1024x1024.size inb_S1024x1024_S1024x1024_0_0).toLoadRect (View.loadsAt_vmem h_S1024x1024))
  let w ← Prog.lift (.load mWqb (Rect.unit (s := S1024x1024) ![0, 0] S1024x1024.size inb_S1024x1024_S1024x1024_0_0).toLoadRect (View.loadsAt_vmem h_S1024x1024))
  let _ ← Prog.lift (.load mQ (Rect.unit (s := S1024x1024) ![0, 0] S1024x1024.size inb_S1024x1024_S1024x1024_0_0).toLoadRect (View.loadsAt_vmem h_S1024x1024))
  Prog.lift (.store mQ (Rect.unit (s := S1024x1024) ![0, 0] S1024x1024.size inb_S1024x1024_S1024x1024_0_0) (k0_pay4 x w) Finset.univ (View.stores_vmem h_S1024x1024 ((Memref.isWhole_whole _).storeExact_slice rfl _ packedbf16_S1024x1024_S1024x1024_0_0) (fun _ => rfl)) (.inl rfl))

/-! ## A slab of the queries -/

/-- Where head `h` of a slab's queries starts: slabs 0, 1, 2 are those after the device's own, slab 3 its own. -/
def qoff (c : Dev nD) (u : Fin 4) (h : Fin 8) : Fin 2 → Nat :=
  match u with
  | 0 => qoffT c 0 h
  | 1 => qoffT c 1 h
  | 2 => qoffT c 2 h
  | 3 => match h with
    | 0 => k0_off14 c | 1 => k0_off15 c | 2 => k0_off16 c | 3 => k0_off17 c
    | 4 => k0_off18 c | 5 => k0_off19 c | 6 => k0_off20 c | 7 => k0_off21 c
where
  qoffT (c : Dev nD) (t : Fin 3) (h : Fin 8) : Fin 2 → Nat :=
    match h with
    | 0 => k0_off2 c (BitVec.ofNat 32 (1 + t.val))
    | 1 => k0_off3 c (BitVec.ofNat 32 (1 + t.val))
    | 2 => k0_off4 c (BitVec.ofNat 32 (1 + t.val))
    | 3 => k0_off5 c (BitVec.ofNat 32 (1 + t.val))
    | 4 => k0_off6 c (BitVec.ofNat 32 (1 + t.val))
    | 5 => k0_off7 c (BitVec.ofNat 32 (1 + t.val))
    | 6 => k0_off8 c (BitVec.ofNat 32 (1 + t.val))
    | 7 => k0_off9 c (BitVec.ofNat 32 (1 + t.val))

/-- A head's queries of a slab start at the slab's first row and the head's first column. -/
theorem qoff_eq (c : Dev nD) (u : Fin 4) (h : Fin 8) :
    qoff c u h = ![256 * ((c.val % 4 + u.val + 1) % 4), 128 * h.val] := by
  have e3 : 256 * ((c.val % 4 + 3 + 1) % 4) = 256 * (c.val % 4) := by omega
  have T (t : Fin 3) : qoff.qoffT c t h = ![256 * ((c.val % 4 + t.val + 1) % 4), 128 * h.val] := by
    fin_cases h
    · exact k0_off2_eq c t
    · exact k0_off3_eq c t
    · exact k0_off4_eq c t
    · exact k0_off5_eq c t
    · exact k0_off6_eq c t
    · exact k0_off7_eq c t
    · exact k0_off8_eq c t
    · exact k0_off9_eq c t
  match u with
  | 0 => exact T 0
  | 1 => exact T 1
  | 2 => exact T 2
  | 3 =>
    show qoff c 3 h = ![256 * ((c.val % 4 + 3 + 1) % 4), 128 * h.val]
    rw [e3]
    fin_cases h
    · exact k0_off14_eq c
    · exact k0_off15_eq c
    · exact k0_off16_eq c
    · exact k0_off17_eq c
    · exact k0_off18_eq c
    · exact k0_off19_eq c
    · exact k0_off20_eq c
    · exact k0_off21_eq c

/-- They lie within the queries. -/
theorem qoff_inb (c : Dev nD) (u : Fin 4) (h : Fin 8) : ∀ a, qoff c u h a + S256x128.size a ≤ S1024x1024.size a := by
  rw [qoff_eq]
  intro a
  have := Nat.mod_lt (c.val % 4 + u.val + 1) (by decide : 0 < 4)
  fin_cases a
  · show 256 * _ + 256 ≤ 1024; omega
  · show 128 * h.val + 128 ≤ 1024; omega

/-- Where the slab's rows of the partial result start. -/
def poff (c : Dev nD) (u : Fin 4) : Fin 2 → Nat :=
  match u with
  | 0 => k0_off10 c (BitVec.ofNat 32 (1 + (0 : Fin 3).val))
  | 1 => k0_off10 c (BitVec.ofNat 32 (1 + (1 : Fin 3).val))
  | 2 => k0_off10 c (BitVec.ofNat 32 (1 + (2 : Fin 3).val))
  | 3 => k0_off22 c

/-- A slab's rows start at 256 times the slab's number. -/
theorem poff_eq (c : Dev nD) (u : Fin 4) : poff c u = ![256 * ((c.val % 4 + u.val + 1) % 4), 0] := by
  have e3 : 256 * ((c.val % 4 + 3 + 1) % 4) = 256 * (c.val % 4) := by omega
  match u with
  | 0 => exact k0_off10_eq c 0
  | 1 => exact k0_off10_eq c 1
  | 2 => exact k0_off10_eq c 2
  | 3 => show k0_off22 c = ![256 * ((c.val % 4 + 3 + 1) % 4), 0]; rw [e3]; exact k0_off22_eq c

/-- They lie within the partial result. -/
theorem poff_inb (c : Dev nD) (u : Fin 4) : ∀ a, poff c u a + S256x1024.size a ≤ S1024x1024.size a := by
  match u with
  | 0 => exact k0_off10_inb c 0
  | 1 => exact k0_off10_inb c 1
  | 2 => exact k0_off10_inb c 2
  | 3 => exact k0_off22_inb c

/-- They are packed rows. -/
theorem poff_packed (c : Dev nD) (u : Fin 4) :
    (Rect.unit (s := S1024x1024) (poff c u) S256x1024.size (poff_inb c u)).PackedRows (EltTy.packing .bf16) := by
  match u with
  | 0 => exact k0_off10_packedbf16 c 0
  | 1 => exact k0_off10_packedbf16 c 1
  | 2 => exact k0_off10_packedbf16 c 2
  | 3 => exact k0_off22_packedbf16 c

/-- The blocks of the keys: each key's position divided by 64. -/
def kBlk : IVec S1x1024 32 :=
  k0_pay12 (iota .tc S1x1024 32 [1] iota_S1x1024_d1_w32) 64#32 k0_pay10 k0_pay11 0#32

/-- A device's place among its four. -/
def posW (c : Dev nD) : BitVec 32 := Scalar.remsi (Scalar.remsi (Scalar.divsi (Dev.word c) 1#32) 16#32) 4#32

/-- The slab's number, as the word the mask is made from. -/
def slabW (c : Dev nD) (u : Fin 4) : BitVec 32 :=
  match u with
  | 0 => Scalar.remsi (Scalar.addi (posW c) 1#32) 4#32
  | 1 => Scalar.remsi (Scalar.addi (posW c) 2#32) 4#32
  | 2 => Scalar.remsi (Scalar.addi (posW c) 3#32) 4#32
  | 3 => posW c

/-- The blocks of a slab's queries. -/
def qBlk (w : BitVec 32) : IVec S256x1 32 := addi k0_pay9 (broadcast S256x1 (Scalar.muli w 4#32))

/-- The mask of a slab, as the number added to a score. -/
def bias (c : Dev nD) (u : Fin 4) : FVec F S256x1024 .f32 :=
  k0_pay15 kBlk (qBlk (slabW c u))
    (cmpi .eq (broadcastTo S256x1024 kBlk broadcasts_S1x1024_S256x1024) (broadcastTo S256x1024 (qBlk (slabW c u)) broadcasts_S256x1_S256x1024))

/-- One head of one slab. -/
def headStep (c : Dev nD) (u : Fin 4) (h : Fin 8) : PG F PUnit := do
  let q ← Prog.lift (.load mQ (Rect.unit (s := S1024x1024) (qoff c u h) S256x128.size (qoff_inb c u h)).toLoadRect (View.loadsAt_vmem h_S256x128))
  let k ← Prog.lift (.load mKb (Rect.unit (s := S1024x1024) ![0, 128 * h.val] S1024x128.size (inbC h)).toLoadRect (View.loadsAt_vmem h_S1024x128))
  let v ← Prog.lift (.load mVb (Rect.unit (s := S1024x1024) ![0, 128 * h.val] S1024x128.size (inbC h)).toLoadRect (View.loadsAt_vmem h_S1024x128))
  let _ ← Prog.lift (.load mCtx (Rect.unit (s := S256x1024) ![0, 128 * h.val] S256x128.size (inbX h)).toLoadRect (View.loadsAt_vmem h_S256x128))
  Prog.lift (.store mCtx (Rect.unit (s := S256x1024) ![0, 128 * h.val] S256x128.size (inbX h)) (k0_pay19 (bias c u) q k v) Finset.univ (View.stores_vmem h_S256x128 ((Memref.isWhole_whole _).storeExact_slice rfl _ (packX h)) (fun _ => rfl)) (.inl rfl))

/-- The slab's rows of the partial result. -/
def partStep (c : Dev nD) (u : Fin 4) : PG F PUnit := do
  let x ← Prog.lift (.load mCtx (Rect.unit (s := S256x1024) ![0, 0] S256x1024.size inb_S256x1024_S256x1024_0_0).toLoadRect (View.loadsAt_vmem h_S256x1024))
  let w ← Prog.lift (.load mWob (Rect.unit (s := S1024x1024) ![0, 0] S1024x1024.size inb_S1024x1024_S1024x1024_0_0).toLoadRect (View.loadsAt_vmem h_S1024x1024))
  let _ ← Prog.lift (.load mPart (Rect.unit (s := S1024x1024) (poff c u) S256x1024.size (poff_inb c u)).toLoadRect (View.loadsAt_vmem h_S256x1024))
  Prog.lift (.store mPart (Rect.unit (s := S1024x1024) (poff c u) S256x1024.size (poff_inb c u)) (k0_pay25 x w) Finset.univ (View.stores_vmem h_S256x1024 ((Memref.isWhole_whole _).storeExact_slice rfl _ (poff_packed c u)) (fun _ => rfl)) (.inl rfl))

def slab (c : Dev nD) (u : Fin 4) : PG F PUnit := forL heads (headStep c u) >>= fun _ => partStep c u

/-! ## The chunks sent to their owners -/

/-- The device the chunk sent as number `n` goes to. -/
def rsDev (c : Dev nD) (n : Fin 15) : Dev nD :=
  match n with
  | 0 => ⟨k0_dev16 c, k0_dev16_lt c⟩
  | 1 => ⟨k0_dev17 c, k0_dev17_lt c⟩
  | 2 => ⟨k0_dev18 c, k0_dev18_lt c⟩
  | 3 => ⟨k0_dev19 c, k0_dev19_lt c⟩
  | 4 => ⟨k0_dev20 c, k0_dev20_lt c⟩
  | 5 => ⟨k0_dev21 c, k0_dev21_lt c⟩
  | 6 => ⟨k0_dev22 c, k0_dev22_lt c⟩
  | 7 => ⟨k0_dev23 c, k0_dev23_lt c⟩
  | 8 => ⟨k0_dev24 c, k0_dev24_lt c⟩
  | 9 => ⟨k0_dev25 c, k0_dev25_lt c⟩
  | 10 => ⟨k0_dev26 c, k0_dev26_lt c⟩
  | 11 => ⟨k0_dev27 c, k0_dev27_lt c⟩
  | 12 => ⟨k0_dev28 c, k0_dev28_lt c⟩
  | 13 => ⟨k0_dev29 c, k0_dev29_lt c⟩
  | 14 => ⟨k0_dev30 c, k0_dev30_lt c⟩

/-- Chunk `n` goes from the sender's rows at `ro` into the peer's slot at `bo`, by the two semaphores at `so`. -/
def rsSend (d : Dev nD) (so : Fin 1 → Nat) (sh : ∀ a, so a + S1.size a ≤ S15.size a)
    (bo : Fin 3 → Nat) (bh : ∀ a, bo a + S1x64x1024.size a ≤ S15x64x1024.size a)
    (ro : Fin 2 → Nat) (rh : ∀ a, ro a + S64x1024.size a ≤ S1024x1024.size a)
    (bw : (Rect.unit (s := S15x64x1024) bo S1x64x1024.size bh).WholeWords (EltTy.packing .bf16))
    (rw' : (Rect.unit (s := S1024x1024) ro S64x1024.size rh).WholeWords (EltTy.packing .bf16)) : PG F PUnit :=
  Prog.lift (.enqueueDma (rowsM mPart ro rh) (.remote (Dev.tc d) (slotM bo bh) (.dma (sem15 cc0_scratch12 so sh))) (.dma (sem15 cc0_scratch13 so sh))
    ((Memref.isWhole_whole _).wordExact_slice rfl _ rw') (((Memref.isWhole_whole _).wordExact_slice rfl _ bw).reshape _ _) ⟨⟨rfl, Or.inl rfl⟩, trivial⟩)

/-- The wait for the send to have left. -/
def rsSent (so : Fin 1 → Nat) (sh : ∀ a, so a + S1.size a ≤ S15.size a)
    (bo : Fin 3 → Nat) (bh : ∀ a, bo a + S1x64x1024.size a ≤ S15x64x1024.size a)
    (ro : Fin 2 → Nat) (rh : ∀ a, ro a + S64x1024.size a ≤ S1024x1024.size a)
    (bw : (Rect.unit (s := S15x64x1024) bo S1x64x1024.size bh).WholeWords (EltTy.packing .bf16))
    (rw' : (Rect.unit (s := S1024x1024) ro S64x1024.size rh).WholeWords (EltTy.packing .bf16)) : PG F PUnit :=
  Prog.lift (.waitDma2 (sem15 cc0_scratch12 so sh) (slotM bo bh) (rowsM mPart ro rh)
    (((Memref.isWhole_whole _).wordExact_slice rfl _ bw).reshape _ _) ((Memref.isWhole_whole _).wordExact_slice rfl _ rw'))

def rsSendA (c : Dev nD) (u : Fin 3) (q : Fin 4) : PG F PUnit :=
  rsSend (rsDev c ⟨4 * u.val + q.val, by omega⟩) _ (k0_off11_inb c q u) _ (k0_off12_inb c q u) _ (k0_off13_inb c u q)
    (k0_off12_wordsbf16 c q u) (k0_off13_wordsbf16 c u q)
def rsSendB (c : Dev nD) (r : Fin 3) : PG F PUnit :=
  rsSend (rsDev c ⟨12 + r.val, by omega⟩) _ (k0_off23_inb c r) _ (k0_off24_inb c r) _ (k0_off25_inb c r)
    (k0_off24_wordsbf16 c r) (k0_off25_wordsbf16 c r)
def rsSentA (c : Dev nD) (u : Fin 3) (q : Fin 4) : PG F PUnit :=
  rsSent _ (k0_off11_inb c q u) _ (k0_off12_inb c q u) _ (k0_off13_inb c u q) (k0_off12_wordsbf16 c q u) (k0_off13_wordsbf16 c u q)
def rsSentB (c : Dev nD) (r : Fin 3) : PG F PUnit :=
  rsSent _ (k0_off23_inb c r) _ (k0_off24_inb c r) _ (k0_off25_inb c r) (k0_off24_wordsbf16 c r) (k0_off25_wordsbf16 c r)

def sendsA (c : Dev nD) (u : Fin 3) : PG F PUnit := forL [0, 1, 2, 3] (rsSendA c u)

/-! ## The sum of the received chunks -/

def rsWait (c : Dev nD) (k : Fin 15) : PG F PUnit :=
  Prog.lift (.waitDma2 (sem15 cc0_scratch13 ![k.val] (inbSem15 k)) (rowsM mPart (k0_off27 c) (k0_off27_inb c)) (slotM ![k.val, 0, 0] (inbSlot k))
    ((Memref.isWhole_whole _).wordExact_slice rfl _ (k0_off27_wordsbf16 c)) (((Memref.isWhole_whole _).wordExact_slice rfl _ (wordSlot k)).reshape _ _))

/-- A received chunk added to the sum. -/
def accVal (acc : FVec F S64x1024 .f32) (x : Vec F S1x64x1024 .bf16) : FVec F S64x1024 .f32 :=
  addf acc (extf .f32 (shapeCast S64x1024 x shapeCasts_S1x64x1024_S64x1024) bitsLt_bf16_f32)

def accL (c : Dev nD) (l : List (Fin 15)) (acc : FVec F S64x1024 .f32) : PG F (FVec F S64x1024 .f32) :=
  match l with
  | [] => pure acc
  | k :: ks => do
    rsWait c k
    let x ← Prog.lift (.load mRs (Rect.unit (s := S15x64x1024) ![k.val, 0, 0] S1x64x1024.size (inbSlot k)).toLoadRect (View.loadsAt_vmem h_S1x64x1024))
    accL c ks (accVal acc x)

def reduce (c : Dev nD) : PG F PUnit := do
  let x : Vec F S64x1024 .bf16 ← Prog.lift (.load mPart (Rect.unit (s := S1024x1024) (k0_off26 c) S64x1024.size (k0_off26_inb c)).toLoadRect (View.loadsAt_vmem h_S64x1024))
  let acc ← accL c peers (extf .f32 x bitsLt_bf16_f32)
  let _ ← Prog.lift (.load mOut (Rect.unit (s := S1024x1024) (k0_off26 c) S64x1024.size (k0_off26_inb c)).toLoadRect (View.loadsAt_vmem h_S64x1024))
  Prog.lift (.store mOut (Rect.unit (s := S1024x1024) (k0_off26 c) S64x1024.size (k0_off26_inb c)) (truncf .bf16 acc bitsLt_bf16_f32) Finset.univ (View.stores_vmem h_S64x1024 ((Memref.isWhole_whole _).storeExact_slice rfl _ (k0_off26_packedbf16 c)) (fun _ => rfl)) (.inl rfl))

/-! ## The result passed on -/

/-- The device the device's own chunk of the result goes to as number `j`. -/
def agDev (c : Dev nD) (j : Fin 15) : Dev nD :=
  match j with
  | 0 => ⟨k0_dev31 c, k0_dev31_lt c⟩
  | 1 => ⟨k0_dev32 c, k0_dev32_lt c⟩
  | 2 => ⟨k0_dev33 c, k0_dev33_lt c⟩
  | 3 => ⟨k0_dev34 c, k0_dev34_lt c⟩
  | 4 => ⟨k0_dev35 c, k0_dev35_lt c⟩
  | 5 => ⟨k0_dev36 c, k0_dev36_lt c⟩
  | 6 => ⟨k0_dev37 c, k0_dev37_lt c⟩
  | 7 => ⟨k0_dev38 c, k0_dev38_lt c⟩
  | 8 => ⟨k0_dev39 c, k0_dev39_lt c⟩
  | 9 => ⟨k0_dev40 c, k0_dev40_lt c⟩
  | 10 => ⟨k0_dev41 c, k0_dev41_lt c⟩
  | 11 => ⟨k0_dev42 c, k0_dev42_lt c⟩
  | 12 => ⟨k0_dev43 c, k0_dev43_lt c⟩
  | 13 => ⟨k0_dev44 c, k0_dev44_lt c⟩
  | 14 => ⟨k0_dev45 c, k0_dev45_lt c⟩

def agSend (c : Dev nD) (j : Fin 15) : PG F PUnit :=
  Prog.lift (.enqueueDma (rowsM mOut (k0_off27 c) (k0_off27_inb c))
    (.remote (Dev.tc (agDev c j)) (rowsM mOut (k0_off27 c) (k0_off27_inb c)) (.dma (sem15 cc0_scratch14 ![j.val] (inbSem15 j))))
    (.dma (sem15 cc0_scratch15 ![j.val] (inbSem15 j)))
    ((Memref.isWhole_whole _).wordExact_slice rfl _ (k0_off27_wordsbf16 c)) ((Memref.isWhole_whole _).wordExact_slice rfl _ (k0_off27_wordsbf16 c))
    ⟨⟨rfl, Or.inl rfl⟩, trivial⟩)

def agWait (c : Dev nD) (j : Fin 15) : PG F PUnit :=
  Prog.lift (.waitDma2 (sem15 cc0_scratch15 ![j.val] (inbSem15 j)) (rowsM mOut (k0_off27 c) (k0_off27_inb c))
    (rowsM mOut (k0_off28 c (BitVec.ofNat 32 j.val)) (k0_off28_inb c j))
    ((Memref.isWhole_whole _).wordExact_slice rfl _ (k0_off27_wordsbf16 c)) ((Memref.isWhole_whole _).wordExact_slice rfl _ (k0_off28_wordsbf16 c j)))

def agSent (c : Dev nD) (j : Fin 15) : PG F PUnit :=
  Prog.lift (.waitDma2 (sem15 cc0_scratch14 ![j.val] (inbSem15 j)) (rowsM mOut (k0_off27 c) (k0_off27_inb c)) (rowsM mOut (k0_off27 c) (k0_off27_inb c))
    ((Memref.isWhole_whole _).wordExact_slice rfl _ (k0_off27_wordsbf16 c)) ((Memref.isWhole_whole _).wordExact_slice rfl _ (k0_off27_wordsbf16 c)))

/-! ## The whole body -/

/-- From the loads to the wait for them. -/
def stageA (c : Dev nD) : PG F PUnit := do
  loads c
  signals c
  castX
  castSq mWq mWqb (Memref.isWhole_whole _) k0_pay3
  project
  castSq mWo mWob (Memref.isWhole_whole _) k0_pay5
  loadWaits c
  castSq mKf mKb (Memref.isWhole_whole _) (fun x => k0_pay7 (k0_pay6 x))
  castSq mVf mVb (Memref.isWhole_whole _) k0_pay8

/-- The four slabs and the chunks sent. -/
def stageB (c : Dev nD) : PG F PUnit := do
  slab c 0
  semWaitWord barS 15#32
  sendsA c 0
  slab c 1
  sendsA c 1
  slab c 2
  sendsA c 2
  slab c 3
  forL [0, 1, 2] (rsSendB c)

/-- The sum, and the result passed on. -/
def stageC (c : Dev nD) : PG F PUnit := do
  reduce c
  forL peers (agSend c)
  forL peers (agWait c)

/-- The sends that have left. -/
def stageD (c : Dev nD) : PG F PUnit := do
  forL [0, 1, 2] fun u => forL [0, 1, 2, 3] (rsSentA c u)
  forL [0, 1, 2] (rsSentB c)
  forL peers (agSent c)

def body : PG F PUnit := do
  let c ← Prog.lift .deviceId
  stageA c
  stageB c
  stageC c
  stageD c

set_option maxHeartbeats 0 in
/-- The printed body is this program. -/
theorem body_eq :
    cc0__body (F := F) mX (Memref.isWhole_whole _) mWq (Memref.isWhole_whole _) mK (Memref.isWhole_whole _) mV (Memref.isWhole_whole _)
      mWo (Memref.isWhole_whole _) mOut (Memref.isWhole_whole _) mKf (Memref.isWhole_whole _) mVf (Memref.isWhole_whole _)
      mKb (Memref.isWhole_whole _) mVb (Memref.isWhole_whole _) mQ (Memref.isWhole_whole _) mXb (Memref.isWhole_whole _)
      mWqb (Memref.isWhole_whole _) mWob (Memref.isWhole_whole _) mCtx (Memref.isWhole_whole _) mPart (Memref.isWhole_whole _)
      mRs (Memref.isWhole_whole _) cc0_scratch11 cc0_scratch12 cc0_scratch13 cc0_scratch14 cc0_scratch15
      = body (F := F) := by
  chain_rfl

end Cert.KernelIdeal.Hand

end
-- ==== Proof.KernelIdeal.Ring.lean ====
/-
  The sixteen devices as a ring, and the places the program names in closed form: the peer a signal or a transfer goes
  to, the slot and semaphores it uses, the rows it moves. Also the element sets of the pieces a buffer is cut into.
-/
module

public import proofs.«01_k».proof.Proof.KernelIdeal.Prog

@[expose] public section

set_option maxRecDepth 65536

noncomputable section

namespace Cert.KernelIdeal.Hand

open Cert.KernelIdeal Cert.KernelIdeal.Gen
open Idealize.ShloMosaic Idealize.ShloMosaic.TcCoe
open Idealize.SL Idealize.SL.Sem

/-! ## Peers and chunks -/

/-- The device `k + 1` places after `c`. -/
def peer (c : Dev nD) (k : Fin 15) : Dev nD := ⟨(c.val + k.val + 1) % 16, Nat.mod_lt _ (by decide)⟩
/-- The device `k + 1` places before `c`. -/
def src (c : Dev nD) (k : Fin 15) : Dev nD := ⟨(c.val + 15 - k.val) % 16, Nat.mod_lt _ (by decide)⟩

/-- The peer of the device before is the device itself. -/
theorem peer_src (c : Dev nD) (k : Fin 15) : peer (src c k) k = c := by revert c k; decide +kernel
/-- The device before the peer is the device itself. -/
theorem src_peer (c : Dev nD) (k : Fin 15) : src (peer c k) k = c := by revert c k; decide +kernel
/-- Going back from a peer is going on from it by the number counted from the other end. -/
theorem src_eq_peer (c : Dev nD) (k : Fin 15) : src c k = peer c (Fin.rev k) := by revert c k; decide +kernel
/-- A peer is another device. -/
theorem peer_ne (c : Dev nD) (k : Fin 15) : peer c k ≠ c := by revert c k; decide +kernel
/-- Different numbers are different peers. -/
theorem peer_inj (c : Dev nD) {k k' : Fin 15} (h : peer c k = peer c k') : k = k' := by revert c k k'; decide +kernel
/-- Every other device is a peer. -/
theorem exists_peer (c e : Dev nD) (h : e ≠ c) : ∃ k, peer c k = e := by revert c e; decide +kernel

/-- The device number `k`'s turn around the ring. -/
def turn (k : Fin 15) : Dev nD ≃ Dev nD := ⟨fun c => peer c k, fun c => src c k, fun c => src_peer c k, fun c => peer_src c k⟩

/-- The number of the 64-row chunk a device is the owner of. -/
def ch (c : Dev nD) : Fin 16 := ⟨4 * (c.val % 4) + c.val / 4, by have : c.val < 16 := c.isLt; omega⟩
/-- The owner of a chunk. -/
def owner (i : Fin 16) : Dev nD := ⟨4 * (i.val % 4) + i.val / 4, by have : i.val < 16 := i.isLt; show _ < 16; omega⟩

/-- A device owns the chunk it is said to own. -/
theorem owner_ch (c : Dev nD) : owner (ch c) = c := by revert c; decide +kernel
/-- A chunk's owner owns that chunk. -/
theorem ch_owner (i : Fin 16) : ch (owner i) = i := by revert i; decide +kernel
/-- Different devices own different chunks. -/
theorem ch_inj {c e : Dev nD} (h : ch c = ch e) : c = e := by rw [← owner_ch c, h, owner_ch]

/-- The slab of 256 rows a device works on as number `u`. -/
def slabOf (c : Dev nD) (u : Fin 4) : Fin 4 := ⟨(c.val % 4 + u.val + 1) % 4, Nat.mod_lt _ (by decide)⟩
/-- The number under which a device works on a slab. -/
def turnOf (c : Dev nD) (s : Fin 4) : Fin 4 := ⟨(s.val + 7 - c.val % 4) % 4, Nat.mod_lt _ (by decide)⟩
/-- The number of the slab worked on as number `u` is `u`. -/
theorem turnOf_slabOf (c : Dev nD) (u : Fin 4) : turnOf c (slabOf c u) = u := by revert c u; decide +kernel
/-- The slab worked on under a slab's number is that slab. -/
theorem slabOf_turnOf (c : Dev nD) (s : Fin 4) : slabOf c (turnOf c s) = s := by revert c s; decide +kernel

/-! ## The devices the program names -/

/-- The signal number `j` goes to peer `j`. -/
theorem sigDev_eq (c : Dev nD) (j : Fin 15) : sigDev c j = peer c j := by
  apply Fin.ext
  revert c j; decide +kernel
/-- The summed chunk's send number `j` goes to peer `j`. -/
theorem agDev_eq (c : Dev nD) (j : Fin 15) : agDev c j = peer c j := by
  apply Fin.ext
  revert c j; decide +kernel

/-- Which peer the send number `n` goes to. -/
def kk (c : Dev nD) (n : Fin 15) : Fin 15 :=
  ⟨((rsDev c n).val + 15 - c.val) % 16, by revert c n; decide +kernel⟩
/-- The partial chunk's send number `n` goes to the peer of that send. -/
theorem rsDev_eq (c : Dev nD) (n : Fin 15) : rsDev c n = peer c (kk c n) := by
  apply Fin.ext
  revert c n; decide +kernel
/-- Different sends go to different peers. -/
theorem kk_injective (c : Dev nD) : Function.Injective (kk c) := by
  intro a b; revert c a b; decide +kernel
/-- The sends in program order, as an order of the peers. -/
def kkE (c : Dev nD) : Fin 15 ≃ Fin 15 := Equiv.ofBijective (kk c) (Finite.injective_iff_bijective.mp (kk_injective c))

abbrev nA (u : Fin 3) (q : Fin 4) : Fin 15 := ⟨4 * u.val + q.val, by omega⟩
abbrev nB (r : Fin 3) : Fin 15 := ⟨12 + r.val, by omega⟩

/-- The semaphore of a send from another slab is its peer's. -/
theorem off11_eq (c : Dev nD) (q : Fin 4) (u : Fin 3) :
    k0_off11 c (BitVec.ofNat 32 (4 * q.val)) (BitVec.ofNat 32 (1 + u.val)) = ![(kk c (nA u q)).val] := by
  revert c q u; decide +kernel
/-- The receive slot of a send from another slab is its peer's number. -/
theorem off12_eq (c : Dev nD) (q : Fin 4) (u : Fin 3) :
    k0_off12 c (BitVec.ofNat 32 (4 * q.val)) (BitVec.ofNat 32 (1 + u.val)) = ![(kk c (nA u q)).val, 0, 0] := by
  revert c q u; decide +kernel
/-- A send from another slab moves the chunk its peer owns. -/
theorem off13_eq (c : Dev nD) (q : Fin 4) (u : Fin 3) :
    k0_off13 c (BitVec.ofNat 32 (1 + u.val)) (BitVec.ofNat 32 q.val) = ![64 * (ch (peer c (kk c (nA u q)))).val, 0] := by
  revert c q u; decide +kernel
/-- The semaphore of a send from the own slab is its peer's. -/
theorem off23_eq (c : Dev nD) (r : Fin 3) : k0_off23 c (BitVec.ofNat 32 (1 + r.val)) = ![(kk c (nB r)).val] := by
  revert c r; decide +kernel
/-- The receive slot of a send from the own slab is its peer's number. -/
theorem off24_eq (c : Dev nD) (r : Fin 3) : k0_off24 c (BitVec.ofNat 32 (1 + r.val)) = ![(kk c (nB r)).val, 0, 0] := by
  revert c r; decide +kernel
/-- A send from the own slab moves the chunk its peer owns. -/
theorem off25_eq (c : Dev nD) (r : Fin 3) :
    k0_off25 c (BitVec.ofNat 32 (1 + r.val)) = ![64 * (ch (peer c (kk c (nB r)))).val, 0] := by
  revert c r; decide +kernel
/-- The device sums into the chunk it owns. -/
theorem off26_eq (c : Dev nD) : k0_off26 c = ![64 * (ch c).val, 0] := by revert c; decide +kernel
/-- The device sends the chunk it owns. -/
theorem off27_eq (c : Dev nD) : k0_off27 c = ![64 * (ch c).val, 0] := by revert c; decide +kernel
/-- The result chunk awaited as number `j` is the one owned by the device `j + 1` places before. -/
theorem off28_eq (c : Dev nD) (j : Fin 15) : k0_off28 c (BitVec.ofNat 32 j.val) = ![64 * (ch (src c j)).val, 0] := by
  revert c j; decide +kernel

/-- The chunk send `4 u + q` moves is the `q`-th of the slab's four. -/
theorem ch_nA (c : Dev nD) (u : Fin 3) (q : Fin 4) :
    (ch (peer c (kk c (nA u q)))).val = 4 * (slabOf c u.castSucc).val + q.val := by revert c u q; decide +kernel
/-- The chunk send `12 + r` moves is in the device's own slab. -/
theorem ch_nB (c : Dev nD) (r : Fin 3) :
    (ch (peer c (kk c (nB r)))).val = 4 * (slabOf c 3).val + (c.val / 4 + r.val + 1) % 4 := by revert c r; decide +kernel
/-- The chunk a device owns is in its own slab. -/
theorem ch_own (c : Dev nD) : (ch c).val = 4 * (slabOf c 3).val + c.val / 4 := by revert c; decide +kernel

/-! ## The semaphores -/

/-- The loads' semaphores are numbered from 4. -/
theorem sem16_eq (k : Fin 16) : sem16 cc0_scratch11 ![k.val] (inbSem16 k) = (⟨4 + k.val, by show _ < 80; omega⟩ : Fin 80) := by
  fin_cases k <;> rfl
/-- The semaphores of the partial chunks' sends are numbered from 20. -/
theorem sem15_eq12 (k : Fin 15) : sem15 cc0_scratch12 ![k.val] (inbSem15 k) = (⟨20 + k.val, by show _ < 80; omega⟩ : Fin 80) := by
  fin_cases k <;> rfl
/-- The semaphores of their arrivals are numbered from 35. -/
theorem sem15_eq13 (k : Fin 15) : sem15 cc0_scratch13 ![k.val] (inbSem15 k) = (⟨35 + k.val, by show _ < 80; omega⟩ : Fin 80) := by
  fin_cases k <;> rfl
/-- The semaphores of the summed chunks' sends are numbered from 50. -/
theorem sem15_eq14 (k : Fin 15) : sem15 cc0_scratch14 ![k.val] (inbSem15 k) = (⟨50 + k.val, by show _ < 80; omega⟩ : Fin 80) := by
  fin_cases k <;> rfl
/-- The semaphores of their arrivals are numbered from 65. -/
theorem sem15_eq15 (k : Fin 15) : sem15 cc0_scratch15 ![k.val] (inbSem15 k) = (⟨65 + k.val, by show _ < 80; omega⟩ : Fin 80) := by
  fin_cases k <;> rfl

/-! ## Element sets -/

/-- The rows of chunk `i` of a square buffer. -/
def rowSet (i : Fin 16) : Finset S1024x1024.Idx := Finset.univ.filter fun x => (x 0).val / 64 = i.val
/-- The rows of slab `s`. -/
def slabSet (s : Fin 4) : Finset S1024x1024.Idx := Finset.univ.filter fun x => (x 0).val / 256 = s.val
/-- The columns of head `h`. -/
def colSet (h : Fin 8) : Finset S1024x1024.Idx := Finset.univ.filter fun x => (x 1).val / 128 = h.val
/-- A slot of the receive buffer. -/
def slotSet (k : Fin 15) : Finset S15x64x1024.Idx := Finset.univ.filter fun x => (x 0).val = k.val
/-- One head of the keys or values. -/
def headSet (c : Dev nD) (h : Fin 8) : Finset S1x1024x128x128.Idx := Finset.univ.filter fun x => (x 2).val = 8 * c.val + h.val

/-- An element is in a chunk when its row over 64 is the chunk's number. -/
theorem mem_rowSet {i : Fin 16} {x : S1024x1024.Idx} : x ∈ rowSet i ↔ (x 0).val / 64 = i.val := by
  unfold rowSet; rw [Finset.mem_filter]; exact ⟨fun h => h.2, fun h => ⟨Finset.mem_univ _, h⟩⟩
/-- An element is in a slab when its row over 256 is the slab's number. -/
theorem mem_slabSet {i : Fin 4} {x : S1024x1024.Idx} : x ∈ slabSet i ↔ (x 0).val / 256 = i.val := by
  unfold slabSet; rw [Finset.mem_filter]; exact ⟨fun h => h.2, fun h => ⟨Finset.mem_univ _, h⟩⟩
/-- An element is in a head's columns when its column over 128 is the head's number. -/
theorem mem_colSet {i : Fin 8} {x : S1024x1024.Idx} : x ∈ colSet i ↔ (x 1).val / 128 = i.val := by
  unfold colSet; rw [Finset.mem_filter]; exact ⟨fun h => h.2, fun h => ⟨Finset.mem_univ _, h⟩⟩
/-- An element is in a receive slot when its first coordinate is the slot's number. -/
theorem mem_slotSet {i : Fin 15} {x : S15x64x1024.Idx} : x ∈ slotSet i ↔ (x 0).val = i.val := by
  unfold slotSet; rw [Finset.mem_filter]; exact ⟨fun h => h.2, fun h => ⟨Finset.mem_univ _, h⟩⟩
/-- An element is in a device's head when its third coordinate is that head's number among all. -/
theorem mem_headSet {c : Dev nD} {h : Fin 8} {x : S1x1024x128x128.Idx} : x ∈ headSet c h ↔ (x 2).val = 8 * c.val + h.val := by
  unfold headSet; rw [Finset.mem_filter]; exact ⟨fun h => h.2, fun h => ⟨Finset.mem_univ _, h⟩⟩

/-- A block of 64 rows covers a chunk. -/
theorem rowSet_eq (i : Fin 16) (h : ∀ a, (![64 * i.val, 0] : Fin 2 → Nat) a + S64x1024.size a ≤ S1024x1024.size a) :
    (Rect.unit (s := S1024x1024) ![64 * i.val, 0] S64x1024.size h).set = rowSet i := by
  ext x
  rw [LoadRect.mem_set, mem_rowSet]
  have h1 : (x 1).val < 1024 := (x 1).isLt
  constructor
  · intro H
    obtain ⟨j, hj, e⟩ := H 0
    have hj' : j < 64 := hj
    have e' : (x 0).val = 64 * i.val + 1 * j := e
    omega
  · intro H a
    fin_cases a
    · exact ⟨(x 0).val - 64 * i.val, by show _ < 64; omega, by show (x 0).val = 64 * i.val + 1 * _; omega⟩
    · exact ⟨(x 1).val, h1, by show (x 1).val = 0 + 1 * _; omega⟩

/-- A block of 256 rows covers a slab. -/
theorem slabSet_eq (i : Fin 4) (h : ∀ a, (![256 * i.val, 0] : Fin 2 → Nat) a + S256x1024.size a ≤ S1024x1024.size a) :
    (Rect.unit (s := S1024x1024) ![256 * i.val, 0] S256x1024.size h).set = slabSet i := by
  ext x
  rw [LoadRect.mem_set, mem_slabSet]
  have h1 : (x 1).val < 1024 := (x 1).isLt
  constructor
  · intro H
    obtain ⟨j, hj, e⟩ := H 0
    have hj' : j < 256 := hj
    have e' : (x 0).val = 256 * i.val + 1 * j := e
    omega
  · intro H a
    fin_cases a
    · exact ⟨(x 0).val - 256 * i.val, by show _ < 256; omega, by show (x 0).val = 256 * i.val + 1 * _; omega⟩
    · exact ⟨(x 1).val, h1, by show (x 1).val = 0 + 1 * _; omega⟩

/-- A block of 128 columns covers a head's columns. -/
theorem colSet_eq (i : Fin 8) : (Rect.unit (s := S1024x1024) ![0, 128 * i.val] S1024x128.size (inbC i)).set = colSet i := by
  ext x
  rw [LoadRect.mem_set, mem_colSet]
  have h0 : (x 0).val < 1024 := (x 0).isLt
  constructor
  · intro H
    obtain ⟨j, hj, e⟩ := H 1
    have hj' : j < 128 := hj
    have e' : (x 1).val = 128 * i.val + 1 * j := e
    omega
  · intro H a
    fin_cases a
    · exact ⟨(x 0).val, h0, by show (x 0).val = 0 + 1 * _; omega⟩
    · exact ⟨(x 1).val - 128 * i.val, by show _ < 128; omega, by show (x 1).val = 128 * i.val + 1 * _; omega⟩

/-- A block of the receive buffer covers a slot. -/
theorem slotSet_eq (k : Fin 15) (h : ∀ a, (![k.val, 0, 0] : Fin 3 → Nat) a + S1x64x1024.size a ≤ S15x64x1024.size a) :
    (Rect.unit (s := S15x64x1024) ![k.val, 0, 0] S1x64x1024.size h).set = slotSet k := by
  ext x
  rw [LoadRect.mem_set, mem_slotSet]
  have h1 : (x 1).val < 64 := (x 1).isLt
  have h2 : (x 2).val < 1024 := (x 2).isLt
  constructor
  · intro H
    obtain ⟨j, hj, e⟩ := H 0
    have hj' : j < 1 := hj
    have e' : (x 0).val = k.val + 1 * j := e
    omega
  · intro H a
    fin_cases a
    · exact ⟨0, by show 0 < 1; omega, by show (x 0).val = k.val + 1 * 0; omega⟩
    · exact ⟨(x 1).val, h1, by show (x 1).val = 0 + 1 * _; omega⟩
    · exact ⟨(x 2).val, h2, by show (x 2).val = 0 + 1 * _; omega⟩

/-- A block of the key or value array covers a device's head. -/
theorem headSet_eq (c : Dev nD) (k : Fin 8) :
    (Rect.unit (s := S1x1024x128x128) (k0_off1 c (BitVec.ofNat 32 k.val)) S1x1024x1x128.size (k0_off1_inb c k)).set = headSet c k := by
  have e := k0_off1_eq c k
  have hh := k0_off1_inb c k
  ext x
  rw [LoadRect.mem_set, mem_headSet]
  have h0 : (x 0).val < 1 := (x 0).isLt
  have h1 : (x 1).val < 1024 := (x 1).isLt
  have h3 : (x 3).val < 128 := (x 3).isLt
  show (∀ a, ∃ j < S1x1024x1x128.size a, (x a).val = k0_off1 c (BitVec.ofNat 32 k.val) a + 1 * j) ↔ _
  rw [e]
  constructor
  · intro H
    obtain ⟨j, hj, e⟩ := H 2
    have hj' : j < 1 := hj
    have e' : (x 2).val = 8 * c.val + k.val + 1 * j := e
    omega
  · intro H a
    fin_cases a
    · exact ⟨(x 0).val, h0, by show (x 0).val = 0 + 1 * _; omega⟩
    · exact ⟨(x 1).val, h1, by show (x 1).val = 0 + 1 * _; omega⟩
    · exact ⟨0, by show 0 < 1; omega, by show (x 2).val = (8 * c.val + k.val) + 1 * 0; omega⟩
    · exact ⟨(x 3).val, h3, by show (x 3).val = 0 + 1 * _; omega⟩

/-! ## The pieces are disjoint and together the whole -/

/-- Different chunks have no element in common. -/
theorem rowSet_disj {i j : Fin 16} (h : i ≠ j) : Disjoint (rowSet i) (rowSet j) :=
  Finset.disjoint_left.mpr fun x hi hj => h (Fin.ext ((mem_rowSet.mp hi).symm.trans (mem_rowSet.mp hj)))
/-- Different slabs have no element in common. -/
theorem slabSet_disj {i j : Fin 4} (h : i ≠ j) : Disjoint (slabSet i) (slabSet j) :=
  Finset.disjoint_left.mpr fun x hi hj => h (Fin.ext ((mem_slabSet.mp hi).symm.trans (mem_slabSet.mp hj)))
/-- Different heads' columns have no element in common. -/
theorem colSet_disj {i j : Fin 8} (h : i ≠ j) : Disjoint (colSet i) (colSet j) :=
  Finset.disjoint_left.mpr fun x hi hj => h (Fin.ext ((mem_colSet.mp hi).symm.trans (mem_colSet.mp hj)))
/-- Different receive slots have no element in common. -/
theorem slotSet_disj {i j : Fin 15} (h : i ≠ j) : Disjoint (slotSet i) (slotSet j) :=
  Finset.disjoint_left.mpr fun x hi hj => h (Fin.ext ((mem_slotSet.mp hi).symm.trans (mem_slotSet.mp hj)))
/-- Different heads have no element in common. -/
theorem headSet_disj (c : Dev nD) {i j : Fin 8} (h : i ≠ j) : Disjoint (headSet c i) (headSet c j) :=
  Finset.disjoint_left.mpr fun x hi hj => h (Fin.ext (by have := mem_headSet.mp hi; have := mem_headSet.mp hj; omega))

/-- The sixteen chunks make up the array. -/
theorem rowSet_cover : (Finset.univ : Finset (Fin 16)).biUnion rowSet = Finset.univ :=
  Finset.eq_univ_iff_forall.mpr fun x => Finset.mem_biUnion.mpr
    ⟨⟨(x 0).val / 64, by have : (x 0).val < 1024 := (x 0).isLt; omega⟩, Finset.mem_univ _, mem_rowSet.mpr rfl⟩
/-- The four slabs make up the array. -/
theorem slabSet_cover : (Finset.univ : Finset (Fin 4)).biUnion slabSet = Finset.univ :=
  Finset.eq_univ_iff_forall.mpr fun x => Finset.mem_biUnion.mpr
    ⟨⟨(x 0).val / 256, by have : (x 0).val < 1024 := (x 0).isLt; omega⟩, Finset.mem_univ _, mem_slabSet.mpr rfl⟩
/-- The eight heads' columns make up the array. -/
theorem colSet_cover : (Finset.univ : Finset (Fin 8)).biUnion colSet = Finset.univ :=
  Finset.eq_univ_iff_forall.mpr fun x => Finset.mem_biUnion.mpr
    ⟨⟨(x 1).val / 128, by have : (x 1).val < 1024 := (x 1).isLt; omega⟩, Finset.mem_univ _, mem_colSet.mpr rfl⟩
/-- The fifteen slots make up the receive buffer. -/
theorem slotSet_cover : (Finset.univ : Finset (Fin 15)).biUnion slotSet = Finset.univ :=
  Finset.eq_univ_iff_forall.mpr fun x => Finset.mem_biUnion.mpr ⟨x 0, Finset.mem_univ _, mem_slotSet.mpr rfl⟩

/-- A slab is its four chunks. -/
theorem slabSet_rows (s : Fin 4) (f : Fin 4 → Fin 16) (hf : ∀ q, (f q).val / 4 = s.val) (hs : ∀ i : Fin 16, i.val / 4 = s.val → ∃ q, f q = i) :
    (Finset.univ : Finset (Fin 4)).biUnion (fun q => rowSet (f q)) = slabSet s := by
  ext x
  rw [Finset.mem_biUnion, mem_slabSet]
  have h0 : (x 0).val < 1024 := (x 0).isLt
  constructor
  · rintro ⟨q, -, hq⟩
    have := mem_rowSet.mp hq
    have := hf q
    omega
  · intro h
    obtain ⟨q, hq⟩ := hs ⟨(x 0).val / 64, by omega⟩ (by show (x 0).val / 64 / 4 = s.val; omega)
    exact ⟨q, Finset.mem_univ _, mem_rowSet.mpr (by rw [hq])⟩

end Cert.KernelIdeal.Hand

end
-- ==== Proof.KernelIdeal.Content.lean ====
/-
  What each buffer holds, as a function of the launch memory: the casts, the projection, the keys and values gathered
  head by head, the attention of a slab, the device's partial result, what it receives, and the summed result.
-/
module

public import proofs.«01_k».proof.Proof.KernelIdeal.Ring

@[expose] public section

set_option maxRecDepth 65536

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]
variable (m : (ℓ : Loc nD τ sig) → Buf (Elt F) ℓ)

/-! ## Inputs as staged -/

/-- The block of the queries' input, staged. -/
def xC (c : Dev nD) : (cc0_stg0_0 : Ref sig .tc).ty.Contents (Elt F) :=
  (win0_0.blk t0_0).view.read (Elt F) (m ((c : Thread nD τ).loc main_arg0))
def wqC (c : Dev nD) : (cc0_stg1_0 : Ref sig .tc).ty.Contents (Elt F) :=
  (win0_1.blk t0_0).view.read (Elt F) (m ((c : Thread nD τ).loc main_arg1))
def woC (c : Dev nD) : (cc0_stg2_0 : Ref sig .tc).ty.Contents (Elt F) :=
  (win0_2.blk t0_0).view.read (Elt F) (m ((c : Thread nD τ).loc main_arg4))
def kArr (c : Dev nD) : (main_arg2 : Ref sig .tc).ty.Contents (Elt F) := m ((c : Thread nD τ).loc main_arg2)
def vArr (c : Dev nD) : (main_arg3 : Ref sig .tc).ty.Contents (Elt F) := m ((c : Thread nD τ).loc main_arg3)

/-! ## Casts, projection, gathered heads -/

def xbC (c : Dev nD) : FVec F S1024x1024 .bf16 := k0_pay2 (k0_pay1 (xC m c))
def wqbC (c : Dev nD) : FVec F S1024x1024 .bf16 := k0_pay3 (wqC m c)
def qC (c : Dev nD) : FVec F S1024x1024 .bf16 := k0_pay4 (xbC m c) (wqbC m c)
def wobC (c : Dev nD) : FVec F S1024x1024 .bf16 := k0_pay5 (woC m c)

/-- The head a column belongs to. -/
def hdOf (x : S1024x1024.Idx) : Fin 8 := ⟨(x 1).val / 128, by have : (x 1).val < 1024 := (x 1).isLt; omega⟩
/-- An element's place within its head's columns. -/
def inHd (x : S1024x1024.Idx) : S1024x128.Idx := Shape.pair (d := ![1024, 128]) (x 0) (⟨(x 1).val % 128, Nat.mod_lt _ (by decide)⟩ : Fin 128)

def kfC (c : Dev nD) : FVec F S1024x1024 .f32 := fun x => (headM mK c (hdOf x)).view.read (Elt F) (kArr m c) (inHd x)
def vfC (c : Dev nD) : FVec F S1024x1024 .f32 := fun x => (headM mV c (hdOf x)).view.read (Elt F) (vArr m c) (inHd x)
def kbC (c : Dev nD) : FVec F S1024x1024 .bf16 := k0_pay7 (k0_pay6 (kfC m c))
def vbC (c : Dev nD) : FVec F S1024x1024 .bf16 := k0_pay8 (vfC m c)

/-! ## A slab -/

/-- One head of a slab's attention. -/
def ctxH (c : Dev nD) (u : Fin 4) (h : Fin 8) : FVec F S256x128 .bf16 :=
  k0_pay19 (bias c u)
    (mQ.view.readAt (Elt F) (Rect.unit (s := S1024x1024) (qoff c u h) S256x128.size (qoff_inb c u h)).toLoadRect (qC m c))
    (mKb.view.readAt (Elt F) (Rect.unit (s := S1024x1024) ![0, 128 * h.val] S1024x128.size (inbC h)).toLoadRect (kbC m c))
    (mVb.view.readAt (Elt F) (Rect.unit (s := S1024x1024) ![0, 128 * h.val] S1024x128.size (inbC h)).toLoadRect (vbC m c))

/-- The slab's attention, all heads. -/
def ctxC (c : Dev nD) (u : Fin 4) : FVec F S256x1024 .bf16 := fun x =>
  ctxH m c u ⟨(x 1).val / 128, by have : (x 1).val < 1024 := (x 1).isLt; omega⟩
    (Shape.pair (d := ![256, 128]) (x 0) (⟨(x 1).val % 128, Nat.mod_lt _ (by decide)⟩ : Fin 128))

/-- The slab's rows of the device's partial result. -/
def slabC (c : Dev nD) (u : Fin 4) : FVec F S256x1024 .bf16 := k0_pay25 (ctxC m c u) (wobC m c)

/-- The device's partial result. -/
def partC (c : Dev nD) : FVec F S1024x1024 .bf16 := fun x =>
  slabC m c (turnOf c ⟨(x 0).val / 256, by have : (x 0).val < 1024 := (x 0).isLt; omega⟩)
    (Shape.pair (d := ![256, 1024]) (⟨(x 0).val % 256, Nat.mod_lt _ (by decide)⟩ : Fin 256) (x 1))

/-! ## The sum -/

/-- A row of a chunk, in the whole. -/
def rowAt (i : Fin 16) (r : Fin 64) (y : Fin 1024) : S1024x1024.Idx :=
  Shape.pair (d := ![1024, 1024]) (⟨64 * i.val + r.val, by omega⟩ : Fin 1024) y

/-- What a device receives: in slot `k` its own chunk of the partial result of the device `k + 1` before it. -/
def rsC (c : Dev nD) : FVec F S15x64x1024 .bf16 := fun x => partC m (src c (x 0)) (rowAt (ch c) (x 1) (x 2))

def rsAt (c : Dev nD) (k : Fin 15) : Vec F S1x64x1024 .bf16 :=
  mRs.view.readAt (Elt F) (Rect.unit (s := S15x64x1024) ![k.val, 0, 0] S1x64x1024.size (inbSlot k)).toLoadRect (rsC m c)
def acc0 (c : Dev nD) : FVec F S64x1024 .f32 :=
  extf .f32 (show Vec F S64x1024 .bf16 from mPart.view.readAt (Elt F) (Rect.unit (s := S1024x1024) (k0_off26 c) S64x1024.size (k0_off26_inb c)).toLoadRect (partC m c)) bitsLt_bf16_f32
/-- The sum over the listed peers. -/
def accs (c : Dev nD) (l : List (Fin 15)) (a : FVec F S64x1024 .f32) : FVec F S64x1024 .f32 := l.foldl (fun a k => accVal a (rsAt m c k)) a

/-- The device's chunk of the result. -/
def redC (c : Dev nD) : FVec F S64x1024 .bf16 := truncf .bf16 (accs m c peers (acc0 m c)) bitsLt_bf16_f32

/-- The result: each chunk from its owner. -/
def outC : FVec F S1024x1024 .bf16 := fun x =>
  redC m (owner ⟨(x 0).val / 64, by have : (x 0).val < 1024 := (x 0).isLt; omega⟩)
    (Shape.pair (d := ![64, 1024]) (⟨(x 0).val % 64, Nat.mod_lt _ (by decide)⟩ : Fin 64) (x 1))

/-! ## Reads through the pieces -/

/-- Contents written through a view are, on the view's elements, any contents that read the same. -/
theorem write_eq_on {sp : Space} {s : Shape} {e : EltTy} (v : View sig .tc sp s e) (f g : v.ty.Contents (Elt F)) (w : s.Idx → Elt F e)
    (h : v.read (Elt F) g = w) : ∀ i ∈ v.set, v.write (Elt F) f w Finset.univ i = g i := by
  intro i hi
  rw [View.set, Finset.mem_map] at hi
  obtain ⟨x, -, rfl⟩ := hi
  rw [View.write_emb_of_mem (Val := Elt F) (v := v) (f := f) (w := w) (h := Finset.mem_univ x), ← h, View.read_apply]
  simp

/-- An element of head `h`'s columns is in head `h`, at its own place there. -/
theorem hdOf_emb (h : Fin 8) (x : S1024x128.Idx) :
    hdOf ((Rect.unit (s := S1024x1024) ![0, 128 * h.val] S1024x128.size (inbC h)).emb x) = h
      ∧ inHd ((Rect.unit (s := S1024x1024) ![0, 128 * h.val] S1024x128.size (inbC h)).emb x) = x := by
  have hx : (x 1).val < 128 := (x 1).isLt
  have e1 : ((Rect.unit (s := S1024x1024) ![0, 128 * h.val] S1024x128.size (inbC h)).emb x 1).val = 128 * h.val + 1 * (x 1).val := rfl
  have e0 : ((Rect.unit (s := S1024x1024) ![0, 128 * h.val] S1024x128.size (inbC h)).emb x 0).val = 0 + 1 * (x 0).val := rfl
  constructor
  · apply Fin.ext
    show _ / 128 = h.val
    rw [e1]; omega
  · funext b
    fin_cases b
    · apply Fin.ext; show ((Rect.unit (s := S1024x1024) ![0, 128 * h.val] S1024x128.size (inbC h)).emb x 0).val = (x 0).val; rw [e0]; omega
    · apply Fin.ext
      show ((Rect.unit (s := S1024x1024) ![0, 128 * h.val] S1024x128.size (inbC h)).emb x 1).val % 128 = (x 1).val
      rw [e1]; omega

/-- The gathered keys read at head `h` are that head of the key array. -/
theorem read_kf (c : Dev nD) (h : Fin 8) :
    (colM mKf h).view.read (Elt F) (kfC m c) = (headM mK c h).view.read (Elt F) (kArr m c) := by
  funext x
  show (headM mK c (hdOf ((Rect.unit (s := S1024x1024) ![0, 128 * h.val] S1024x128.size (inbC h)).emb x))).view.read (Elt F) (kArr m c) (inHd ((Rect.unit (s := S1024x1024) ![0, 128 * h.val] S1024x128.size (inbC h)).emb x)) = _
  rw [(hdOf_emb h x).1, (hdOf_emb h x).2]
/-- The gathered values read at head `h` are that head of the value array. -/
theorem read_vf (c : Dev nD) (h : Fin 8) :
    (colM mVf h).view.read (Elt F) (vfC m c) = (headM mV c h).view.read (Elt F) (vArr m c) := by
  funext x
  show (headM mV c (hdOf ((Rect.unit (s := S1024x1024) ![0, 128 * h.val] S1024x128.size (inbC h)).emb x))).view.read (Elt F) (vArr m c) (inHd ((Rect.unit (s := S1024x1024) ![0, 128 * h.val] S1024x128.size (inbC h)).emb x)) = _
  rw [(hdOf_emb h x).1, (hdOf_emb h x).2]

/-- The slab's attention read back head by head. -/
theorem read_ctx (c : Dev nD) (u : Fin 4) (h : Fin 8) :
    (mCtx.access (Rect.unit (s := S256x1024) ![0, 128 * h.val] S256x128.size (inbX h))).read (Elt F) (ctxC m c u) = ctxH m c u h := by
  funext x
  have hx : (x 1).val < 128 := (x 1).isLt
  have e1 : ((Rect.unit (s := S256x1024) ![0, 128 * h.val] S256x128.size (inbX h)).emb x 1).val = 128 * h.val + 1 * (x 1).val := rfl
  have e0 : ((Rect.unit (s := S256x1024) ![0, 128 * h.val] S256x128.size (inbX h)).emb x 0).val = 0 + 1 * (x 0).val := rfl
  show ctxC m c u ((Rect.unit (s := S256x1024) ![0, 128 * h.val] S256x128.size (inbX h)).emb x) = _
  unfold ctxC
  congr 1
  · congr 1
    show ((Rect.unit (s := S256x1024) ![0, 128 * h.val] S256x128.size (inbX h)).emb x 1).val / 128 = h.val
    rw [e1]; omega
  · funext b
    fin_cases b
    · apply Fin.ext
      show ((Rect.unit (s := S256x1024) ![0, 128 * h.val] S256x128.size (inbX h)).emb x 0).val = (x 0).val
      rw [e0]; omega
    · apply Fin.ext
      show ((Rect.unit (s := S256x1024) ![0, 128 * h.val] S256x128.size (inbX h)).emb x 1).val % 128 = (x 1).val
      rw [e1]; omega

/-- The partial result read back slab by slab. -/
theorem read_part (c : Dev nD) (u : Fin 4) :
    (mPart.access (Rect.unit (s := S1024x1024) (poff c u) S256x1024.size (poff_inb c u))).read (Elt F) (partC m c) = slabC m c u := by
  funext x
  have hx : (x 0).val < 256 := (x 0).isLt
  have hp := poff_eq c u
  have e0 : ((Rect.unit (s := S1024x1024) (poff c u) S256x1024.size (poff_inb c u)).emb x 0).val = 256 * (slabOf c u).val + 1 * (x 0).val := by
    exact congrArg (· + 1 * (x 0).val) (congrFun hp 0)
  have e1 : ((Rect.unit (s := S1024x1024) (poff c u) S256x1024.size (poff_inb c u)).emb x 1).val = 0 + 1 * (x 1).val := by
    exact congrArg (· + 1 * (x 1).val) (congrFun hp 1)
  show partC m c ((Rect.unit (s := S1024x1024) (poff c u) S256x1024.size (poff_inb c u)).emb x) = _
  unfold partC
  congr 1
  · rw [show (⟨((Rect.unit (s := S1024x1024) (poff c u) S256x1024.size (poff_inb c u)).emb x 0).val / 256, by rw [e0]; have := (slabOf c u).isLt; omega⟩ : Fin 4) = slabOf c u from
      Fin.ext (by show _ / 256 = _; rw [e0]; omega), turnOf_slabOf]
  · funext b
    fin_cases b
    · apply Fin.ext
      show ((Rect.unit (s := S1024x1024) (poff c u) S256x1024.size (poff_inb c u)).emb x 0).val % 256 = (x 0).val
      rw [e0]; omega
    · apply Fin.ext
      show ((Rect.unit (s := S1024x1024) (poff c u) S256x1024.size (poff_inb c u)).emb x 1).val = (x 1).val
      rw [e1]; omega

/-- A row and column of a chunk, as an element of a slot. -/
def slotIx (x : S64x1024.Idx) : S1x64x1024.Idx := fun b =>
  ⟨if b.val = 0 then 0 else if b.val = 1 then (x 0).val else (x 1).val, by
    have h0 : (x 0).val < 64 := (x 0).isLt
    have h1 : (x 1).val < 1024 := (x 1).isLt
    fin_cases b
    · show 0 < 1; omega
    · exact h0
    · exact h1⟩

/-- A slot of the receive buffer reads as the sender's rows of the chunk. -/
theorem read_slot (c : Dev nD) (k : Fin 15)
    (h : ∀ a, (![64 * (ch c).val, 0] : Fin 2 → Nat) a + S64x1024.size a ≤ S1024x1024.size a) :
    (slotM ![k.val, 0, 0] (inbSlot k)).view.read (Elt F) (rsC m c)
      = (rowsM mPart ![64 * (ch c).val, 0] h).view.read (Elt F) (partC m (src c k)) := by
  funext x
  have hr : Shape.reshapeEquiv (s := S1x64x1024) (s' := S64x1024) squeezes_S1x64x1024_S64x1024.numel_eq x = slotIx x := by
    apply Shape.reshapeEquiv_eq_of_rowMajor
    rw [Shape.rowMajor_val_two, Shape.rowMajor_val_three]
    show (0 * 64 + (x 0).val) * 1024 + (x 1).val = _
    simp
  show rsC m c ((Rect.unit (s := S15x64x1024) ![k.val, 0, 0] S1x64x1024.size (inbSlot k)).emb (Shape.reshapeEquiv (s := S1x64x1024) (s' := S64x1024) squeezes_S1x64x1024_S64x1024.numel_eq x))
    = partC m (src c k) ((Rect.unit (s := S1024x1024) ![64 * (ch c).val, 0] S64x1024.size h).emb x)
  rw [hr]
  unfold rsC
  have ek : (Rect.unit (s := S15x64x1024) ![k.val, 0, 0] S1x64x1024.size (inbSlot k)).emb (slotIx x) 0 = k :=
    Fin.ext (by show k.val + 1 * 0 = k.val; omega)
  rw [show src c ((Rect.unit (s := S15x64x1024) ![k.val, 0, 0] S1x64x1024.size (inbSlot k)).emb (slotIx x) 0) = src c k from congrArg (src c) ek]
  congr 1
  · funext b
    fin_cases b
    · apply Fin.ext
      show 64 * (ch c).val + (0 + 1 * (x 0).val) = 64 * (ch c).val + 1 * (x 0).val
      omega
    · apply Fin.ext
      show 0 + 1 * (x 1).val = 0 + 1 * (x 1).val
      rfl

/-- The result read back chunk by chunk. -/
theorem read_out (c : Dev nD) :
    (mOut.access (Rect.unit (s := S1024x1024) (k0_off26 c) S64x1024.size (k0_off26_inb c))).read (Elt F) (outC m) = redC m c := by
  funext x
  have hx : (x 0).val < 64 := (x 0).isLt
  have hp := off26_eq c
  have e0 : ((Rect.unit (s := S1024x1024) (k0_off26 c) S64x1024.size (k0_off26_inb c)).emb x 0).val = 64 * (ch c).val + 1 * (x 0).val := by
    exact congrArg (· + 1 * (x 0).val) (congrFun hp 0)
  have e1 : ((Rect.unit (s := S1024x1024) (k0_off26 c) S64x1024.size (k0_off26_inb c)).emb x 1).val = 0 + 1 * (x 1).val := by
    exact congrArg (· + 1 * (x 1).val) (congrFun hp 1)
  show outC m ((Rect.unit (s := S1024x1024) (k0_off26 c) S64x1024.size (k0_off26_inb c)).emb x) = _
  unfold outC
  congr 1
  · rw [show (⟨((Rect.unit (s := S1024x1024) (k0_off26 c) S64x1024.size (k0_off26_inb c)).emb x 0).val / 64, by rw [e0]; have := (ch c).isLt; omega⟩ : Fin 16) = ch c from
      Fin.ext (by show _ / 64 = _; rw [e0]; omega), owner_ch]
  · funext b
    fin_cases b
    · apply Fin.ext
      show ((Rect.unit (s := S1024x1024) (k0_off26 c) S64x1024.size (k0_off26_inb c)).emb x 0).val % 64 = (x 0).val
      rw [e0]; omega
    · apply Fin.ext
      show ((Rect.unit (s := S1024x1024) (k0_off26 c) S64x1024.size (k0_off26_inb c)).emb x 1).val = (x 1).val
      rw [e1]; omega

end Cert.KernelIdeal.Hand

end
-- ==== Proof.KernelIdeal.Sched.lean ====
/-
  The protocol: which semaphore of which device is raised by whom, by how much, and what each raise hands over. Every
  semaphore serves one round. A device's barrier semaphore is raised once by each of the fifteen others, who thereby
  lends the slot of its receive buffer and the rows of its result that the waiting device will write. The other
  semaphores are each raised by one transfer.
-/
module

public import proofs.«01_k».proof.Proof.KernelIdeal.Content
public import Idealize.ShloMosaic.Lib.Pipeline.Launch
public import Idealize.ShloMosaic.Lib.Pipeline.Kit
public import Idealize.ShloMosaic.Lib.Tactic

@[expose] public section

set_option maxRecDepth 65536

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## Resources -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

/-- The semaphores the protocol uses: the barrier's, and the kernel's own seventy-six. -/
abbrev CI : Type := Option (Fin 76)
def csem : CI → SemLoc sig
  | none => .reg barS
  | some i => .dma (⟨i.val + 4, by show _ < 80; omega⟩ : Fin 80)
abbrev cell (c : Dev nD) (i : CI) : GSem nD τ sig := ((c : Thread nD τ), csem i)

/-- The load semaphores; those of the scattered chunks leaving and arriving; those of the result leaving and arriving. -/
abbrev iL (k : Fin 16) : CI := some ⟨k.val, by omega⟩
abbrev iRS (k : Fin 15) : CI := some ⟨16 + k.val, by omega⟩
abbrev iRR (k : Fin 15) : CI := some ⟨31 + k.val, by omega⟩
abbrev iAS (k : Fin 15) : CI := some ⟨46 + k.val, by omega⟩
abbrev iAR (k : Fin 15) : CI := some ⟨61 + k.val, by omega⟩

/-- The semaphore of a load, as a cell. -/
theorem csem_L (k : Fin 16) : SemLoc.dma (sem16 cc0_scratch11 ![k.val] (inbSem16 k)) = csem (iL k) := by
  rw [sem16_eq]; exact congrArg SemLoc.dma (Fin.ext (Nat.add_comm _ _))
/-- The semaphore of a partial chunk's send, as a cell. -/
theorem csem_RS (k : Fin 15) : SemLoc.dma (sem15 cc0_scratch12 ![k.val] (inbSem15 k)) = csem (iRS k) := by
  rw [sem15_eq12]; exact congrArg SemLoc.dma (Fin.ext (by show 20 + k.val = 16 + k.val + 4; omega))
/-- The semaphore of a partial chunk's arrival, as a cell. -/
theorem csem_RR (k : Fin 15) : SemLoc.dma (sem15 cc0_scratch13 ![k.val] (inbSem15 k)) = csem (iRR k) := by
  rw [sem15_eq13]; exact congrArg SemLoc.dma (Fin.ext (by show 35 + k.val = 31 + k.val + 4; omega))
/-- The semaphore of a summed chunk's send, as a cell. -/
theorem csem_AS (k : Fin 15) : SemLoc.dma (sem15 cc0_scratch14 ![k.val] (inbSem15 k)) = csem (iAS k) := by
  rw [sem15_eq14]; exact congrArg SemLoc.dma (Fin.ext (by show 50 + k.val = 46 + k.val + 4; omega))
/-- The semaphore of a summed chunk's arrival, as a cell. -/
theorem csem_AR (k : Fin 15) : SemLoc.dma (sem15 cc0_scratch15 ![k.val] (inbSem15 k)) = csem (iAR k) := by
  rw [sem15_eq15]; exact congrArg SemLoc.dma (Fin.ext (by show 65 + k.val = 61 + k.val + 4; omega))

/-- Different cells are different semaphores. -/
theorem csem_injective : Function.Injective csem := by
  rintro (_ | i) (_ | j) h
  · rfl
  · exact absurd h (fun h => by cases h)
  · exact absurd h (fun h => by cases h)
  · have h' := congrArg Fin.val (SemLoc.dma.inj h)
    have : i.val + 4 = j.val + 4 := h'
    exact congrArg some (Fin.ext (by omega))

/-! ## Amounts -/

/-- What a transfer of one head's block credits, -/
abbrev NL : ℕ := (colM mKf 0).view.dmaCredit
/-- and what a transfer of one chunk credits. -/
abbrev NR : ℕ := (slotM ![(0 : Fin 15).val, 0, 0] (inbSlot 0)).view.dmaCredit
/-- A load counts for something. -/
theorem NL_pos : 0 < NL := View.dmaCredit_pos _ (by decide)
/-- A chunk counts for something. -/
theorem NR_pos : 0 < NR := View.dmaCredit_pos _ (by decide)

/-! ## What a raise hands over -/

/-- What is left of the full share after `n` halvings, -/
def shR : ℕ → PosShare TreeShare
  | 0 => fullShare
  | n + 1 => (shR n).right
/-- and the half given away at the next. -/
def shL (n : ℕ) : PosShare TreeShare := (shR n).left

/-- From the device `j + 1` before `c`: the slot of its receive buffer `c` writes, and `c`'s rows of its result. -/
def barPay (c : Dev nD) (j : Fin 15) : sProp 𝕄 :=
  iprop((∃ f, ((src c j : Thread nD τ).loc cc0_scratch10) ↦[slotSet (Fin.rev j)]{fullShare} f)
    ∗ ∃ f, ((src c j : Thread nD τ).loc cc0_stg3_0) ↦[rowSet (ch c)]{fullShare} f)
def ldKPay (c : Dev nD) (h : Fin 8) : sProp 𝕄 :=
  iprop((((c : Thread nD τ).loc cc0_scratch0) ↦[colSet h]{fullShare} kfC m c)
    ∗ (((c : Thread nD τ).loc main_arg2) ↦[headSet c h]{fullShare} kArr m c))
def ldVPay (c : Dev nD) (h : Fin 8) : sProp 𝕄 :=
  iprop((((c : Thread nD τ).loc cc0_scratch1) ↦[colSet h]{fullShare} vfC m c)
    ∗ (((c : Thread nD τ).loc main_arg3) ↦[headSet c h]{fullShare} vArr m c))
def rsSPay (c : Dev nD) (k : Fin 15) : sProp 𝕄 := ((c : Thread nD τ).loc cc0_scratch9) ↦[rowSet (ch (peer c k))]{fullShare} partC m c
def rsRPay (c : Dev nD) (k : Fin 15) : sProp 𝕄 := ((c : Thread nD τ).loc cc0_scratch10) ↦[slotSet k]{fullShare} rsC m c
def agSPay (c : Dev nD) (j : Fin 15) : sProp 𝕄 := ((c : Thread nD τ).loc cc0_stg3_0) ↦[rowSet (ch c)]{shL j.val} outC m
def agRPay (c : Dev nD) (k : Fin 15) : sProp 𝕄 := ((c : Thread nD τ).loc cc0_stg3_0) ↦[rowSet (ch (src c k))]{fullShare} outC m

/-- What a raise of the kernel's own semaphore `i` hands over. -/
def dmaPay (c : Dev nD) (i : ℕ) : sProp 𝕄 :=
  if h : i < 4 then iprop(emp)
  else if h : i < 12 then ldKPay m c ⟨i - 4, by omega⟩
  else if h : i < 20 then ldVPay m c ⟨i - 12, by omega⟩
  else if h : i < 35 then rsSPay m c ⟨i - 20, by omega⟩
  else if h : i < 50 then rsRPay m c ⟨i - 35, by omega⟩
  else if h : i < 65 then agSPay m c ⟨i - 50, by omega⟩
  else if h : i < 80 then agRPay m c ⟨i - 65, by omega⟩
  else iprop(emp)

def pay (g : GSem nD τ sig) (d : Fin 15) : sProp 𝕄 :=
  match g.2 with
  | .reg _ => barPay g.1.1 d
  | .dma q => dmaPay m g.1.1 q.val

def duts (g : GSem nD τ sig) : Finset (Fin 15) :=
  if g.1.2 = .tc then
    match g.2 with
    | .reg _ => Finset.univ
    | .dma q => if 4 ≤ q.val then {0} else ∅
  else ∅

def amt (s : SemLoc sig) : ℕ :=
  match s with
  | .reg _ => 1
  | .dma q => if q.val < 20 then NL else NR

/-- Every payment counts for something. -/
theorem amt_pos (s : SemLoc sig) : 0 < amt s := by
  cases s with
  | reg s => exact Nat.one_pos
  | dma q => unfold amt; dsimp only; split; exacts [NL_pos, NR_pos]

/-- The schedule: one round. -/
def Rd : Rounds.Schedule (GSem nD τ sig) (Fin 15) 𝕄 where
  duties g r := if r = 0 then duts g else ∅
  unitless _ := False
  amount g _ _ := amt g.2
  payload g _ d := pay m g d
  amount_pos g _ _ _ := amt_pos g.2

instance dmaPay_storable (c : Dev nD) (i : ℕ) : BI.Storable (upEmb : UEmb _ 𝕄) (dmaPay (F := F) m c i) := by
  unfold dmaPay ldKPay ldVPay rsSPay rsRPay agSPay agRPay
  repeat' split
  all_goals infer_instance
instance barPay_storable (c : Dev nD) (d : Fin 15) : BI.Storable (upEmb : UEmb _ 𝕄) (barPay (F := F) c d) := by
  unfold barPay; infer_instance
instance Rd_payload_storable (g : GSem nD τ sig) (r : ℕ) (d : Fin 15) :
    BI.Storable (upEmb : UEmb _ 𝕄) ((Rd (F := F) m).payload g r d) := by
  show BI.Storable upEmb (pay m g d)
  unfold pay
  split <;> infer_instance

section
variable (c : Dev nD)

/-- A barrier has one duty for each peer. -/
theorem duties_bar : (Rd (F := F) m).duties (cell c none) 0 = Finset.univ := rfl
/-- Every other cell has one duty. -/
theorem duties_some (i : Fin 76) : (Rd (F := F) m).duties (cell c (some i)) 0 = {0} := by
  show (if 4 ≤ i.val + 4 then ({0} : Finset (Fin 15)) else ∅) = {0}
  exact if_pos (Nat.le_add_left _ _)
/-- There is only the first round. -/
theorem duties_later (g : GSem nD τ sig) : ∀ r, 1 ≤ r → (Rd (F := F) m).duties g r = ∅ :=
  fun r hr => if_neg (by omega)

/-- A duty's amount depends on its semaphore alone. -/
theorem amount_eq (i : CI) (d : Fin 15) : (Rd (F := F) m).amount (cell c i) 0 d = amt (csem i) := rfl
/-- A barrier signal counts one. -/
theorem amt_bar : amt (csem none) = 1 := rfl
/-- A load's semaphore counts a load. -/
theorem amt_L (k : Fin 16) : amt (csem (iL k)) = NL := if_pos (by show k.val + 4 < 20; omega)
/-- The semaphore of a partial chunk's send counts a chunk. -/
theorem amt_RS (k : Fin 15) : amt (csem (iRS k)) = NR := if_neg (by show ¬ 16 + k.val + 4 < 20; omega)
/-- The semaphore of a partial chunk's arrival counts a chunk. -/
theorem amt_RR (k : Fin 15) : amt (csem (iRR k)) = NR := if_neg (by show ¬ 31 + k.val + 4 < 20; omega)
/-- The semaphore of a summed chunk's send counts a chunk. -/
theorem amt_AS (k : Fin 15) : amt (csem (iAS k)) = NR := if_neg (by show ¬ 46 + k.val + 4 < 20; omega)
/-- The semaphore of a summed chunk's arrival counts a chunk. -/
theorem amt_AR (k : Fin 15) : amt (csem (iAR k)) = NR := if_neg (by show ¬ 61 + k.val + 4 < 20; omega)

/-- A barrier expects fifteen. -/
theorem expect_bar : (Rd (F := F) m).expect (cell c none) 0 = 15 := by
  unfold Schedule.expect Schedule.amountOf
  rw [duties_bar]
  rfl
/-- Every other cell expects its one amount. -/
theorem expect_some (i : Fin 76) : (Rd (F := F) m).expect (cell c (some i)) 0 = amt (csem (some i)) := by
  unfold Schedule.expect Schedule.amountOf
  rw [duties_some, Finset.sum_singleton]; rfl

/-- What a barrier signal hands over. -/
theorem payload_bar (d : Fin 15) : (Rd (F := F) m).payload (cell c none) 0 d = barPay c d := rfl
/-- What a load of the keys hands over. -/
theorem payload_LK (h : Fin 8) : (Rd (F := F) m).payload (cell c (iL (semK h))) 0 0 = ldKPay m c h := by
  show dmaPay m c (h.val + 4) = _
  unfold dmaPay
  rw [dif_neg (by omega), dif_pos (by omega)]
  congr 1
/-- What a load of the values hands over. -/
theorem payload_LV (h : Fin 8) : (Rd (F := F) m).payload (cell c (iL (semV h))) 0 0 = ldVPay m c h := by
  show dmaPay m c (8 + h.val + 4) = _
  unfold dmaPay
  rw [dif_neg (by omega), dif_neg (by omega), dif_pos (by omega)]
  congr 1; apply Fin.ext; show 8 + h.val + 4 - 12 = h.val; omega
/-- What the end of a partial chunk's send hands over. -/
theorem payload_RS (k : Fin 15) : (Rd (F := F) m).payload (cell c (iRS k)) 0 0 = rsSPay m c k := by
  show dmaPay m c (16 + k.val + 4) = _
  unfold dmaPay
  rw [dif_neg (by omega), dif_neg (by omega), dif_neg (by omega), dif_pos (by omega)]
  congr 1; apply Fin.ext; show 16 + k.val + 4 - 20 = k.val; omega
/-- What a partial chunk's arrival hands over. -/
theorem payload_RR (k : Fin 15) : (Rd (F := F) m).payload (cell c (iRR k)) 0 0 = rsRPay m c k := by
  show dmaPay m c (31 + k.val + 4) = _
  unfold dmaPay
  rw [dif_neg (by omega), dif_neg (by omega), dif_neg (by omega), dif_neg (by omega), dif_pos (by omega)]
  congr 1; apply Fin.ext; show 31 + k.val + 4 - 35 = k.val; omega
/-- What the end of a summed chunk's send hands over. -/
theorem payload_AS (k : Fin 15) : (Rd (F := F) m).payload (cell c (iAS k)) 0 0 = agSPay m c k := by
  show dmaPay m c (46 + k.val + 4) = _
  unfold dmaPay
  rw [dif_neg (by omega), dif_neg (by omega), dif_neg (by omega), dif_neg (by omega), dif_neg (by omega), dif_pos (by omega)]
  congr 1; apply Fin.ext; show 46 + k.val + 4 - 50 = k.val; omega
/-- What a summed chunk's arrival hands over. -/
theorem payload_AR (k : Fin 15) : (Rd (F := F) m).payload (cell c (iAR k)) 0 0 = agRPay m c k := by
  show dmaPay m c (61 + k.val + 4) = _
  unfold dmaPay
  rw [dif_neg (by omega), dif_neg (by omega), dif_neg (by omega), dif_neg (by omega), dif_neg (by omega), dif_neg (by omega), dif_pos (by omega)]
  congr 1; apply Fin.ext; show 61 + k.val + 4 - 65 = k.val; omega

/-- What a wait at the barrier hands over. -/
theorem rest_bar : bigSep ((Rd (F := F) m).duties (cell c none) 0 \ ∅) (fun d => (Rd (F := F) m).payload (cell c none) 0 d)
    = bigSep Finset.univ (fun d => barPay (F := F) c d) := by
  rw [Finset.sdiff_empty, duties_bar]; rfl
/-- What a wait at any other cell hands over. -/
theorem rest_some (i : Fin 76) : bigSep ((Rd (F := F) m).duties (cell c (some i)) 0 \ ∅) (fun d => (Rd (F := F) m).payload (cell c (some i)) 0 d)
    = (Rd (F := F) m).payload (cell c (some i)) 0 0 := by
  rw [Finset.sdiff_empty, duties_some, bigSep_singleton]

end

/-! ## What each device owes, and the order of the cells -/

/-- The sum of the dues of a list of peers, first peer outermost. -/
def owl (t : Fin 15 → CellTallies nD τ sig Unit) : List (Fin 15) → CellTallies nD τ sig Unit
  | [] => 0
  | a :: l => owl t l + t a

/-- The due to the peer's barrier; to the arrival of the scattered chunk sent as number `n`; to the arrival of the result. -/
def tBar (c : Dev nD) (j : Fin 15) : CellTallies nD τ sig Unit := tallyAt (cell (peer c j) none) () 1
def tRR (c : Dev nD) (n : Fin 15) : CellTallies nD τ sig Unit := tallyAt (cell (peer c (kk c n)) (iRR (kk c n))) () NR
def tAR (c : Dev nD) (j : Fin 15) : CellTallies nD τ sig Unit := tallyAt (cell (peer c j) (iAR j)) () NR

def O3 (c : Dev nD) (l : List (Fin 15)) : CellTallies nD τ sig Unit := owl (tAR c) l
def O2 (c : Dev nD) (l : List (Fin 15)) : CellTallies nD τ sig Unit := O3 c peers + owl (tRR c) l
def O1 (c : Dev nD) (l : List (Fin 15)) : CellTallies nD τ sig Unit := O2 c peers + owl (tBar c) l
def O₀ (c : Dev nD) : CellTallies nD τ sig Unit := O1 c peers

/-- What is owed before a summed chunk's send is what is owed after it and that chunk. -/
theorem O3_cons (c : Dev nD) (a : Fin 15) (l : List (Fin 15)) : O3 c (a :: l) = O3 c l + tAR c a := rfl
/-- What is owed before a partial chunk's send is what is owed after it and that chunk. -/
theorem O2_cons (c : Dev nD) (a : Fin 15) (l : List (Fin 15)) : O2 c (a :: l) = O2 c l + tRR c a := (add_assoc _ _ _).symm
/-- What is owed before a signal is what is owed after it and that signal. -/
theorem O1_cons (c : Dev nD) (a : Fin 15) (l : List (Fin 15)) : O1 c (a :: l) = O1 c l + tBar c a := (add_assoc _ _ _).symm
/-- After the last partial chunk's send the summed chunks are owed. -/
theorem O2_nil (c : Dev nD) : O2 c [] = O3 c peers := add_zero _
/-- After the last signal the chunks are owed. -/
theorem O1_nil (c : Dev nD) : O1 c [] = O2 c peers := add_zero _

/-- A cell some of a list's dues go to is one of them. -/
theorem owl_pos {t : Fin 15 → CellTallies nD τ sig Unit} {l : List (Fin 15)} {g : GSem nD τ sig} {u : Unit} (h : 0 < owl t l g u) :
    ∃ a, 0 < t a g u := by
  induction l with
  | nil => exact absurd h (Nat.lt_irrefl 0)
  | cons a l ih =>
    have h' : 0 < owl t l g u + t a g u := h
    rcases Nat.eq_zero_or_pos (t a g u) with e | e
    · exact ih (by omega)
    · exact ⟨a, e⟩

/-- A tally at one cell counts there alone. -/
theorem tallyAt_pos {g g' : GSem nD τ sig} {u : Unit} {n : ℕ} (h : 0 < tallyAt g () n g' u) : g' = g := by
  rw [tallyAt_apply] at h
  by_contra hn
  rw [if_neg (fun h' => hn h'.1)] at h
  exact Nat.lt_irrefl 0 h

def L (g : GSem nD τ sig) : Finset Unit := if g.1.2 = .tc then {()} else ∅
/-- Barrier cells at 1, arrivals of scattered chunks at 2, arrivals of the result at 3, everything else at 0. -/
def lvS (s : SemLoc sig) : ℕ :=
  match s with
  | .reg _ => 1
  | .dma q => if 35 ≤ q.val ∧ q.val < 50 then 2 else if 65 ≤ q.val then 3 else 0
def lv (g : GSem nD τ sig) (_ : Unit) : ℕ := lvS g.2

/-- Only a TensorCore's cells have a level. -/
theorem L_of_ne (g : GSem nD τ sig) (h : g.1.2 ≠ .tc) : L g = ∅ := if_neg h
/-- Every TensorCore's cell has a level. -/
theorem L_tc (c : Dev nD) (sm : SemLoc sig) : L ((c : Thread nD τ), sm) = {()} := if_pos rfl

/-- The arrival of a partial chunk is at level 2. -/
theorem lv_RR (k : Fin 15) : lvS (csem (iRR k)) = 2 := if_pos (by show 35 ≤ 31 + k.val + 4 ∧ 31 + k.val + 4 < 50; omega)
/-- The arrival of a summed chunk is at level 3. -/
theorem lv_AR (k : Fin 15) : lvS (csem (iAR k)) = 3 := by
  unfold lvS csem
  show (if 35 ≤ 61 + k.val + 4 ∧ 61 + k.val + 4 < 50 then 2 else if 65 ≤ 61 + k.val + 4 then 3 else 0) = 3
  rw [if_neg (by omega), if_pos (by omega)]
/-- The end of a load is at level 0. -/
theorem lv_L (k : Fin 16) : lvS (csem (iL k)) = 0 := by
  show (if 35 ≤ k.val + 4 ∧ k.val + 4 < 50 then 2 else if 65 ≤ k.val + 4 then 3 else 0) = 0
  rw [if_neg (by omega), if_neg (by omega)]

/-- Every due of a list is to a TensorCore's cell at level at least `b`. -/
def Above (b : ℕ) (O : CellTallies nD τ sig Unit) : Prop := ∀ (g : GSem nD τ sig) (u : Unit), 0 < O g u → g.1.2 = .tc ∧ b < lvS g.2

/-- Two lists of dues above a level are above it together. -/
theorem above_add {b : ℕ} {O O' : CellTallies nD τ sig Unit} (h : Above b O) (h' : Above b O') : Above b (O + O') := by
  intro g u hg
  have hg' : 0 < O g u + O' g u := hg
  rcases Nat.eq_zero_or_pos (O g u) with e | e
  · exact h' g u (by omega)
  · exact h g u e
/-- The summed chunks owed are above level 2. -/
theorem above_O3 (c : Dev nD) (l : List (Fin 15)) : Above 2 (O3 c l) := by
  intro g u hg
  obtain ⟨a, ha⟩ := owl_pos hg
  have := tallyAt_pos ha
  subst this
  exact ⟨rfl, by rw [lv_AR]; decide⟩
/-- Dues above a level are above any lower one. -/
theorem above_mono {b b' : ℕ} (h : b' ≤ b) {O : CellTallies nD τ sig Unit} (hO : Above b O) : Above b' O :=
  fun g u hg => ⟨(hO g u hg).1, lt_of_le_of_lt h (hO g u hg).2⟩
/-- The chunks owed are above level 1. -/
theorem above_O2 (c : Dev nD) (l : List (Fin 15)) : Above 1 (O2 c l) := by
  refine above_add (above_mono (by decide) (above_O3 c peers)) fun g u hg => ?_
  obtain ⟨a, ha⟩ := owl_pos hg
  have := tallyAt_pos ha
  subst this
  exact ⟨rfl, by rw [lv_RR]; decide⟩
/-- Everything owed is above level 0. -/
theorem above_O1 (c : Dev nD) (l : List (Fin 15)) : Above 0 (O1 c l) := by
  refine above_add (above_mono (by decide) (above_O2 c peers)) fun g u hg => ?_
  obtain ⟨a, ha⟩ := owl_pos hg
  have := tallyAt_pos ha
  subst this
  exact ⟨rfl, Nat.one_pos⟩

/-- A wait at a cell below everything owed. -/
theorem mayWait_of (c : Dev nD) (s : SemLoc sig) {b : ℕ} (hs : lvS s ≤ b) {O : CellTallies nD τ sig Unit} (hO : Above b O) :
    (levAts L lv : sProp 𝕄) ⊢ MayWait (c : Thread nD τ) s () O :=
  MayOwe.of_cut (L := L) (lev := lv) b (fun p hp => by rw [Finset.mem_singleton.mp hp, L_tc]; exact Finset.mem_singleton_self _)
    (fun g u hg => by rw [show L g = {()} from if_pos (hO g u hg).1]; exact Finset.mem_singleton_self _)
    (fun p hp => by rw [Finset.mem_singleton.mp hp]; exact hs)
    (fun g u hg => (hO g u hg).2)

end Cert.KernelIdeal.Hand

end
-- ==== Proof.KernelIdeal.Steps.lean ====
/-
  One lemma per kind of step of the body: what it needs and what it leaves.
-/
module

public import proofs.«01_k».proof.Proof.KernelIdeal.Sched
public import Idealize.ShloMosaic.Lib.Pipeline.BigSepL

@[expose] public section

set_option maxRecDepth 65536

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

abbrev 𝒱₀ : Variants := Variants.none

/-- The weakest precondition of a piece of device `c`'s body. -/
abbrev WP (c : Dev nD) {α : Type} (p : PG F α) (Q : α → sProp 𝕄) : sProp 𝕄 :=
  wp frame (wpE (defs₀ (F := F)) 𝒱₀ (c : Thread nD τ) none) Set.univ p Q

/-- What device `c` owes, whatever it has waited for. -/
def OW (c : Dev nD) (O : CellTallies nD τ sig Unit) : sProp 𝕄 := iprop(∃ W : Waits sig Unit, owes (c : Thread nD τ) O W)

/-- A piece followed by the rest. -/
theorem wp_seq (c : Dev nD) {α β : Type} {p : PG F α} {k : α → PG F β} {A : sProp 𝕄} {B : α → sProp 𝕄} {Q : β → sProp 𝕄}
    (h : A ⊢ WP c p B) : A ⊢ iprop((∀ a, B a -∗ WP c (k a) Q) -∗ WP c (p >>= k) Q) := by
  unfold WP
  rw [wp_bind]
  exact h.trans (wp_wand _ _ _)

/-- The last piece. -/
theorem wp_fin (c : Dev nD) {α : Type} {p : PG F α} {A : sProp 𝕄} {B Q : α → sProp 𝕄}
    (h : A ⊢ WP c p B) : A ⊢ iprop((∀ a, B a -∗ Q a) -∗ WP c p Q) :=
  h.trans (wp_wand _ _ _)

/-- A loop over a list: a state passed on, and what each element needs and leaves. -/
theorem wp_forL (c : Dev nD) {α : Type} (l : List α) (f : α → PG F PUnit) (P : sProp 𝕄) [BI.Persistent P] (R : List α → sProp 𝕄)
    (A B : α → sProp 𝕄) (h : ∀ a l, iprop(P ∗ R (a :: l) ∗ A a) ⊢ WP c (f a) (fun _ => iprop(R l ∗ B a))) :
    iprop(P ∗ R l ∗ bigSepL l A) ⊢ WP c (forL l f) (fun _ => iprop(R [] ∗ bigSepL l B)) := by
  induction l with
  | nil =>
    unfold WP forL
    rw [wp_pure]
    iintro ⟨-, HR, -⟩
    imodintro
    isplitl [HR]; · iexact HR
    rw [bigSepL_nil]
    iempintro
  | cons a l ih =>
    rw [bigSepL_cons', bigSepL_cons']
    iintro ⟨#HP, HR, Ha, Hl⟩
    iapply (wp_seq c (h a l)) $$ [HR Ha]
    · isplitr; · iexact HP
      isplitl [HR] <;> iassumption
    iintro %x ⟨HR, Hb⟩
    iapply (wp_fin c ih) $$ [HR Hl]
    · isplitr; · iexact HP
      isplitl [HR] <;> iassumption
    iintro %y ⟨HR, Hl⟩
    isplitl [HR]; · iexact HR
    isplitl [Hb] <;> iassumption

/-! ## The records -/

variable (K : Dev nD × CI → ℕ)

/-- Every cell's invariant, and that every cell is at its first round. -/
def recs : sProp 𝕄 :=
  bigSep Finset.univ fun p : Dev nD × CI => iprop(cellInv ER (Rd m) (K p) (cell p.1 p.2) ∗ reached ER (cell p.1 p.2) 0)

instance recs_persistent : BI.Persistent (recs (F := F) m K) := by unfold recs; infer_instance

/-- The records and the order of the cells: what every step may use. -/
def PP : sProp 𝕄 := iprop(recs m K ∗ levAts L lv)
instance PP_persistent : BI.Persistent (PP (F := F) m K) := by unfold PP; infer_instance

/-- The record of one cell. -/
theorem recs_at (c : Dev nD) (i : CI) : recs (F := F) m K ⊢ iprop(cellInv ER (Rd m) (K (c, i)) (cell c i) ∗ reached ER (cell c i) 0) :=
  bigSep_elim (Finset.mem_univ ((c, i) : Dev nD × CI))
/-- The order of the cells. -/
theorem PP_lev : PP (F := F) m K ⊢ levAts L lv := by unfold PP; exact sep_elim_right
/-- One cell's invariant. -/
theorem PP_inv (c : Dev nD) (i : CI) : PP (F := F) m K ⊢ cellInv ER (Rd m) (K (c, i)) (cell c i) :=
 by
  unfold PP
  iintro ⟨HR, -⟩
  ihave H := (recs_at m K c i) $$ HR
  icases H with ⟨H, -⟩
  iexact H
/-- One cell is at its first round. -/
theorem PP_reached (c : Dev nD) (i : CI) : PP (F := F) m K ⊢ reached ER (cell c i) 0 :=
 by
  unfold PP
  iintro ⟨HR, -⟩
  ihave H := (recs_at m K c i) $$ HR
  icases H with ⟨-, H⟩
  iexact H

/-! ## Waits -/

set_option maxHeartbeats 800000 in
/-- A wait for one transfer: its payload, and the semaphore drained. -/
theorem wp_wait (c : Dev nD) (i : Fin 76) (s : DmaSem sig) (hs : SemLoc.dma s = csem (some i)) {sp sp' : Space} {s₁ s₂ : Shape} {e₁ e₂ : EltTy}
    (a : Memref sig .tc sp s₁ e₁) (b : Memref sig .tc sp' s₂ e₂) (ha hb) (n : ℕ) (hn : b.view.dmaCredit = n) (hamt : amt (csem (some i)) = n)
    (O : CellTallies nD τ sig Unit) (hO : (levAts L lv : sProp 𝕄) ⊢ MayWait (c : Thread nD τ) (csem (some i)) () O) :
    iprop(PP m K ∗ OW c O ∗ cred (tallyAt (cell c (some i)) () n) ∗ atPos ER (cell c (some i)) 0 ∅ 0)
      ⊢ WP c (Prog.lift (.waitDma2 s a b ha hb)) (fun _ => iprop(OW c O ∗ semVal (cell c (some i)) 0 ∗ (Rd m).payload (cell c (some i)) 0 0)) := by
  subst hn
  unfold OW
  iintro ⟨#HP, ⟨%W, HO⟩, Hc, Hat⟩
  ihave #HI := (PP_inv m K c (some i)) $$ HP
  have e : cell c (some i) = ((c : Thread nD τ), SemLoc.dma s) := by rw [cell, hs]
  unfold WP Prog.lift
  iapply (Rounds.wp_wait_rest_token 𝒱₀ ER (Rd m) (c : Thread nD τ) none (κ := K (c, some i)) (sm := .dma s)
      (wpE_waitDma2_eq 𝒱₀ (c : Thread nD τ) none Set.univ) (Set.mem_univ _) () (O := O) (W := W) (R := 0) (m := 0) (T := ∅)
      (by rw [← e, expect_some, hamt]; exact Nat.zero_add _)) $$ [Hc HO Hat]
  · rw [← e]
    isplitr; · iexact HI
    isplitl [Hc]; · iexact Hc
    isplitl [HO]; · iexact HO
    isplitr; · rw [hs]; iapply hO; iapply (PP_lev m K); iexact HP
    iexact Hat
  rw [← e, rest_some]
  iintro ⟨HO, Hat, -, Hp⟩
  imod (Rounds.cell_close ER (Rd m) (Set.mem_univ (K (c, some i))) (fun h => h) (R := 0 + 1) (duties_later m (cell c (some i)) · ·)) $$ [Hat] with Hv
  · isplitr; · iexact HI
    iexact Hat
  rw [wp_ret]
  imodintro
  isplitl [HO]; · iexists _; iexact HO
  isplitl [Hv] <;> iassumption

/-- The wait at the barrier: what the fifteen others lend. -/
theorem wp_barrier (c : Dev nD) (O : CellTallies nD τ sig Unit) (hO : (levAts L lv : sProp 𝕄) ⊢ MayWait (c : Thread nD τ) (csem none) () O) :
    iprop(PP m K ∗ OW c O ∗ cred (tallyAt (cell c none) () 15) ∗ atPos ER (cell c none) 0 ∅ 0)
      ⊢ WP c (semWaitWord barS 15#32) (fun _ => iprop(OW c O ∗ semVal (cell c none) 0 ∗ bigSep Finset.univ (fun j => barPay (F := F) c j))) := by
  unfold OW
  iintro ⟨#HP, ⟨%W, HO⟩, Hc, Hat⟩
  ihave #HI := (PP_inv m K c none) $$ HP
  unfold WP semWaitWord
  iapply (Rounds.wp_wait_rest_token 𝒱₀ ER (Rd m) (c : Thread nD τ) none (κ := K (c, none))
      (wpE_semWait_eq 𝒱₀ (c : Thread nD τ) none Set.univ) (Set.mem_univ _) () (O := O) (W := W) (R := 0) (m := 0) (T := ∅)
      (by show _ = (Rd m).expect (cell c none) 0; rw [expect_bar]; decide)) $$ [Hc HO Hat]
  · isplitr; · iexact HI
    isplitl [Hc]; · iexact Hc
    isplitl [HO]; · iexact HO
    isplitr; · iapply hO; iapply (PP_lev m K); iexact HP
    iexact Hat
  iintro ⟨HO, Hat, -, Hp⟩
  ihave Hp := (show bigSep ((Rd (F := F) m).duties ((c : Thread nD τ), SemLoc.reg barS) 0 \ ∅) (fun d => (Rd (F := F) m).payload ((c : Thread nD τ), SemLoc.reg barS) 0 d)
      ⊢ bigSep Finset.univ (fun d => barPay (F := F) c d) from Entails.of_eq (rest_bar m c)) $$ Hp
  imod (Rounds.cell_close ER (Rd m) (Set.mem_univ (K (c, none))) (fun h => h) (R := 0 + 1) (duties_later m (cell c none) · ·)) $$ [Hat] with Hv
  · isplitr; · iexact HI
    iexact Hat
  rw [wp_ret]
  imodintro
  isplitl [HO]; · iexists _; iexact HO
  isplitl [Hv] <;> iassumption

/-! ## Signals -/

/-- What `c` lends the device its signal number `j` goes to. -/
def lend (c : Dev nD) (j : Fin 15) : sProp 𝕄 :=
  iprop((∃ f, ((c : Thread nD τ).loc cc0_scratch10) ↦[slotSet (Fin.rev j)]{fullShare} f)
    ∗ ∃ f, ((c : Thread nD τ).loc cc0_stg3_0) ↦[rowSet (ch (peer c j))]{fullShare} f)

/-- What a peer's barrier gets from the device is what the device lends it. -/
theorem barPay_peer (c : Dev nD) (j : Fin 15) : barPay (F := F) (peer c j) j = lend c j := by
  unfold barPay lend; rw [src_peer]

/-- One signal: the device lends its slot and rows and owes one signal less. -/
theorem wp_signal_step (c : Dev nD) (j : Fin 15) (l : List (Fin 15)) :
    iprop(PP m K ∗ OW c (O1 c (j :: l)) ∗ dutyTok ER (cell (peer c j) none) 0 j ∗ lend c j)
      ⊢ WP c (signal c j) (fun _ => OW c (O1 c l)) := by
  unfold OW
  iintro ⟨#HP, ⟨%W, HO⟩, Ht, Hl⟩
  unfold WP signal semSignalWord
  rw [sigDev_eq]
  ihave #HI := (PP_inv m K (peer c j) none) $$ HP
  ihave #Hr := (PP_reached m K (peer c j) none) $$ HP
  iapply (Rounds.wp_signal 𝒱₀ ER (Rd m) (c : Thread nD τ) none (dst := (peer c j : Thread nD τ)) (κ := K (peer c j, none)) (r := 0)
      (d := j) (by show j ∈ (Rd m).duties (cell (peer c j) none) 0; rw [duties_bar]; exact Finset.mem_univ _)
      (by show (Rd m).amount (cell (peer c j) none) 0 j = _; rw [amount_eq]; decide) () (O1 c l) (O1_cons c j l))
    $$ [HO Ht Hl]
  · isplitr; · iexact HI
    isplitl [HO]; · iexact HO
    isplitl [Ht]; · iexact Ht
    isplitl [Hl]
    · iapply (show lend (F := F) c j ⊢ (Rd (F := F) m).payload ((peer c j : Thread nD τ), SemLoc.reg barS) 0 j from Entails.of_eq (barPay_peer (F := F) c j).symm) $$ Hl
    iexact Hr
  iintro HO
  rw [wp_ret]
  imodintro
  iexists _; iexact HO

end Cert.KernelIdeal.Hand

end
-- ==== Proof.KernelIdeal.Moves.lean ====
/-
  The transfers: a head's keys and values gathered, a chunk sent to its owner, the owner's chunk of the result sent on.
-/
module

public import proofs.«01_k».proof.Proof.KernelIdeal.Steps

@[expose] public section

set_option maxRecDepth 65536

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × CI → ℕ)

/-! ## The elements each piece covers -/

/-- Head `h`'s columns of the gathered keys. -/
theorem set_colK (h : Fin 8) : (colM mKf h).view.set = colSet h := (View.set_slice_whole _ _).trans (colSet_eq h)
/-- Head `h`'s columns of the gathered values. -/
theorem set_colV (h : Fin 8) : (colM mVf h).view.set = colSet h := (View.set_slice_whole _ _).trans (colSet_eq h)
/-- Head `h` of the device's eight, in the key array. -/
theorem set_headK (c : Dev nD) (h : Fin 8) : (headM mK c h).view.set = headSet c h :=
  (View.set_reshape _ _).trans ((View.set_slice_whole _ _).trans (headSet_eq c h))
/-- Head `h` of the device's eight, in the value array. -/
theorem set_headV (c : Dev nD) (h : Fin 8) : (headM mV c h).view.set = headSet c h :=
  (View.set_reshape _ _).trans ((View.set_slice_whole _ _).trans (headSet_eq c h))
/-- A receive slot, as the elements it covers. -/
theorem set_slot (k : Fin 15) (o : Fin 3 → Nat) (h : ∀ a, o a + S1x64x1024.size a ≤ S15x64x1024.size a) (ho : o = ![k.val, 0, 0]) :
    (slotM o h).view.set = slotSet k := by
  subst ho
  exact (View.set_reshape _ _).trans ((View.set_slice_whole _ _).trans (slotSet_eq k _))
/-- A chunk of the partial result, as the rows it covers. -/
theorem set_part (i : Fin 16) (o : Fin 2 → Nat) (h : ∀ a, o a + S64x1024.size a ≤ S1024x1024.size a) (ho : o = ![64 * i.val, 0]) :
    (rowsM mPart o h).view.set = rowSet i := by
  subst ho
  exact (View.set_slice_whole _ _).trans (rowSet_eq i _)
/-- A chunk of the result, as the rows it covers. -/
theorem set_out (i : Fin 16) (o : Fin 2 → Nat) (h : ∀ a, o a + S64x1024.size a ≤ S1024x1024.size a) (ho : o = ![64 * i.val, 0]) :
    (rowsM mOut o h).view.set = rowSet i := by
  subst ho
  exact (View.set_slice_whole _ _).trans (rowSet_eq i _)

/-! ## A local transfer, and a remote one -/

set_option maxHeartbeats 800000 in
/-- A local transfer is started: the two pieces go to its semaphore, and the credit for the wait comes back. -/
theorem wp_ld (c : Dev nD) (i : Fin 76) (s : DmaSem sig) (hs : SemLoc.dma s = csem (some i)) {sp sp' : Space} {sh : Shape} {e : EltTy}
    (a : Memref sig .tc sp sh e) (b : Memref sig .tc sp' sh e) (ha hb ht) (n : ℕ) (hn : b.view.dmaCredit = n) (hamt : amt (csem (some i)) = n)
    (fs : Buf (Elt F) (a.view.loc (c : Thread nD τ))) (fd g : Buf (Elt F) (b.view.loc (c : Thread nD τ)))
    (hread : b.view.read (Elt F) g = a.view.read (Elt F) fs)
    (hpay : iprop((b.view.loc (c : Thread nD τ) ↦[b.view.set]{fullShare} g) ∗ (a.view.loc (c : Thread nD τ) ↦[a.view.set]{fullShare} fs))
      ⊢ (Rd (F := F) m).payload (cell c (some i)) 0 0) :
    iprop(PP m K ∗ (a.view.loc (c : Thread nD τ) ↦[a.view.set]{fullShare} fs) ∗ (b.view.loc (c : Thread nD τ) ↦[b.view.set]{fullShare} fd)
        ∗ dutyTok ER (cell c (some i)) 0 0)
      ⊢ WP c (Prog.lift (.enqueueDma a (.here b) (.dma s) ha hb ht)) (fun _ => cred (tallyAt (cell c (some i)) () n)) := by
  iintro ⟨#HP, Ha, Hb, Ht⟩
  ihave #HI := (PP_inv m K c (some i)) $$ HP
  ihave #Hr := (PP_reached m K c (some i)) $$ HP
  have eg : cell c (some i) = ((c : Thread nD τ), SemLoc.dma s) := by rw [cell, hs]
  unfold WP Prog.lift
  iapply (Rounds.wp_copy_pointsTo 𝒱₀ ER (Rd m) (c : Thread nD τ) none (κ := K (c, some i)) (r := 0) (d := 0) (fs := fs) (fd := fd)
      (by rw [← eg, duties_some]; exact Finset.mem_singleton_self _) () n (by exact hn)
      (by rw [← eg, amount_eq, hamt]) (by
        rw [← eg]
        refine (sep_mono_left (Entails.of_eq ?_)).trans hpay
        exact pointsTo_congr (write_eq_on b.view fd g _ hread))) $$ [Ha Hb Ht]
  · rw [← eg]
    isplitr; · iexact HI
    isplitl [Ha]; · iexact Ha
    isplitl [Hb]; · iexact Hb
    isplitl [Ht]; · iexact Ht
    iexact Hr
  rw [← eg]
  iintro Hc
  rw [wp_ret]
  imodintro
  iexact Hc

set_option maxHeartbeats 800000 in
/-- A remote transfer is started: the sender's piece and the receiver's go to the two semaphores, what is owed to the receiver is paid, and the credit for the sender's wait comes back. -/
theorem wp_sd (c c' d : Dev nD) (hd : d = c') (i i' : Fin 76) (sS s : DmaSem sig) (hsS : SemLoc.dma sS = csem (some i)) (hs : SemLoc.dma s = csem (some i'))
    {sp sp' : Space} {sh : Shape} {e : EltTy} (a : Memref sig .tc sp sh e) (b : Memref sig .tc sp' sh e) (hsc) (ha hb ht) (n : ℕ)
    (hn : b.view.dmaCredit = n) (hamt : amt (csem (some i)) = n) (hamt' : amt (csem (some i')) = n) (q : PosShare TreeShare)
    (fs : Buf (Elt F) (a.view.loc (c : Thread nD τ))) (fd g : Buf (Elt F) (b.view.loc (c' : Thread nD τ)))
    (hread : b.view.read (Elt F) g = a.view.read (Elt F) fs) (O O' : CellTallies nD τ sig Unit) (hO : O' = O + tallyAt (cell c' (some i')) () n)
    (hpay : (a.view.loc (c : Thread nD τ) ↦[a.view.set]{q} fs) ⊢ (Rd (F := F) m).payload (cell c (some i)) 0 0)
    (hpay' : (b.view.loc (c' : Thread nD τ) ↦[b.view.set]{fullShare} g) ⊢ (Rd (F := F) m).payload (cell c' (some i')) 0 0) :
    iprop(PP m K ∗ (a.view.loc (c : Thread nD τ) ↦[a.view.set]{q} fs) ∗ (b.view.loc (c' : Thread nD τ) ↦[b.view.set]{fullShare} fd)
        ∗ OW c O' ∗ dutyTok ER (cell c (some i)) 0 0 ∗ dutyTok ER (cell c' (some i')) 0 0)
      ⊢ WP c (Prog.lift (.enqueueDma a (.remote (d : Thread nD τ) b (.dma sS) hsc) (.dma s) ha hb ht))
          (fun _ => iprop(OW c O ∗ cred (tallyAt (cell c (some i)) () n))) := by
  have hd := hd.symm
  subst hd
  subst hO
  unfold OW
  iintro ⟨#HP, Ha, Hb, ⟨%W, HO⟩, Ht, Ht'⟩
  ihave #HI := (PP_inv m K c (some i)) $$ HP
  ihave #Hr := (PP_reached m K c (some i)) $$ HP
  ihave #HI' := (PP_inv m K c' (some i')) $$ HP
  ihave #Hr' := (PP_reached m K c' (some i')) $$ HP
  have eg : cell c (some i) = ((c : Thread nD τ), SemLoc.dma sS) := by rw [cell, hsS]
  have eg' : cell c' (some i') = ((c' : Thread nD τ), SemLoc.dma s) := by rw [cell, hs]
  unfold WP Prog.lift
  iapply (Rounds.wp_send_pointsTo 𝒱₀ ER (Rd m) (c : Thread nD τ) none (κ₁ := K (c, some i)) (κ₂ := K (c', some i'))
      (r₁ := 0) (r₂ := 0) (d₁ := 0) (d₂ := 0) (fs := fs) (fd := fd)
      (by rw [← eg, duties_some]; exact Finset.mem_singleton_self _) (by rw [← eg', duties_some]; exact Finset.mem_singleton_self _)
      () () n (by exact hn) (by rw [← eg, amount_eq, hamt]) (by rw [← eg', amount_eq, hamt']) O (by rw [← eg']) (W := W)
      (by rw [← eg]; exact hpay) (by
        rw [← eg']
        refine (Entails.of_eq ?_).trans hpay'
        exact pointsTo_congr (write_eq_on b.view fd g _ hread))) $$ [Ha Hb HO Ht Ht']
  · rw [← eg, ← eg']
    isplitr; · iexact HI
    isplitr; · iexact HI'
    isplitl [Ha]; · iexact Ha
    isplitl [Hb]; · iexact Hb
    isplitl [HO]; · iexact HO
    isplitl [Ht]; · iexact Ht
    isplitr; · iexact Hr
    isplitl [Ht']; · iexact Ht'
    iexact Hr'
  rw [← eg]
  iintro ⟨Hc, HO⟩
  rw [wp_ret]
  imodintro
  isplitl [HO]; · iexists _; iexact HO
  iexact Hc

/-! ## The keys and values gathered -/

/-- What the gathering of one head needs: where it goes, where it comes from, and the right to raise its semaphore. -/
def ldK (c : Dev nD) (h : Fin 8) : sProp 𝕄 :=
  iprop((∃ f, ((c : Thread nD τ).loc cc0_scratch0) ↦[colSet h]{fullShare} f)
    ∗ (((c : Thread nD τ).loc main_arg2) ↦[headSet c h]{fullShare} kArr m c) ∗ dutyTok ER (cell c (iL (semK h))) 0 0)
def ldV (c : Dev nD) (h : Fin 8) : sProp 𝕄 :=
  iprop((∃ f, ((c : Thread nD τ).loc cc0_scratch1) ↦[colSet h]{fullShare} f)
    ∗ (((c : Thread nD τ).loc main_arg3) ↦[headSet c h]{fullShare} vArr m c) ∗ dutyTok ER (cell c (iL (semV h))) 0 0)

/-- The load of one head of the keys is started. -/
theorem wp_ldK (c : Dev nD) (h : Fin 8) :
    iprop(PP m K ∗ ldK m c h) ⊢ WP c (ldStart mK mKf c (semK h) h) (fun _ => cred (tallyAt (cell c (iL (semK h))) () NL)) := by
  unfold ldK
  iintro ⟨#HP, ⟨%f, Hd⟩, Hs, Ht⟩
  iapply (wp_ld m K c ⟨(semK h).val, by have := h.isLt; show h.val < 76; omega⟩ _ (csem_L (semK h)) (headM mK c h) (colM mKf h) _ _ _ NL rfl (amt_L (semK h))
    (kArr m c) f (kfC m c) (read_kf m c h) (by
      rw [set_colK, set_headK]
      exact Entails.of_eq (payload_LK m c h).symm))
  rw [set_colK, set_headK]
  isplitr; · iexact HP
  isplitl [Hs]; · iexact Hs
  isplitl [Hd]; · iexact Hd
  iexact Ht
/-- The load of one head of the values is started. -/
theorem wp_ldV (c : Dev nD) (h : Fin 8) :
    iprop(PP m K ∗ ldV m c h) ⊢ WP c (ldStart mV mVf c (semV h) h) (fun _ => cred (tallyAt (cell c (iL (semV h))) () NL)) := by
  unfold ldV
  iintro ⟨#HP, ⟨%f, Hd⟩, Hs, Ht⟩
  iapply (wp_ld m K c ⟨(semV h).val, by have := h.isLt; show 8 + h.val < 76; omega⟩ _ (csem_L (semV h)) (headM mV c h) (colM mVf h) _ _ _ NL rfl (amt_L (semV h))
    (vArr m c) f (vfC m c) (read_vf m c h) (by
      rw [set_colV, set_headV]
      exact Entails.of_eq (payload_LV m c h).symm))
  rw [set_colV, set_headV]
  isplitr; · iexact HP
  isplitl [Hs]; · iexact Hs
  isplitl [Hd]; · iexact Hd
  iexact Ht

/-- The load of one head of the keys is awaited, and the head is there. -/
theorem wp_ldKWait (c : Dev nD) (h : Fin 8) (l : List (Fin 15)) :
    iprop(PP m K ∗ OW c (O1 c l) ∗ cred (tallyAt (cell c (iL (semK h))) () NL) ∗ atPos ER (cell c (iL (semK h))) 0 ∅ 0)
      ⊢ WP c (ldWait mK mKf c (semK h) h) (fun _ => iprop(OW c (O1 c l) ∗ semVal (cell c (iL (semK h))) 0 ∗ ldKPay m c h)) := by
  rw [← payload_LK]
  unfold ldWait
  exact wp_wait m K c _ _ (csem_L (semK h)) _ _ _ _ NL (by rfl) (amt_L (semK h)) _ (mayWait_of c _ (le_of_eq (lv_L _)) (above_O1 c l))
/-- The load of one head of the values is awaited, and the head is there. -/
theorem wp_ldVWait (c : Dev nD) (h : Fin 8) (l : List (Fin 15)) :
    iprop(PP m K ∗ OW c (O1 c l) ∗ cred (tallyAt (cell c (iL (semV h))) () NL) ∗ atPos ER (cell c (iL (semV h))) 0 ∅ 0)
      ⊢ WP c (ldWait mV mVf c (semV h) h) (fun _ => iprop(OW c (O1 c l) ∗ semVal (cell c (iL (semV h))) 0 ∗ ldVPay m c h)) := by
  rw [← payload_LV]
  unfold ldWait
  exact wp_wait m K c _ _ (csem_L (semV h)) _ _ _ _ NL (by rfl) (amt_L (semV h)) _ (mayWait_of c _ (le_of_eq (lv_L _)) (above_O1 c l))

/-! ## A chunk sent to its owner -/

/-- What sending chunk number `n` needs. -/
def rsNeed (c : Dev nD) (n : Fin 15) : sProp 𝕄 :=
  iprop(rsSPay m c (kk c n) ∗ (∃ f, ((peer c (kk c n) : Thread nD τ).loc cc0_scratch10) ↦[slotSet (kk c n)]{fullShare} f)
    ∗ dutyTok ER (cell c (iRS (kk c n))) 0 0 ∗ dutyTok ER (cell (peer c (kk c n)) (iRR (kk c n))) 0 0)

set_option maxHeartbeats 800000 in
/-- A chunk of the partial result is sent to its owner, wherever the program says its offsets are. -/
theorem wp_rsSend (c : Dev nD) (n : Fin 15) (l : List (Fin 15)) (so sh bo bh ro rh bw rw')
    (hso : so = ![(kk c n).val]) (hbo : bo = ![(kk c n).val, 0, 0]) (hro : ro = ![64 * (ch (peer c (kk c n))).val, 0]) :
    iprop(PP m K ∗ OW c (O2 c (n :: l)) ∗ rsNeed m c n)
      ⊢ WP c (rsSend (rsDev c n) so sh bo bh ro rh bw rw') (fun _ => iprop(OW c (O2 c l) ∗ cred (tallyAt (cell c (iRS (kk c n))) () NR))) := by
  subst hso hbo hro
  unfold rsNeed rsSPay rsSend
  iintro ⟨#HP, HO, Hs, ⟨%f, Hd⟩, Ht, Ht'⟩
  have hsl := set_slot (kk c n) _ bh rfl
  have hp := set_part (ch (peer c (kk c n))) _ rh rfl
  iapply (wp_sd m K c (peer c (kk c n)) _ (rsDev_eq c n) _ _ _ _ (csem_RS (kk c n)) (csem_RR (kk c n)) (rowsM mPart _ rh) (slotM _ bh) _ _ _ _ NR (by rfl)
    (amt_RS (kk c n)) (amt_RR (kk c n)) fullShare (partC m c) f (rsC m (peer c (kk c n)))
    (by rw [read_slot m (peer c (kk c n)) (kk c n) rh, src_peer]) (O2 c l) (O2 c (n :: l)) (O2_cons c n l)
    (by rw [hp]; exact Entails.of_eq (payload_RS m c (kk c n)).symm)
    (by rw [hsl]; exact Entails.of_eq (payload_RR m (peer c (kk c n)) (kk c n)).symm))
  rw [hsl, hp]
  isplitr; · iexact HP
  isplitl [Hs]; · iexact Hs
  isplitl [Hd]; · iexact Hd
  isplitl [HO]; · iexact HO
  isplitl [Ht] <;> iassumption

/-- The send of chunk `q` of another slab, number `u`. -/
theorem wp_rsSendA (c : Dev nD) (u : Fin 3) (q : Fin 4) (l : List (Fin 15)) :
    iprop(PP m K ∗ OW c (O2 c (nA u q :: l)) ∗ rsNeed m c (nA u q))
      ⊢ WP c (rsSendA c u q) (fun _ => iprop(OW c (O2 c l) ∗ cred (tallyAt (cell c (iRS (kk c (nA u q)))) () NR))) :=
  wp_rsSend m K c (nA u q) l _ _ _ _ _ _ _ _ (off11_eq c q u) (off12_eq c q u) (off13_eq c q u)
/-- The send of a chunk of the device's own slab. -/
theorem wp_rsSendB (c : Dev nD) (r : Fin 3) (l : List (Fin 15)) :
    iprop(PP m K ∗ OW c (O2 c (nB r :: l)) ∗ rsNeed m c (nB r))
      ⊢ WP c (rsSendB c r) (fun _ => iprop(OW c (O2 c l) ∗ cred (tallyAt (cell c (iRS (kk c (nB r)))) () NR))) :=
  wp_rsSend m K c (nB r) l _ _ _ _ _ _ _ _ (off23_eq c r) (off24_eq c r) (off25_eq c r)

/-- What the wait for a send needs, and what it leaves. -/
def sentNeed (c : Dev nD) (k : Fin 15) : sProp 𝕄 :=
  iprop(cred (tallyAt (cell c (iRS k)) () NR) ∗ atPos ER (cell c (iRS k)) 0 ∅ 0)
def sentGive (c : Dev nD) (k : Fin 15) : sProp 𝕄 := iprop(semVal (cell c (iRS k)) 0 ∗ rsSPay m c k)

/-- A device that owes nothing may wait anywhere. -/
theorem mayWait_zero (c : Dev nD) (s : SemLoc sig) : (levAts L lv : sProp 𝕄) ⊢ MayWait (c : Thread nD τ) s () 0 :=
  mayWait_of c s le_rfl (fun g u h => absurd h (Nat.lt_irrefl 0))

/-- The end of a chunk's send is awaited, and the chunk comes back. -/
theorem wp_rsSent (c : Dev nD) (n : Fin 15) (so sh bo bh ro rh bw rw') (hso : so = ![(kk c n).val]) :
    iprop(PP m K ∗ OW c 0 ∗ sentNeed c (kk c n))
      ⊢ WP c (rsSent so sh bo bh ro rh bw rw') (fun _ => iprop(OW c 0 ∗ sentGive m c (kk c n))) := by
  subst hso
  unfold sentNeed sentGive
  rw [← payload_RS]
  unfold rsSent
  exact wp_wait m K c _ _ (csem_RS (kk c n)) _ _ _ _ NR (by rfl) (amt_RS (kk c n)) _ (mayWait_zero c _)
/-- The wait for the send of chunk `q` of another slab, number `u`. -/
theorem wp_rsSentA (c : Dev nD) (u : Fin 3) (q : Fin 4) :
    iprop(PP m K ∗ OW c 0 ∗ sentNeed c (kk c (nA u q))) ⊢ WP c (rsSentA c u q) (fun _ => iprop(OW c 0 ∗ sentGive m c (kk c (nA u q)))) :=
  wp_rsSent m K c (nA u q) _ _ _ _ _ _ _ _ (off11_eq c q u)
/-- The wait for the send of a chunk of the device's own slab. -/
theorem wp_rsSentB (c : Dev nD) (r : Fin 3) :
    iprop(PP m K ∗ OW c 0 ∗ sentNeed c (kk c (nB r))) ⊢ WP c (rsSentB c r) (fun _ => iprop(OW c 0 ∗ sentGive m c (kk c (nB r)))) :=
  wp_rsSent m K c (nB r) _ _ _ _ _ _ _ _ (off23_eq c r)

/-- The wait for a received chunk. -/
theorem wp_rsWait (c : Dev nD) (k : Fin 15) :
    iprop(PP m K ∗ OW c (O3 c peers) ∗ cred (tallyAt (cell c (iRR k)) () NR) ∗ atPos ER (cell c (iRR k)) 0 ∅ 0)
      ⊢ WP c (rsWait c k) (fun _ => iprop(OW c (O3 c peers) ∗ semVal (cell c (iRR k)) 0 ∗ rsRPay m c k)) := by
  rw [← payload_RR]
  unfold rsWait
  exact wp_wait m K c _ _ (csem_RR k) _ _ _ _ NR (by rfl) (amt_RR k) _ (mayWait_of c _ (le_of_eq (lv_RR k)) (above_O3 c peers))

/-! ## The result passed on -/

/-- What passing the chunk on to peer number `j` needs. -/
def agNeed (c : Dev nD) (j : Fin 15) : sProp 𝕄 :=
  iprop(agSPay m c j ∗ (∃ f, ((peer c j : Thread nD τ).loc cc0_stg3_0) ↦[rowSet (ch c)]{fullShare} f)
    ∗ dutyTok ER (cell c (iAS j)) 0 0 ∗ dutyTok ER (cell (peer c j) (iAR j)) 0 0)

set_option maxHeartbeats 800000 in
/-- The summed chunk is sent to a peer. -/
theorem wp_agSend (c : Dev nD) (j : Fin 15) (l : List (Fin 15)) :
    iprop(PP m K ∗ OW c (O3 c (j :: l)) ∗ agNeed m c j)
      ⊢ WP c (agSend c j) (fun _ => iprop(OW c (O3 c l) ∗ cred (tallyAt (cell c (iAS j)) () NR))) := by
  unfold agNeed agSPay agSend
  iintro ⟨#HP, HO, Hs, ⟨%f, Hd⟩, Ht, Ht'⟩
  have hp := set_out (ch c) _ (k0_off27_inb c) (off27_eq c)
  iapply (wp_sd m K c (peer c j) _ (agDev_eq c j) _ _ _ _ (csem_AS j) (csem_AR j) (rowsM mOut _ (k0_off27_inb c)) (rowsM mOut _ (k0_off27_inb c)) _ _ _ _ NR (by rfl)
    (amt_AS j) (amt_AR j) (shL j.val) (outC m) f (outC m) rfl (O3 c l) (O3 c (j :: l)) (O3_cons c j l)
    (by rw [hp]; exact Entails.of_eq (payload_AS m c j).symm)
    (by
      rw [hp]
      refine Entails.of_eq ?_
      rw [payload_AR, agRPay, src_peer]))
  rw [hp]
  isplitr; · iexact HP
  isplitl [Hs]; · iexact Hs
  isplitl [Hd]; · iexact Hd
  isplitl [HO]; · iexact HO
  isplitl [Ht] <;> iassumption

/-- A summed chunk is awaited, and its rows of the result are there. -/
theorem wp_agWait (c : Dev nD) (k : Fin 15) :
    iprop(PP m K ∗ OW c 0 ∗ cred (tallyAt (cell c (iAR k)) () NR) ∗ atPos ER (cell c (iAR k)) 0 ∅ 0)
      ⊢ WP c (agWait c k) (fun _ => iprop(OW c 0 ∗ semVal (cell c (iAR k)) 0 ∗ agRPay m c k)) := by
  rw [← payload_AR]
  unfold agWait
  exact wp_wait m K c _ _ (csem_AR k) _ _ _ _ NR (by rfl) (amt_AR k) _ (mayWait_zero c _)

/-- The end of the summed chunk's send to a peer is awaited. -/
theorem wp_agSent (c : Dev nD) (k : Fin 15) :
    iprop(PP m K ∗ OW c 0 ∗ cred (tallyAt (cell c (iAS k)) () NR) ∗ atPos ER (cell c (iAS k)) 0 ∅ 0)
      ⊢ WP c (agSent c k) (fun _ => iprop(OW c 0 ∗ semVal (cell c (iAS k)) 0 ∗ agSPay m c k)) := by
  rw [← payload_AS]
  unfold agSent
  exact wp_wait m K c _ _ (csem_AS k) _ _ _ _ NR (by rfl) (amt_AS k) _ (mayWait_zero c _)

end Cert.KernelIdeal.Hand

end
-- ==== Proof.KernelIdeal.Compute.lean ====
/-
  The computing steps: casts, the projection, one head of a slab, a slab's rows of the partial result, the sum.
-/
module

public import proofs.«01_k».proof.Proof.KernelIdeal.Moves

@[expose] public section

set_option maxRecDepth 65536

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × CI → ℕ)

/-- A whole buffer of a device at given contents, -/
abbrev BF (c : Dev nD) (b : Ref sig .tc) (f : Buf (Elt F) ((c : Thread nD τ).loc b)) : sProp 𝕄 := ((c : Thread nD τ).loc b) ↦{fullShare} f
/-- and at any. -/
abbrev BA (c : Dev nD) (b : Ref sig .tc) : sProp 𝕄 := iprop(∃ f : Buf (Elt F) ((c : Thread nD τ).loc b), ((c : Thread nD τ).loc b) ↦{fullShare} f)

/-- The offset at the origin, in two dimensions. -/
theorem hz2 : (![0, 0] : Fin 2 → Nat) = fun _ => 0 := funext fun a => by fin_cases a <;> rfl
/-- The offset at the origin, in three dimensions. -/
theorem hz3 : (![0, 0, 0] : Fin 3 → Nat) = fun _ => 0 := funext fun a => by fin_cases a <;> rfl

abbrev rSq : Rect S1024x1024 := Rect.unit (s := S1024x1024) ![0, 0] S1024x1024.size inb_S1024x1024_S1024x1024_0_0

/-! ## Whole-buffer steps -/

set_option maxHeartbeats 800000 in
/-- A square buffer read whole, cast, and written whole to another buffer. -/
theorem wp_castSq (c : Dev nD) (a : Memref sig .tc .vmem S1024x1024 .f32) (b : Memref sig .tc .vmem S1024x1024 .bf16) (hb : b.IsWhole)
    (f : Vec F S1024x1024 .f32 → FVec F S1024x1024 .bf16) (fa : Buf (Elt F) (a.view.loc (c : Thread nD τ))) (g : Buf (Elt F) (b.view.loc (c : Thread nD τ)))
    (va : Vec F S1024x1024 .f32) (hr : a.view.readAt (Elt F) rSq.toLoadRect fa = va)
    (hw : ∀ fb, (b.access rSq).write (Elt F) fb (f va) Finset.univ = g) :
    iprop((a.view.loc (c : Thread nD τ) ↦{fullShare} fa) ∗ ∃ fb, b.view.loc (c : Thread nD τ) ↦{fullShare} fb)
      ⊢ WP c (castSq a b hb f) (fun _ => iprop((a.view.loc (c : Thread nD τ) ↦{fullShare} fa) ∗ b.view.loc (c : Thread nD τ) ↦{fullShare} g)) := by
  unfold WP castSq
  simp only [Prog.lift, Prog.bind_op, Prog.bind_ret]
  iintro ⟨Ha, ⟨%fb, Hb⟩⟩
  iapply (wp_load 𝒱₀ (c : Thread nD τ) none Set.univ (m := a) (Finset.subset_univ _)) $$ Ha; iintro Ha
  iapply (wp_load 𝒱₀ (c : Thread nD τ) none Set.univ (m := b) (Finset.subset_univ _)) $$ Hb; iintro Hb
  iapply (wp_store 𝒱₀ (c : Thread nD τ) none Set.univ (m := b) (r := rSq) (Mk := Finset.univ) (Finset.subset_univ _)) $$ Hb; iintro Hb
  rw [wp_ret, show (b.access rSq).write (Elt F) fb (f (a.view.readAt (Elt F) rSq.toLoadRect fa)) Finset.univ = g from (by rw [hr]; exact hw fb)]
  imodintro
  isplitl [Ha] <;> iassumption

/-- The cast of the device's columns of the query weights. -/
theorem wp_castWq (c : Dev nD) : iprop(BF c cc0_stg1_0 (wqC m c) ∗ BA c cc0_scratch6)
    ⊢ WP c (castSq mWq mWqb (Memref.isWhole_whole _) k0_pay3) (fun _ => iprop(BF c cc0_stg1_0 (wqC m c) ∗ BF c cc0_scratch6 (wqbC m c))) :=
  wp_castSq c mWq mWqb _ _ (wqC m c) (wqbC m c) (wqC m c) (Memref.readAt_unit_zero (Elt F) cc0_stg1_0 hz2 _ _)
    fun fb => Memref.write_access_unit_zero_univ (Elt F) cc0_scratch6 hz2 _ _ _
/-- The cast of the device's rows of the output weights. -/
theorem wp_castWo (c : Dev nD) : iprop(BF c cc0_stg2_0 (woC m c) ∗ BA c cc0_scratch7)
    ⊢ WP c (castSq mWo mWob (Memref.isWhole_whole _) k0_pay5) (fun _ => iprop(BF c cc0_stg2_0 (woC m c) ∗ BF c cc0_scratch7 (wobC m c))) :=
  wp_castSq c mWo mWob _ _ (woC m c) (wobC m c) (woC m c) (Memref.readAt_unit_zero (Elt F) cc0_stg2_0 hz2 _ _)
    fun fb => Memref.write_access_unit_zero_univ (Elt F) cc0_scratch7 hz2 _ _ _
/-- The cast of the gathered keys. -/
theorem wp_castKf (c : Dev nD) : iprop(BF c cc0_scratch0 (kfC m c) ∗ BA c cc0_scratch2)
    ⊢ WP c (castSq mKf mKb (Memref.isWhole_whole _) (fun x => k0_pay7 (k0_pay6 x))) (fun _ => iprop(BF c cc0_scratch0 (kfC m c) ∗ BF c cc0_scratch2 (kbC m c))) :=
  wp_castSq c mKf mKb _ _ (kfC m c) (kbC m c) (kfC m c) (Memref.readAt_unit_zero (Elt F) cc0_scratch0 hz2 _ _)
    fun fb => Memref.write_access_unit_zero_univ (Elt F) cc0_scratch2 hz2 _ _ _
/-- The cast of the gathered values. -/
theorem wp_castVf (c : Dev nD) : iprop(BF c cc0_scratch1 (vfC m c) ∗ BA c cc0_scratch3)
    ⊢ WP c (castSq mVf mVb (Memref.isWhole_whole _) k0_pay8) (fun _ => iprop(BF c cc0_scratch1 (vfC m c) ∗ BF c cc0_scratch3 (vbC m c))) :=
  wp_castSq c mVf mVb _ _ (vfC m c) (vbC m c) (vfC m c) (Memref.readAt_unit_zero (Elt F) cc0_scratch1 hz2 _ _)
    fun fb => Memref.write_access_unit_zero_univ (Elt F) cc0_scratch3 hz2 _ _ _

set_option maxHeartbeats 800000 in
/-- The cast of the input. -/
theorem wp_castX (c : Dev nD) : iprop(BF c cc0_stg0_0 (xC m c) ∗ BA c cc0_scratch5)
    ⊢ WP c castX (fun _ => iprop(BF c cc0_stg0_0 (xC m c) ∗ BF c cc0_scratch5 (xbC m c))) := by
  unfold WP castX
  simp only [Prog.lift, Prog.bind_op, Prog.bind_ret]
  iintro ⟨Ha, ⟨%fb, Hb⟩⟩
  iapply (wp_load 𝒱₀ (c : Thread nD τ) none Set.univ (m := mX) (Finset.subset_univ _)) $$ Ha; iintro Ha
  iapply (wp_load 𝒱₀ (c : Thread nD τ) none Set.univ (m := mXb) (Finset.subset_univ _)) $$ Hb; iintro Hb
  iapply (wp_store 𝒱₀ (c : Thread nD τ) none Set.univ (m := mXb) (r := rSq) (Mk := Finset.univ) (Finset.subset_univ _)) $$ Hb; iintro Hb
  have hr := Memref.readAt_unit_zero (Elt F) cc0_stg0_0 hz3 inb_S1x1024x1024_S1x1024x1024_0_0_0 (xC m c)
  have hw := Memref.write_access_unit_zero_univ (Elt F) cc0_scratch5 hz2 inb_S1024x1024_S1024x1024_0_0 fb (xbC m c)
  rw [wp_ret, show (mXb.access rSq).write (Elt F) fb (k0_pay2 (k0_pay1 (mX.view.readAt (Elt F) (Rect.unit (s := S1x1024x1024) ![0, 0, 0] S1x1024x1024.size inb_S1x1024x1024_S1x1024x1024_0_0_0).toLoadRect (xC m c)))) Finset.univ = xbC m c from
    (congrArg (fun z => (mXb.access rSq).write (Elt F) fb (k0_pay2 (k0_pay1 z)) Finset.univ) hr).trans hw]
  imodintro
  isplitl [Ha] <;> iassumption

set_option maxHeartbeats 800000 in
/-- The queries: the product of the cast input and the cast query weights. -/
theorem wp_project (c : Dev nD) : iprop(BF c cc0_scratch5 (xbC m c) ∗ BF c cc0_scratch6 (wqbC m c) ∗ BA c cc0_scratch4)
    ⊢ WP c project (fun _ => iprop(BF c cc0_scratch5 (xbC m c) ∗ BF c cc0_scratch6 (wqbC m c) ∗ BF c cc0_scratch4 (qC m c))) := by
  unfold WP project
  simp only [Prog.lift, Prog.bind_op, Prog.bind_ret]
  iintro ⟨Ha, Hw, ⟨%fb, Hb⟩⟩
  iapply (wp_load 𝒱₀ (c : Thread nD τ) none Set.univ (m := mXb) (Finset.subset_univ _)) $$ Ha; iintro Ha
  iapply (wp_load 𝒱₀ (c : Thread nD τ) none Set.univ (m := mWqb) (Finset.subset_univ _)) $$ Hw; iintro Hw
  iapply (wp_load 𝒱₀ (c : Thread nD τ) none Set.univ (m := mQ) (Finset.subset_univ _)) $$ Hb; iintro Hb
  iapply (wp_store 𝒱₀ (c : Thread nD τ) none Set.univ (m := mQ) (r := rSq) (Mk := Finset.univ) (Finset.subset_univ _)) $$ Hb; iintro Hb
  have hr := Memref.readAt_unit_zero (Elt F) cc0_scratch5 hz2 inb_S1024x1024_S1024x1024_0_0 (xbC m c)
  have hr' := Memref.readAt_unit_zero (Elt F) cc0_scratch6 hz2 inb_S1024x1024_S1024x1024_0_0 (wqbC m c)
  have hw := Memref.write_access_unit_zero_univ (Elt F) cc0_scratch4 hz2 inb_S1024x1024_S1024x1024_0_0 fb (qC m c)
  rw [wp_ret, show (mQ.access rSq).write (Elt F) fb (k0_pay4 (mXb.view.readAt (Elt F) rSq.toLoadRect (xbC m c)) (mWqb.view.readAt (Elt F) rSq.toLoadRect (wqbC m c))) Finset.univ = qC m c from
    (congrArg₂ (fun z w => (mQ.access rSq).write (Elt F) fb (k0_pay4 z w) Finset.univ) hr hr').trans hw]
  imodintro
  isplitl [Ha]; · iexact Ha
  isplitl [Hw] <;> iassumption

/-! ## A slab -/

/-- A loop that only passes a state on. -/
theorem wp_forL_state (c : Dev nD) {α : Type} (l : List α) (f : α → PG F PUnit) (R : List α → sProp 𝕄)
    (h : ∀ a l, R (a :: l) ⊢ WP c (f a) (fun _ => R l)) : R l ⊢ WP c (forL l f) (fun _ => R []) := by
  induction l with
  | nil =>
    unfold WP forL
    rw [wp_pure]
    iintro HR
    imodintro
    iexact HR
  | cons a l ih =>
    iintro HR
    iapply (wp_seq c (h a l)) $$ HR
    iintro %x HR
    iapply (wp_fin c ih) $$ HR
    iintro %y HR
    iexact HR

/-- What a slab reads. -/
def slabIn (c : Dev nD) : sProp 𝕄 :=
  iprop(BF c cc0_scratch4 (qC m c) ∗ BF c cc0_scratch2 (kbC m c) ∗ BF c cc0_scratch3 (vbC m c) ∗ BF c cc0_scratch7 (wobC m c))

/-- The attention of the heads done so far; those of `l` are still to come. -/
def ctxInv (c : Dev nD) (u : Fin 4) (l : List (Fin 8)) : sProp 𝕄 :=
  iprop(slabIn m c ∗ ∃ f : Buf (Elt F) ((c : Thread nD τ).loc cc0_scratch8),
    ⌜∀ x : S256x1024.Idx, (∀ h ∈ l, (x 1).val / 128 ≠ h.val) → f x = ctxC m c u x⌝ ∗ ((c : Thread nD τ).loc cc0_scratch8) ↦{fullShare} f)

/-- An element of a slab's attention is in head `h`'s columns when its column over 128 is `h`. -/
theorem mem_setX (h : Fin 8) (x : S256x1024.Idx) :
    x ∈ (Rect.unit (s := S256x1024) ![0, 128 * h.val] S256x128.size (inbX h)).set ↔ (x 1).val / 128 = h.val := by
  rw [LoadRect.mem_set]
  have h0 : (x 0).val < 256 := (x 0).isLt
  constructor
  · intro H
    obtain ⟨j, hj, e⟩ := H 1
    have hj' : j < 128 := hj
    have e' : (x 1).val = 128 * h.val + 1 * j := e
    omega
  · intro H a
    fin_cases a
    · exact ⟨(x 0).val, h0, by show (x 0).val = 0 + 1 * _; omega⟩
    · exact ⟨(x 1).val - 128 * h.val, by show _ < 128; omega, by show (x 1).val = 128 * h.val + 1 * _; omega⟩

/-- The access of head `h` of a slab's attention covers that head's columns. -/
theorem set_accX (h : Fin 8) : (mCtx.access (Rect.unit (s := S256x1024) ![0, 128 * h.val] S256x128.size (inbX h))).set
    = (Rect.unit (s := S256x1024) ![0, 128 * h.val] S256x128.size (inbX h)).set := View.set_slice_whole _ _

set_option maxHeartbeats 800000 in
/-- One head of a slab: its attention is computed and written, and the head leaves the list of those to do. -/
theorem wp_headStep (c : Dev nD) (u : Fin 4) (h : Fin 8) (l : List (Fin 8)) :
    ctxInv m c u (h :: l) ⊢ WP c (headStep c u h) (fun _ => ctxInv m c u l) := by
  unfold WP headStep ctxInv slabIn
  simp only [Prog.lift, Prog.bind_op, Prog.bind_ret]
  iintro ⟨⟨Hq, Hk, Hv, Hw⟩, ⟨%f, %hf, Hc⟩⟩
  iapply (wp_load 𝒱₀ (c : Thread nD τ) none Set.univ (m := mQ) (Finset.subset_univ _)) $$ Hq; iintro Hq
  iapply (wp_load 𝒱₀ (c : Thread nD τ) none Set.univ (m := mKb) (Finset.subset_univ _)) $$ Hk; iintro Hk
  iapply (wp_load 𝒱₀ (c : Thread nD τ) none Set.univ (m := mVb) (Finset.subset_univ _)) $$ Hv; iintro Hv
  iapply (wp_load 𝒱₀ (c : Thread nD τ) none Set.univ (m := mCtx) (Finset.subset_univ _)) $$ Hc; iintro Hc
  iapply (wp_store 𝒱₀ (c : Thread nD τ) none Set.univ (m := mCtx) (r := Rect.unit (s := S256x1024) ![0, 128 * h.val] S256x128.size (inbX h)) (Mk := Finset.univ) (Finset.subset_univ _)) $$ Hc; iintro Hc
  rw [wp_ret]
  imodintro
  isplitl [Hq Hk Hv Hw]
  · isplitl [Hq]; · iexact Hq
    isplitl [Hk]; · iexact Hk
    isplitl [Hv] <;> iassumption
  iexists _
  isplitr
  · ipureintro
    show ∀ x : S256x1024.Idx, (∀ h ∈ l, (x 1).val / 128 ≠ h.val) →
      (mCtx.access (Rect.unit (s := S256x1024) ![0, 128 * h.val] S256x128.size (inbX h))).write (Elt F) f (ctxH m c u h) Finset.univ x = ctxC m c u x
    intro x hx
    by_cases e : (x 1).val / 128 = h.val
    · exact write_eq_on (mCtx.access (Rect.unit (s := S256x1024) ![0, 128 * h.val] S256x128.size (inbX h))) f (ctxC m c u) _ (read_ctx m c u h) x
        (by rw [set_accX]; exact (mem_setX h x).mpr e)
    · rw [View.write_of_not_mem]
      · exact hf x fun h' hh' => by
          rcases List.mem_cons.mp hh' with rfl | hh'
          · exact e
          · exact hx h' hh'
      · intro hm
        have hm' : x ∈ (mCtx.access (Rect.unit (s := S256x1024) ![0, 128 * h.val] S256x128.size (inbX h))).set := hm
        rw [set_accX] at hm'
        exact e ((mem_setX h x).mp hm')
  iexact Hc

/-- The write of a slab's partial result covers that slab's rows. -/
theorem set_accP (c : Dev nD) (u : Fin 4) :
    (mPart.access (Rect.unit (s := S1024x1024) (poff c u) S256x1024.size (poff_inb c u))).set = slabSet (slabOf c u) := by
  refine (View.set_slice_whole _ _).trans ?_
  have key : ∀ (o : Fin 2 → Nat) (hh : ∀ a, o a + S256x1024.size a ≤ S1024x1024.size a), o = ![256 * (slabOf c u).val, 0] →
      (Rect.unit (s := S1024x1024) o S256x1024.size hh).set = slabSet (slabOf c u) := by
    rintro o hh rfl
    exact slabSet_eq (slabOf c u) hh
  exact key _ _ (poff_eq c u)

set_option maxHeartbeats 800000 in
/-- Once every head is done, the slab's partial result is computed and written. -/
theorem wp_partStep (c : Dev nD) (u : Fin 4) :
    iprop(ctxInv m c u [] ∗ ∃ f, ((c : Thread nD τ).loc cc0_scratch9) ↦[slabSet (slabOf c u)]{fullShare} f)
      ⊢ WP c (partStep c u) (fun _ => iprop(slabIn m c ∗ BA c cc0_scratch8
        ∗ (((c : Thread nD τ).loc cc0_scratch9) ↦[slabSet (slabOf c u)]{fullShare} partC m c))) := by
  unfold WP partStep ctxInv slabIn
  simp only [Prog.lift, Prog.bind_op, Prog.bind_ret]
  iintro ⟨⟨⟨Hq, Hk, Hv, Hw⟩, ⟨%f, %hf, Hc⟩⟩, ⟨%g, Hp⟩⟩
  have hf' : f = ctxC m c u := funext fun x => hf x (by intro h hh; exact absurd hh (List.not_mem_nil))
  subst hf'
  iapply (wp_load 𝒱₀ (c : Thread nD τ) none Set.univ (m := mCtx) (Finset.subset_univ _)) $$ Hc; iintro Hc
  iapply (wp_load 𝒱₀ (c : Thread nD τ) none Set.univ (m := mWob) (Finset.subset_univ _)) $$ Hw; iintro Hw
  iapply (wp_load_rect 𝒱₀ (c : Thread nD τ) none Set.univ (m := mPart) (r := Rect.unit (s := S1024x1024) (poff c u) S256x1024.size (poff_inb c u)) (S := slabSet (slabOf c u)) (by rw [set_accP])) $$ Hp; iintro Hp
  iapply (wp_store 𝒱₀ (c : Thread nD τ) none Set.univ (m := mPart) (r := Rect.unit (s := S1024x1024) (poff c u) S256x1024.size (poff_inb c u)) (Mk := Finset.univ) (S := slabSet (slabOf c u))
    (by rw [← set_accP]; exact subset_rfl)) $$ Hp; iintro Hp
  have hr := Memref.readAt_unit_zero (Elt F) cc0_scratch8 hz2 inb_S256x1024_S256x1024_0_0 (ctxC m c u)
  have hr' := Memref.readAt_unit_zero (Elt F) cc0_scratch7 hz2 inb_S1024x1024_S1024x1024_0_0 (wobC m c)
  rw [wp_ret]
  imodintro
  isplitl [Hq Hk Hv Hw]
  · isplitl [Hq]; · iexact Hq
    isplitl [Hk]; · iexact Hk
    isplitl [Hv] <;> iassumption
  isplitl [Hc]; · iexists _; iexact Hc
  iapply (Entails.of_eq (pointsTo_congr (show ∀ i ∈ slabSet (slabOf c u),
    (mPart.access (Rect.unit (s := S1024x1024) (poff c u) S256x1024.size (poff_inb c u))).write (Elt F) g
      (k0_pay25 (mCtx.view.readAt (Elt F) (Rect.unit (s := S256x1024) ![0, 0] S256x1024.size inb_S256x1024_S256x1024_0_0).toLoadRect (ctxC m c u))
        (mWob.view.readAt (Elt F) rSq.toLoadRect (wobC m c))) Finset.univ i = partC m c i from by
      rw [← set_accP]
      exact write_eq_on (F := F) (mPart.access (Rect.unit (s := S1024x1024) (poff c u) S256x1024.size (poff_inb c u))) g (partC m c) _ ((read_part m c u).trans (congrArg₂ (fun z w => k0_pay25 z w) hr hr').symm)))) $$ Hp

/-- A slab: its rows of the partial result. -/
theorem wp_slab (c : Dev nD) (u : Fin 4) :
    iprop(slabIn m c ∗ BA c cc0_scratch8 ∗ ∃ f, ((c : Thread nD τ).loc cc0_scratch9) ↦[slabSet (slabOf c u)]{fullShare} f)
      ⊢ WP c (slab c u) (fun _ => iprop(slabIn m c ∗ BA c cc0_scratch8
        ∗ (((c : Thread nD τ).loc cc0_scratch9) ↦[slabSet (slabOf c u)]{fullShare} partC m c))) := by
  unfold slab
  iintro ⟨Hs, ⟨%f, Hc⟩, Hp⟩
  iapply (wp_seq c (wp_forL_state c heads (headStep c u) (ctxInv m c u) (wp_headStep m c u))) $$ [Hs Hc]
  · unfold ctxInv
    isplitl [Hs]; · iexact Hs
    iexists f
    isplitr
    · ipureintro
      intro x hx
      have h1 : (x 1).val < 1024 := (x 1).isLt
      exact absurd rfl (hx (⟨(x 1).val / 128, by omega⟩ : Fin 8) (by
        generalize (⟨(x 1).val / 128, by omega⟩ : Fin 8) = h
        revert h; decide))
    iexact Hc
  iintro %y Hs
  iapply (wp_fin c (wp_partStep m c u)) $$ [Hs Hp]
  · isplitl [Hs] <;> iassumption
  iintro %y H
  iexact H

/-! ## The sum -/

/-- What the waits for the received chunks need, and what they leave. -/
def rcvNeed (c : Dev nD) (k : Fin 15) : sProp 𝕄 := iprop(cred (tallyAt (cell c (iRR k)) () NR) ∗ atPos ER (cell c (iRR k)) 0 ∅ 0)
def rcvGive (c : Dev nD) (k : Fin 15) : sProp 𝕄 := iprop(semVal (cell c (iRR k)) 0 ∗ rsRPay m c k)

/-- The access of a receive slot covers that slot. -/
theorem set_accS (k : Fin 15) : (mRs.access (Rect.unit (s := S15x64x1024) ![k.val, 0, 0] S1x64x1024.size (inbSlot k))).set = slotSet k :=
  (View.set_slice_whole _ _).trans (slotSet_eq k _)

set_option maxHeartbeats 800000 in
/-- The receive slots of a list are awaited in turn and added to the sum. -/
theorem wp_accL (c : Dev nD) (l : List (Fin 15)) (a : FVec F S64x1024 .f32) :
    iprop(PP m K ∗ OW c (O3 c peers) ∗ bigSepL l (rcvNeed c))
      ⊢ WP c (accL c l a) (fun r => iprop(⌜r = accs m c l a⌝ ∗ OW c (O3 c peers) ∗ bigSepL l (rcvGive m c))) := by
  induction l generalizing a with
  | nil =>
    unfold WP accL
    rw [wp_pure]
    iintro ⟨-, HR, -⟩
    imodintro
    isplitr; · ipureintro; rfl
    isplitl [HR]; · iexact HR
    rw [bigSepL_nil]
    iempintro
  | cons k l ih =>
    rw [bigSepL_cons', bigSepL_cons', show rcvNeed (F := F) c k = iprop(cred (tallyAt (cell c (iRR k)) () NR) ∗ atPos ER (cell c (iRR k)) 0 ∅ 0) from rfl]
    unfold accL
    iintro ⟨#HP, HO, ⟨Hc, Ha⟩, Hl⟩
    iapply (wp_seq c (wp_rsWait m K c k)) $$ [HO Hc Ha]
    · isplitr; · iexact HP
      isplitl [HO]; · iexact HO
      isplitl [Hc] <;> iassumption
    iintro %x ⟨HO, Hv, Hp⟩
    unfold rsRPay
    simp only [WP, Prog.lift, Prog.bind_op, Prog.bind_ret]
    iapply (wp_load_rect 𝒱₀ (c : Thread nD τ) none Set.univ (m := mRs) (r := Rect.unit (s := S15x64x1024) ![k.val, 0, 0] S1x64x1024.size (inbSlot k)) (S := slotSet k) (by rw [set_accS])) $$ Hp; iintro Hp
    iapply (wp_fin c (ih (accVal a (rsAt m c k)))) $$ [HO Hl]
    · isplitr; · iexact HP
      isplitl [HO] <;> iassumption
    iintro %r ⟨%hr, HO, Hl⟩
    isplitr; · ipureintro; exact hr
    isplitl [HO]; · iexact HO
    isplitl [Hv Hp]
    · unfold rcvGive rsRPay; isplitl [Hv] <;> iassumption
    iexact Hl

/-- The device's own chunk of the partial result covers that chunk's rows. -/
theorem set_acc26P (c : Dev nD) : (mPart.access (Rect.unit (s := S1024x1024) (k0_off26 c) S64x1024.size (k0_off26_inb c))).set = rowSet (ch c) :=
  set_part (ch c) _ (k0_off26_inb c) (off26_eq c)
/-- The device's own chunk of the result covers that chunk's rows. -/
theorem set_acc26O (c : Dev nD) : (mOut.access (Rect.unit (s := S1024x1024) (k0_off26 c) S64x1024.size (k0_off26_inb c))).set = rowSet (ch c) :=
  set_out (ch c) _ (k0_off26_inb c) (off26_eq c)

set_option maxHeartbeats 800000 in
/-- The sum of the own chunk and the received ones, stored as the own chunk of the result. -/
theorem wp_reduce (c : Dev nD) :
    iprop(PP m K ∗ OW c (O3 c peers) ∗ bigSepL peers (rcvNeed c) ∗ (((c : Thread nD τ).loc cc0_scratch9) ↦[rowSet (ch c)]{fullShare} partC m c)
        ∗ ∃ f, ((c : Thread nD τ).loc cc0_stg3_0) ↦[rowSet (ch c)]{fullShare} f)
      ⊢ WP c (reduce c) (fun _ => iprop(OW c (O3 c peers) ∗ bigSepL peers (rcvGive m c)
        ∗ (((c : Thread nD τ).loc cc0_scratch9) ↦[rowSet (ch c)]{fullShare} partC m c)
        ∗ (((c : Thread nD τ).loc cc0_stg3_0) ↦[rowSet (ch c)]{fullShare} outC m))) := by
  unfold reduce
  iintro ⟨#HP, HO, Hl, Hp, ⟨%f, Ho⟩⟩
  simp only [WP, Prog.lift, Prog.bind_op, Prog.bind_ret]
  iapply (wp_load_rect 𝒱₀ (c : Thread nD τ) none Set.univ (m := mPart) (r := Rect.unit (s := S1024x1024) (k0_off26 c) S64x1024.size (k0_off26_inb c)) (S := rowSet (ch c)) (by rw [set_acc26P])) $$ Hp; iintro Hp
  iapply (wp_seq c (wp_accL m K c peers (acc0 m c))) $$ [HO Hl]
  · isplitr; · iexact HP
    isplitl [HO] <;> iassumption
  iintro %r ⟨%hr, HO, Hl⟩
  subst hr
  simp only [WP, Prog.lift, Prog.bind_op, Prog.bind_ret]
  iapply (wp_load_rect 𝒱₀ (c : Thread nD τ) none Set.univ (m := mOut) (r := Rect.unit (s := S1024x1024) (k0_off26 c) S64x1024.size (k0_off26_inb c)) (S := rowSet (ch c)) (by rw [set_acc26O])) $$ Ho; iintro Ho
  iapply (wp_store 𝒱₀ (c : Thread nD τ) none Set.univ (m := mOut) (r := Rect.unit (s := S1024x1024) (k0_off26 c) S64x1024.size (k0_off26_inb c)) (Mk := Finset.univ) (S := rowSet (ch c))
    (by rw [← set_acc26O]; exact subset_rfl)) $$ Ho; iintro Ho
  rw [wp_ret]
  imodintro
  isplitl [HO]; · iexact HO
  isplitl [Hl]; · iexact Hl
  isplitl [Hp]; · iexact Hp
  iapply (Entails.of_eq (pointsTo_congr (show ∀ i ∈ rowSet (ch c),
    (mOut.access (Rect.unit (s := S1024x1024) (k0_off26 c) S64x1024.size (k0_off26_inb c))).write (Elt F) f (redC m c) Finset.univ i = outC m i from by
      rw [← set_acc26O]; exact write_eq_on (F := F) (mOut.access (Rect.unit (s := S1024x1024) (k0_off26 c) S64x1024.size (k0_off26_inb c))) f (outC m) _ (read_out m c)))) $$ Ho

end Cert.KernelIdeal.Hand

end
-- ==== Proof.KernelIdeal.Split.lean ====
/-
  Buffers cut into the pieces the transfers move, and put together again.
-/
module

public import proofs.«01_k».proof.Proof.KernelIdeal.Compute

@[expose] public section

set_option maxRecDepth 65536

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × CI → ℕ)

/-! ## Loops over all heads, all peers -/

/-- The list of peers names them all. -/
theorem peers_all : (Finset.univ : Finset (Fin 15)) = peers.toFinset := by decide
/-- The list of heads names them all. -/
theorem heads_all : (Finset.univ : Finset (Fin 8)) = heads.toFinset := by decide

/-- A loop over a list that lists every index once. -/
theorem wp_forL_univ (c : Dev nD) {α : Type} [Fintype α] [DecidableEq α] (l : List α) (hl : Finset.univ = l.toFinset) (hn : l.Nodup)
    (f : α → PG F PUnit) (P : sProp 𝕄) [BI.Persistent P] (R : List α → sProp 𝕄)
    (A B : α → sProp 𝕄) (h : ∀ a l, iprop(P ∗ R (a :: l) ∗ A a) ⊢ WP c (f a) (fun _ => iprop(R l ∗ B a))) :
    iprop(P ∗ R l ∗ bigSep Finset.univ A) ⊢ WP c (forL l f) (fun _ => iprop(R [] ∗ bigSep Finset.univ B)) := by
  rw [bigSep_univ_eq_bigSepL l hl hn, bigSep_univ_eq_bigSepL l hl hn]
  exact wp_forL c l f P R A B h

/-- Fifteen indices as three groups of four and one of three. -/
theorem bigSep_groups (Φ : Fin 15 → sProp 𝕄) : bigSep Finset.univ Φ
    = iprop(bigSep Finset.univ (fun q => Φ (nA 0 q)) ∗ bigSep Finset.univ (fun q => Φ (nA 1 q)) ∗ bigSep Finset.univ (fun q => Φ (nA 2 q))
      ∗ bigSep Finset.univ (fun r => Φ (nB r))) := by
  rw [bigSep_univ_eq_bigSepL peers peers_all (by decide)]
  rw [bigSep_univ_eq_bigSepL (I := Fin 4) [0, 1, 2, 3] (by decide) (by decide), bigSep_univ_eq_bigSepL (I := Fin 4) [0, 1, 2, 3] (by decide) (by decide),
    bigSep_univ_eq_bigSepL (I := Fin 4) [0, 1, 2, 3] (by decide) (by decide), bigSep_univ_eq_bigSepL (I := Fin 3) [0, 1, 2] (by decide) (by decide)]
  rw [← bigSepL_map (nA 0), ← bigSepL_map (nA 1), ← bigSepL_map (nA 2), ← bigSepL_map nB, ← bigSepL_append, ← bigSepL_append, ← bigSepL_append]
  rfl

/-! ## Buffers cut -/

/-- A buffer at given contents, cut along a family of pieces that covers it. -/
theorem cut {T : Type} [Fintype T] {ℓ : Loc nD τ sig} (S : T → Finset (Idx ℓ)) (S₀ : Finset (Idx ℓ)) (hc : Finset.univ.biUnion S = S₀)
    (hd : ∀ t t', t ≠ t' → Disjoint (S t) (S t')) (q : PosShare TreeShare) (f : Buf (Elt F) ℓ) :
    (ℓ ↦[S₀]{q} f : sProp 𝕄) = bigSep Finset.univ fun t => ℓ ↦[S t]{q} f := by
  rw [← hc]
  exact pointsTo_biUnion Finset.univ S fun t _ t' _ h => hd t t' h

/-- The same at any contents. -/
theorem cut_any {T : Type} [Fintype T] {ℓ : Loc nD τ sig} (S : T → Finset (Idx ℓ)) (S₀ : Finset (Idx ℓ)) (hc : Finset.univ.biUnion S = S₀)
    (hd : ∀ t t', t ≠ t' → Disjoint (S t) (S t')) (q : PosShare TreeShare) :
    (iprop(∃ f : Buf (Elt F) ℓ, ℓ ↦[S₀]{q} f) : sProp 𝕄) ⊢ bigSep Finset.univ fun t => iprop(∃ f : Buf (Elt F) ℓ, ℓ ↦[S t]{q} f) := by
  iintro ⟨%f, H⟩
  ihave H := (Entails.of_eq (cut S S₀ hc hd q f)) $$ H
  iapply (show bigSep Finset.univ (fun t => (ℓ ↦[S t]{q} f : sProp 𝕄)) ⊢ bigSep Finset.univ fun t => iprop(∃ f : Buf (Elt F) ℓ, ℓ ↦[S t]{q} f) from
    bigSep_mono fun t _ => (show (ℓ ↦[S t]{q} f : sProp 𝕄) ⊢ iprop(∃ f : Buf (Elt F) ℓ, ℓ ↦[S t]{q} f) from by
      iintro H; iexists f; iexact H)) $$ H

section
variable (c : Dev nD)

/-- The gathered keys, head by head; and the values. -/
theorem kf_cols (f : Buf (Elt F) ((c : Thread nD τ).loc cc0_scratch0)) :
    (BF c cc0_scratch0 f : sProp 𝕄) = bigSep Finset.univ fun h : Fin 8 => ((c : Thread nD τ).loc cc0_scratch0) ↦[colSet h]{fullShare} f :=
  cut (ℓ := (c : Thread nD τ).loc cc0_scratch0) colSet Finset.univ colSet_cover (fun _ _ h => colSet_disj h) fullShare f
/-- The gathered values, as eight heads' columns. -/
theorem vf_cols (f : Buf (Elt F) ((c : Thread nD τ).loc cc0_scratch1)) :
    (BF c cc0_scratch1 f : sProp 𝕄) = bigSep Finset.univ fun h : Fin 8 => ((c : Thread nD τ).loc cc0_scratch1) ↦[colSet h]{fullShare} f :=
  cut (ℓ := (c : Thread nD τ).loc cc0_scratch1) colSet Finset.univ colSet_cover (fun _ _ h => colSet_disj h) fullShare f
/-- The buffer of the gathered keys at any contents, as eight heads' columns. -/
theorem kf_any : (BA c cc0_scratch0 : sProp 𝕄) ⊢ bigSep Finset.univ fun h : Fin 8 => iprop(∃ f, ((c : Thread nD τ).loc cc0_scratch0) ↦[colSet h]{fullShare} f) :=
  cut_any (ℓ := (c : Thread nD τ).loc cc0_scratch0) colSet Finset.univ colSet_cover (fun _ _ h => colSet_disj h) fullShare
/-- The buffer of the gathered values at any contents, as eight heads' columns. -/
theorem vf_any : (BA c cc0_scratch1 : sProp 𝕄) ⊢ bigSep Finset.univ fun h : Fin 8 => iprop(∃ f, ((c : Thread nD τ).loc cc0_scratch1) ↦[colSet h]{fullShare} f) :=
  cut_any (ℓ := (c : Thread nD τ).loc cc0_scratch1) colSet Finset.univ colSet_cover (fun _ _ h => colSet_disj h) fullShare

/-- The elements of the keys (or values) that are not the device's heads. -/
abbrev otherHeads : Finset S1x1024x128x128.Idx := Finset.univ \ Finset.univ.biUnion (headSet c)

/-- The key array, as the device's eight heads and the others. -/
theorem k_heads (f : Buf (Elt F) ((c : Thread nD τ).loc main_arg2)) :
    (BF c main_arg2 f : sProp 𝕄) ⊣⊢ iprop((bigSep Finset.univ fun h : Fin 8 => ((c : Thread nD τ).loc main_arg2) ↦[headSet c h]{fullShare} f)
      ∗ ((c : Thread nD τ).loc main_arg2) ↦[otherHeads c]{fullShare} f) := by
  rw [← cut (ℓ := (c : Thread nD τ).loc main_arg2) (headSet c) (Finset.univ.biUnion (headSet c)) rfl (fun _ _ h => headSet_disj c h) fullShare f]
  exact pointsTo_split_subset (Finset.subset_univ _)
/-- The value array, as the device's eight heads and the others. -/
theorem v_heads (f : Buf (Elt F) ((c : Thread nD τ).loc main_arg3)) :
    (BF c main_arg3 f : sProp 𝕄) ⊣⊢ iprop((bigSep Finset.univ fun h : Fin 8 => ((c : Thread nD τ).loc main_arg3) ↦[headSet c h]{fullShare} f)
      ∗ ((c : Thread nD τ).loc main_arg3) ↦[otherHeads c]{fullShare} f) := by
  rw [← cut (ℓ := (c : Thread nD τ).loc main_arg3) (headSet c) (Finset.univ.biUnion (headSet c)) rfl (fun _ _ h => headSet_disj c h) fullShare f]
  exact pointsTo_split_subset (Finset.subset_univ _)

/-- The partial result's slabs, in the order they are computed. -/
theorem slabOf_cover : (Finset.univ : Finset (Fin 4)).biUnion (fun u => slabSet (slabOf c u)) = Finset.univ := by
  rw [← slabSet_cover]
  ext x
  rw [Finset.mem_biUnion, Finset.mem_biUnion]
  constructor
  · rintro ⟨u, -, h⟩; exact ⟨_, Finset.mem_univ _, h⟩
  · rintro ⟨s, -, h⟩; exact ⟨turnOf c s, Finset.mem_univ _, by rw [slabOf_turnOf]; exact h⟩
/-- Different numbers are different slabs. -/
theorem slabOf_inj {u u' : Fin 4} (h : slabOf c u = slabOf c u') : u = u' := by rw [← turnOf_slabOf c u, h, turnOf_slabOf]

/-- The buffer of the partial result at any contents, as four slabs. -/
theorem part_any : (BA c cc0_scratch9 : sProp 𝕄)
    ⊢ bigSep Finset.univ fun u : Fin 4 => iprop(∃ f, ((c : Thread nD τ).loc cc0_scratch9) ↦[slabSet (slabOf c u)]{fullShare} f) :=
  cut_any (ℓ := (c : Thread nD τ).loc cc0_scratch9) (fun u => slabSet (slabOf c u)) Finset.univ (slabOf_cover c)
    (fun _ _ h => slabSet_disj fun h' => h (slabOf_inj c h')) fullShare

/-- Different sends from a slab move different chunks. -/
theorem chA_inj (u : Fin 3) : ∀ q q' : Fin 4, ch (peer c (kk c (nA u q))) = ch (peer c (kk c (nA u q'))) → q = q' := by
  revert c u; decide +kernel
/-- Every chunk of a slab is sent. -/
theorem chA_onto (u : Fin 3) : ∀ i : Fin 16, i.val / 4 = (slabOf c u.castSucc).val → ∃ q, ch (peer c (kk c (nA u q))) = i := by
  revert c u; decide +kernel

/-- A computed slab, as the four chunks to be sent. -/
theorem slab_chunks (u : Fin 3) :
    (((c : Thread nD τ).loc cc0_scratch9) ↦[slabSet (slabOf c u.castSucc)]{fullShare} partC m c : sProp 𝕄)
      = bigSep Finset.univ fun q : Fin 4 => rsSPay m c (kk c (nA u q)) :=
  cut (ℓ := (c : Thread nD τ).loc cc0_scratch9) (fun q => rowSet (ch (peer c (kk c (nA u q))))) _
    (slabSet_rows _ _ (fun q => by rw [ch_nA]; omega) (chA_onto c u))
    (fun q q' h => rowSet_disj fun h' => h (chA_inj c u q q' h')) fullShare (partC m c)

/-- The chunks of the device's own slab: three to be sent, then its own. -/
def chB (q : Fin 4) : Fin 16 := if h : q.val < 3 then ch (peer c (kk c (nB ⟨q.val, h⟩))) else ch c
/-- The four chunks lie in the own slab, -/
theorem chB_in : ∀ q : Fin 4, (chB c q).val / 4 = (slabOf c 3).val := by revert c; decide +kernel
/-- are different, -/
theorem chB_inj : ∀ q q' : Fin 4, chB c q = chB c q' → q = q' := by revert c; decide +kernel
/-- and are all of that slab's. -/
theorem chB_onto : ∀ i : Fin 16, i.val / 4 = (slabOf c 3).val → ∃ q, chB c q = i := by revert c; decide +kernel

/-- The own slab, as three chunks to be sent and the chunk the device owns. -/
theorem own_chunks :
    (((c : Thread nD τ).loc cc0_scratch9) ↦[slabSet (slabOf c 3)]{fullShare} partC m c : sProp 𝕄)
      = iprop((bigSep Finset.univ fun r : Fin 3 => rsSPay m c (kk c (nB r))) ∗ (((c : Thread nD τ).loc cc0_scratch9) ↦[rowSet (ch c)]{fullShare} partC m c)) := by
  rw [cut (ℓ := (c : Thread nD τ).loc cc0_scratch9) (fun q => rowSet (chB c q)) _
    (slabSet_rows _ _ (chB_in c) (chB_onto c)) (fun q q' h => rowSet_disj fun h' => h (chB_inj c q q' h')) fullShare (partC m c),
    bigSep_univ_eq_bigSepL (I := Fin 4) ([0, 1, 2] ++ [3]) (by decide) (by decide), bigSepL_append, bigSep_univ_eq_bigSepL (I := Fin 3) [0, 1, 2] (by decide) (by decide)]
  rfl

/-- The chunks of every peer and the device's own cover the rows. -/
theorem rows_of_peers : (Finset.univ : Finset (Fin 15)).biUnion (fun k => rowSet (ch (peer c k))) = Finset.univ \ rowSet (ch c) := by
  ext x
  rw [Finset.mem_biUnion, Finset.mem_sdiff]
  have h0 : (x 0).val < 1024 := (x 0).isLt
  constructor
  · rintro ⟨k, -, h⟩
    refine ⟨Finset.mem_univ _, fun h' => ?_⟩
    exact Finset.disjoint_left.mp (rowSet_disj fun e => peer_ne c k (ch_inj e)) h h'
  · rintro ⟨-, h⟩
    have hne : owner ⟨(x 0).val / 64, by omega⟩ ≠ c := by
      rintro rfl
      exact h (mem_rowSet.mpr (by rw [ch_owner]))
    obtain ⟨k, hk⟩ := exists_peer c _ hne
    exact ⟨k, Finset.mem_univ _, mem_rowSet.mpr (by rw [hk, ch_owner])⟩

/-- The result, as the chunk the device owns and its peers'. -/
theorem out_rows (f : Buf (Elt F) ((c : Thread nD τ).loc cc0_stg3_0)) :
    (BF c cc0_stg3_0 f : sProp 𝕄) ⊣⊢ iprop((((c : Thread nD τ).loc cc0_stg3_0) ↦[rowSet (ch c)]{fullShare} f)
      ∗ bigSep Finset.univ fun k : Fin 15 => ((c : Thread nD τ).loc cc0_stg3_0) ↦[rowSet (ch (peer c k))]{fullShare} f) := by
  rw [← cut (ℓ := (c : Thread nD τ).loc cc0_stg3_0) (fun k => rowSet (ch (peer c k))) _ (rows_of_peers c)
    (fun k k' h => rowSet_disj fun h' => h (peer_inj c (ch_inj h'))) fullShare f]
  exact pointsTo_split_subset (Finset.subset_univ _)
/-- The partial result, as the chunk the device owns and its peers'. -/
theorem part_rows (f : Buf (Elt F) ((c : Thread nD τ).loc cc0_scratch9)) :
    (BF c cc0_scratch9 f : sProp 𝕄) ⊣⊢ iprop((((c : Thread nD τ).loc cc0_scratch9) ↦[rowSet (ch c)]{fullShare} f)
      ∗ bigSep Finset.univ fun k : Fin 15 => ((c : Thread nD τ).loc cc0_scratch9) ↦[rowSet (ch (peer c k))]{fullShare} f) := by
  rw [← cut (ℓ := (c : Thread nD τ).loc cc0_scratch9) (fun k => rowSet (ch (peer c k))) _ (rows_of_peers c)
    (fun k k' h => rowSet_disj fun h' => h (peer_inj c (ch_inj h'))) fullShare f]
  exact pointsTo_split_subset (Finset.subset_univ _)

/-- The receive buffer's slots. -/
theorem rs_slots (f : Buf (Elt F) ((c : Thread nD τ).loc cc0_scratch10)) :
    (BF c cc0_scratch10 f : sProp 𝕄) = bigSep Finset.univ fun k : Fin 15 => ((c : Thread nD τ).loc cc0_scratch10) ↦[slotSet k]{fullShare} f :=
  cut (ℓ := (c : Thread nD τ).loc cc0_scratch10) slotSet Finset.univ slotSet_cover (fun _ _ h => slotSet_disj h) fullShare f
/-- The receive buffer at any contents, as fifteen slots. -/
theorem rs_any : (BA c cc0_scratch10 : sProp 𝕄) ⊢ bigSep Finset.univ fun k : Fin 15 => iprop(∃ f, ((c : Thread nD τ).loc cc0_scratch10) ↦[slotSet k]{fullShare} f) :=
  cut_any (ℓ := (c : Thread nD τ).loc cc0_scratch10) slotSet Finset.univ slotSet_cover (fun _ _ h => slotSet_disj h) fullShare

/-- A piece at what is left after `n` halvings, and the halves given away. -/
theorem shares (ℓ : Loc nD τ sig) (S : Finset (Idx ℓ)) (f : Buf (Elt F) ℓ) (n : ℕ) :
    (ℓ ↦[S]{fullShare} f : sProp 𝕄) ⊣⊢ iprop((bigSep (Finset.range n) fun j => ℓ ↦[S]{shL j} f) ∗ (ℓ ↦[S]{shR n} f)) := by
  induction n with
  | zero =>
    rw [Finset.range_zero, bigSep_empty]
    exact ⟨by iintro H; isplitr; · iempintro
              iexact H, by iintro ⟨-, H⟩; iexact H⟩
  | succ n ih =>
    rw [Finset.range_add_one, show (bigSep (insert n (Finset.range n)) fun j => (ℓ ↦[S]{shL j} f : sProp 𝕄))
      = iprop((ℓ ↦[S]{shL n} f) ∗ bigSep (Finset.range n) fun j => ℓ ↦[S]{shL j} f) from bigSep_insert (by simp)]
    have hs : (ℓ ↦[S]{shR n} f : sProp 𝕄) ⊣⊢ iprop((ℓ ↦[S]{shL n} f) ∗ (ℓ ↦[S]{shR (n + 1)} f)) :=
      pointsTo_share (PosShare.mem_left_op_right (shR n))
    constructor
    · refine ih.1.trans ?_
      iintro ⟨H, H'⟩
      ihave H' := hs.1 $$ H'
      icases H' with ⟨Ha, Hb⟩
      isplitl [H Ha]
      · isplitl [Ha] <;> iassumption
      iexact Hb
    · refine (show _ ⊢ _ from ?_ : _).trans ih.2
      iintro ⟨⟨Ha, H⟩, Hb⟩
      isplitl [H]; · iexact H
      iapply hs.2
      isplitl [Ha] <;> iassumption

/-- The first fifteen numbers, counted either way. -/
theorem range_fin (Φ : ℕ → sProp 𝕄) : bigSep (Finset.range 15) Φ = bigSep Finset.univ (fun j : Fin 15 => Φ j.val) := by
  rw [show Finset.range 15 = (Finset.univ : Finset (Fin 15)).map Fin.valEmbedding from by decide]
  exact bigSep_map _

/-- The own chunk of the result, shared out to the fifteen sends. -/
theorem out_shares : (((c : Thread nD τ).loc cc0_stg3_0) ↦[rowSet (ch c)]{fullShare} outC m : sProp 𝕄)
    ⊣⊢ iprop((bigSep Finset.univ fun j : Fin 15 => agSPay m c j) ∗ (((c : Thread nD τ).loc cc0_stg3_0) ↦[rowSet (ch c)]{shR 15} outC m)) := by
  have h := shares (F := F) ((c : Thread nD τ).loc cc0_stg3_0) (rowSet (ch c)) (outC m) 15
  rw [range_fin] at h
  exact h

end

end Cert.KernelIdeal.Hand

end
-- ==== Proof.KernelIdeal.Stages.lean ====
/-
  The four stages of the body: what each needs, and what it leaves.
-/
module

public import proofs.«01_k».proof.Proof.KernelIdeal.Split

@[expose] public section

set_option maxRecDepth 65536

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × CI → ℕ)

/-! ## Families of assertions, paired and taken apart -/

/-- Two families held together are held member by member. -/
theorem zip {I : Type} [Fintype I] [DecidableEq I] (A B : I → sProp 𝕄) :
    iprop(bigSep Finset.univ A ∗ bigSep Finset.univ B) ⊢ bigSep Finset.univ fun i => iprop(A i ∗ B i) :=
  Entails.of_eq (bigSep_sep' _ _ _).symm
/-- A family of pairs is two families. -/
theorem unzip {I : Type} [Fintype I] [DecidableEq I] (A B : I → sProp 𝕄) :
    bigSep Finset.univ (fun i => iprop(A i ∗ B i)) ⊢ iprop(bigSep Finset.univ A ∗ bigSep Finset.univ B) :=
  Entails.of_eq (bigSep_sep' _ _ _)

/-! ## The loads, the signals, the casts -/

/-- The waits of one head's loads. -/
def ldAt (c : Dev nD) (h : Fin 8) : sProp 𝕄 :=
  iprop(atPos ER (cell c (iL (semK h))) 0 ∅ 0 ∗ atPos ER (cell c (iL (semV h))) 0 ∅ 0)
/-- One head's loads, under way. -/
def ldCr (c : Dev nD) (h : Fin 8) : sProp 𝕄 :=
  iprop(cred (tallyAt (cell c (iL (semK h))) () NL) ∗ cred (tallyAt (cell c (iL (semV h))) () NL))
/-- What one head's loads leave on their semaphores. -/
def ldSem (c : Dev nD) (h : Fin 8) : sProp 𝕄 := iprop(semVal (cell c (iL (semK h))) 0 ∗ semVal (cell c (iL (semV h))) 0)

/-- All loads are started. -/
theorem wp_loads (c : Dev nD) :
    iprop(PP m K ∗ bigSep Finset.univ fun h => iprop(ldK m c h ∗ ldV m c h)) ⊢ WP c (loads c) (fun _ => bigSep Finset.univ fun h => ldCr (F := F) c h) := by
  unfold loads
  have hl := wp_forL_univ c heads heads_all (by decide) (fun h => ldStart mK mKf c (semK h) h >>= fun _ => ldStart mV mVf c (semV h) h)
    (PP m K) (fun _ => iprop(emp)) (fun h => iprop(ldK m c h ∗ ldV m c h)) (fun h => ldCr (F := F) c h) (fun h l => by
      iintro ⟨#HP, -, Hk, Hv⟩
      iapply (wp_seq c (wp_ldK m K c h)) $$ [Hk]
      · isplitr; · iexact HP
        iexact Hk
      iintro %y Hk
      iapply (wp_fin c (wp_ldV m K c h)) $$ [Hv]
      · isplitr; · iexact HP
        iexact Hv
      iintro %y Hv
      isplitr; · iempintro
      unfold ldCr
      isplitl [Hk] <;> iassumption)
  iintro ⟨#HP, H⟩
  iapply (wp_fin c hl) $$ [H]
  · isplitr; · iexact HP
    isplitr; · iempintro
    iexact H
  iintro %y ⟨-, H⟩
  iexact H

/-- All loads are awaited. -/
theorem wp_loadWaits (c : Dev nD) :
    iprop(PP m K ∗ OW c (O2 c peers) ∗ bigSep Finset.univ fun h => iprop(ldCr (F := F) c h ∗ ldAt c h))
      ⊢ WP c (loadWaits c) (fun _ => iprop(OW c (O2 c peers) ∗ bigSep Finset.univ fun h => iprop(ldSem (F := F) c h ∗ ldKPay m c h ∗ ldVPay m c h))) := by
  rw [← O1_nil]
  unfold loadWaits
  exact wp_forL_univ c heads heads_all (by decide) (fun h => ldWait mK mKf c (semK h) h >>= fun _ => ldWait mV mVf c (semV h) h)
    (PP m K) (fun _ => OW c (O1 c [])) (fun h => iprop(ldCr (F := F) c h ∗ ldAt c h)) (fun h => iprop(ldSem (F := F) c h ∗ ldKPay m c h ∗ ldVPay m c h)) (fun h l => by
      unfold ldCr ldAt ldSem
      iintro ⟨#HP, HO, ⟨Hck, Hcv⟩, Hak, Hav⟩
      iapply (wp_seq c (wp_ldKWait m K c h [])) $$ [HO Hck Hak]
      · isplitr; · iexact HP
        isplitl [HO]; · iexact HO
        isplitl [Hck] <;> iassumption
      iintro %y ⟨HO, Hsk, Hk⟩
      iapply (wp_fin c (wp_ldVWait m K c h [])) $$ [HO Hcv Hav]
      · isplitr; · iexact HP
        isplitl [HO]; · iexact HO
        isplitl [Hcv] <;> iassumption
      iintro %y ⟨HO, Hsv, Hv⟩
      isplitl [HO]; · iexact HO
      isplitl [Hsk Hsv]; · isplitl [Hsk] <;> iassumption
      isplitl [Hk] <;> iassumption)

/-- What one signal needs. -/
def sigNeed (c : Dev nD) (j : Fin 15) : sProp 𝕄 := iprop(dutyTok ER (cell (peer c j) none) 0 j ∗ lend c j)

/-- Every peer's barrier is signalled. -/
theorem wp_signals (c : Dev nD) :
    iprop(PP m K ∗ OW c (O1 c peers) ∗ bigSep Finset.univ fun j => sigNeed (F := F) c j) ⊢ WP c (signals c) (fun _ => OW c (O2 c peers)) := by
  rw [← O1_nil]
  unfold signals
  have hl := wp_forL_univ c peers peers_all (by decide) (signal c) (PP m K) (fun l => OW c (O1 c l)) (fun j => sigNeed (F := F) c j) (fun _ => iprop(emp)) (fun j l => by
    unfold sigNeed
    iintro H
    iapply (wp_fin c (wp_signal_step m K c j l)) $$ H
    iintro %y H
    isplitl; · iexact H
    iempintro)
  iintro H
  iapply (wp_fin c hl) $$ H
  iintro %y ⟨H, -⟩
  iexact H

/-- The inputs on chip. -/
def ins (c : Dev nD) : sProp 𝕄 := iprop(BF c cc0_stg0_0 (xC m c) ∗ BF c cc0_stg1_0 (wqC m c) ∗ BF c cc0_stg2_0 (woC m c))
/-- The buffers the casts and the projection fill. -/
def work (c : Dev nD) : sProp 𝕄 :=
  iprop(BA c cc0_scratch2 ∗ BA c cc0_scratch3 ∗ BA c cc0_scratch4 ∗ BA c cc0_scratch5 ∗ BA c cc0_scratch6 ∗ BA c cc0_scratch7)
/-- The buffers done with. -/
def done (c : Dev nD) : sProp 𝕄 :=
  iprop(BF c cc0_scratch0 (kfC m c) ∗ BF c cc0_scratch1 (vfC m c) ∗ BF c cc0_scratch5 (xbC m c) ∗ BF c cc0_scratch6 (wqbC m c))

set_option maxHeartbeats 1600000 in
/-- From the start to the queries: the loads, the signals, the casts and the projection. -/
theorem wp_stageA (c : Dev nD) :
    iprop(PP m K ∗ OW c (O1 c peers) ∗ ins m c ∗ work c ∗ (bigSep Finset.univ fun h => iprop(ldK m c h ∗ ldV m c h)) ∗ (bigSep Finset.univ fun h => ldAt (F := F) c h)
        ∗ bigSep Finset.univ fun j => sigNeed (F := F) c j)
      ⊢ WP c (stageA c) (fun _ => iprop(OW c (O2 c peers) ∗ ins m c ∗ done m c ∗ slabIn m c ∗ (bigSep Finset.univ fun h => ldSem (F := F) c h)
        ∗ (bigSep Finset.univ fun h : Fin 8 => ((c : Thread nD τ).loc main_arg2) ↦[headSet c h]{fullShare} kArr m c)
        ∗ bigSep Finset.univ fun h : Fin 8 => ((c : Thread nD τ).loc main_arg3) ↦[headSet c h]{fullShare} vArr m c)) := by
  unfold stageA ins work
  iintro ⟨#HP, HO, ⟨Hx, Hwq, Hwo⟩, ⟨H2, H3, H4, H5, H6, H7⟩, Hld, Hat, Hsg⟩
  iapply (wp_seq c (wp_loads m K c)) $$ [Hld]
  · isplitr; · iexact HP
    iexact Hld
  iintro %y Hcr
  iapply (wp_seq c (wp_signals m K c)) $$ [HO Hsg]
  · isplitr; · iexact HP
    isplitl [HO] <;> iassumption
  iintro %y HO
  iapply (wp_seq c (wp_castX m c)) $$ [Hx H5]
  · isplitl [Hx] <;> iassumption
  iintro %y ⟨Hx, H5⟩
  iapply (wp_seq c (wp_castWq m c)) $$ [Hwq H6]
  · isplitl [Hwq] <;> iassumption
  iintro %y ⟨Hwq, H6⟩
  iapply (wp_seq c (wp_project m c)) $$ [H5 H6 H4]
  · isplitl [H5]; · iexact H5
    isplitl [H6] <;> iassumption
  iintro %y ⟨H5, H6, H4⟩
  iapply (wp_seq c (wp_castWo m c)) $$ [Hwo H7]
  · isplitl [Hwo] <;> iassumption
  iintro %y ⟨Hwo, H7⟩
  iapply (wp_seq c (wp_loadWaits m K c)) $$ [HO Hcr Hat]
  · isplitr; · iexact HP
    isplitl [HO]; · iexact HO
    iapply (zip (fun h => ldCr (F := F) c h) (fun h => ldAt (F := F) c h))
    isplitl [Hcr] <;> iassumption
  iintro %y ⟨HO, H⟩
  ihave H := (unzip (fun h => ldSem (F := F) c h) (fun h => iprop(ldKPay m c h ∗ ldVPay m c h))) $$ H
  icases H with ⟨Hsem, H⟩
  ihave H := (unzip (fun h => ldKPay m c h) (fun h => ldVPay m c h)) $$ H
  icases H with ⟨Hk, Hv⟩
  ihave Hk := (show bigSep Finset.univ (fun h => ldKPay m c h) ⊢ _ from unzip (fun h : Fin 8 => (((c : Thread nD τ).loc cc0_scratch0) ↦[colSet h]{fullShare} kfC m c : sProp 𝕄))
    (fun h => ((c : Thread nD τ).loc main_arg2) ↦[headSet c h]{fullShare} kArr m c)) $$ Hk
  icases Hk with ⟨Hk, HK⟩
  ihave Hv := (show bigSep Finset.univ (fun h => ldVPay m c h) ⊢ _ from unzip (fun h : Fin 8 => (((c : Thread nD τ).loc cc0_scratch1) ↦[colSet h]{fullShare} vfC m c : sProp 𝕄))
    (fun h => ((c : Thread nD τ).loc main_arg3) ↦[headSet c h]{fullShare} vArr m c)) $$ Hv
  icases Hv with ⟨Hv, HV⟩
  ihave Hk := (Entails.of_eq (kf_cols c (kfC m c)).symm) $$ Hk
  ihave Hv := (Entails.of_eq (vf_cols c (vfC m c)).symm) $$ Hv
  iapply (wp_seq c (wp_castKf m c)) $$ [Hk H2]
  · isplitl [Hk] <;> iassumption
  iintro %y ⟨Hk, H2⟩
  iapply (wp_fin c (wp_castVf m c)) $$ [Hv H3]
  · isplitl [Hv] <;> iassumption
  iintro %y ⟨Hv, H3⟩
  unfold done slabIn
  isplitl [HO]; · iexact HO
  isplitl [Hx Hwq Hwo]
  · isplitl [Hx]; · iexact Hx
    isplitl [Hwq] <;> iassumption
  isplitl [Hk Hv H5 H6]
  · isplitl [Hk]; · iexact Hk
    isplitl [Hv]; · iexact Hv
    isplitl [H5] <;> iassumption
  isplitl [H4 H2 H3 H7]
  · isplitl [H4]; · iexact H4
    isplitl [H2]; · iexact H2
    isplitl [H3] <;> iassumption
  isplitl [Hsem]; · iexact Hsem
  isplitl [HK] <;> iassumption

/-! ## The slabs and the chunks sent -/

/-- The tokens of one send of a chunk, and the slot it goes to. -/
def rsTok (c : Dev nD) (k : Fin 15) : sProp 𝕄 := iprop(dutyTok ER (cell c (iRS k)) 0 0 ∗ dutyTok ER (cell (peer c k) (iRR k)) 0 0)
def rsSlot (c : Dev nD) (k : Fin 15) : sProp 𝕄 := iprop(∃ f, ((peer c k : Thread nD τ).loc cc0_scratch10) ↦[slotSet k]{fullShare} f)
def outRows (c : Dev nD) (k : Fin 15) : sProp 𝕄 := iprop(∃ f, ((peer c k : Thread nD τ).loc cc0_stg3_0) ↦[rowSet (ch c)]{fullShare} f)
def rsCr (c : Dev nD) (k : Fin 15) : sProp 𝕄 := cred (tallyAt (cell c (iRS k)) () NR)

/-- What the signal from the peer on the other side hands over is that peer's slot and rows. -/
theorem barPay_rev (c : Dev nD) (k : Fin 15) : barPay (F := F) c (Fin.rev k) = iprop(rsSlot c k ∗ outRows c k) := by
  unfold barPay rsSlot outRows
  rw [src_eq_peer, Fin.rev_rev]

/-- What the barrier brings, peer by peer. -/
theorem barPay_all (c : Dev nD) : bigSep Finset.univ (fun j => barPay (F := F) c j)
    ⊢ iprop((bigSep Finset.univ fun k => rsSlot (F := F) c k) ∗ bigSep Finset.univ fun k => outRows (F := F) c k) := by
  refine (Entails.of_eq (bigSep_univ_equiv Fin.revPerm (fun j => barPay (F := F) c j))).trans ?_
  refine (bigSep_mono fun k _ => ?_).trans (unzip (fun k => rsSlot (F := F) c k) (fun k => outRows (F := F) c k))
  exact Entails.of_eq (barPay_rev c k)

/-- One send's needs in program order. -/
theorem rs_order (c : Dev nD) (Φ : Fin 15 → sProp 𝕄) : bigSep Finset.univ Φ = bigSep Finset.univ fun n => Φ (kk c n) :=
  bigSep_univ_equiv (kkE c) Φ

/-- The four sends after a slab, and what they need. -/
theorem wp_sendsA (c : Dev nD) (u : Fin 3) (u' : Fin 4) (hu : u' = u.castSucc) (l l' : List (Fin 15)) (hl : l = [0, 1, 2, 3].map (nA u) ++ l') :
    iprop(PP m K ∗ OW c (O2 c l) ∗ (((c : Thread nD τ).loc cc0_scratch9) ↦[slabSet (slabOf c u')]{fullShare} partC m c)
        ∗ bigSep Finset.univ fun q : Fin 4 => iprop(rsSlot (F := F) c (kk c (nA u q)) ∗ rsTok c (kk c (nA u q))))
      ⊢ WP c (sendsA c u) (fun _ => iprop(OW c (O2 c l') ∗ bigSep Finset.univ fun q : Fin 4 => rsCr (F := F) c (kk c (nA u q)))) := by
  subst hl hu
  unfold sendsA
  have hl := wp_forL_univ c ([0, 1, 2, 3] : List (Fin 4)) (by decide) (by decide) (rsSendA c u) (PP m K) (fun l => OW c (O2 c (l.map (nA u) ++ l')))
    (fun q => iprop(rsSPay m c (kk c (nA u q)) ∗ rsSlot (F := F) c (kk c (nA u q)) ∗ rsTok c (kk c (nA u q)))) (fun q => rsCr (F := F) c (kk c (nA u q))) (fun q l => by
      have h := wp_rsSendA m K c u q (l.map (nA u) ++ l')
      unfold rsNeed at h
      unfold rsSlot rsTok
      exact h)
  iintro ⟨#HP, HO, Hs, H⟩
  ihave Hs := (Entails.of_eq (slab_chunks m c u)) $$ Hs
  iapply (wp_fin c hl) $$ [HO Hs H]
  · isplitr; · iexact HP
    isplitl [HO]; · iexact HO
    iapply (zip (fun q : Fin 4 => rsSPay m c (kk c (nA u q))) (fun q => iprop(rsSlot (F := F) c (kk c (nA u q)) ∗ rsTok c (kk c (nA u q)))))
    isplitl [Hs] <;> iassumption
  iintro %y H
  iexact H

/-- The last three sends. -/
theorem wp_sendsB (c : Dev nD) :
    iprop(PP m K ∗ OW c (O2 c [12, 13, 14]) ∗ bigSep Finset.univ fun r : Fin 3 => iprop(rsSPay m c (kk c (nB r)) ∗ rsSlot (F := F) c (kk c (nB r)) ∗ rsTok c (kk c (nB r))))
      ⊢ WP c (forL [0, 1, 2] (rsSendB c)) (fun _ => iprop(OW c (O3 c peers) ∗ bigSep Finset.univ fun r : Fin 3 => rsCr (F := F) c (kk c (nB r)))) := by
  rw [← O2_nil]
  exact wp_forL_univ c ([0, 1, 2] : List (Fin 3)) (by decide) (by decide) (rsSendB c) (PP m K) (fun l => OW c (O2 c (l.map nB)))
    (fun r => iprop(rsSPay m c (kk c (nB r)) ∗ rsSlot (F := F) c (kk c (nB r)) ∗ rsTok c (kk c (nB r)))) (fun r => rsCr (F := F) c (kk c (nB r))) (fun r l => by
      have h := wp_rsSendB m K c r (l.map nB)
      unfold rsNeed at h
      unfold rsSlot rsTok
      exact h)

/-- The barrier's wait. -/
def barNeed (c : Dev nD) : sProp 𝕄 := iprop(cred (tallyAt (cell c none) () 15) ∗ atPos ER (cell c none) 0 ∅ 0)

/-- The four slabs of the partial result, apart. -/
theorem part_slabs (c : Dev nD) : (BA c cc0_scratch9 : sProp 𝕄)
    ⊢ iprop((∃ f, ((c : Thread nD τ).loc cc0_scratch9) ↦[slabSet (slabOf c 0)]{fullShare} f) ∗ (∃ f, ((c : Thread nD τ).loc cc0_scratch9) ↦[slabSet (slabOf c 1)]{fullShare} f)
      ∗ (∃ f, ((c : Thread nD τ).loc cc0_scratch9) ↦[slabSet (slabOf c 2)]{fullShare} f) ∗ ∃ f, ((c : Thread nD τ).loc cc0_scratch9) ↦[slabSet (slabOf c 3)]{fullShare} f) := by
  have h := part_any (F := F) c
  rw [bigSep_univ_eq_bigSepL (I := Fin 4) [0, 1, 2, 3] (by decide) (by decide)] at h
  rw [bigSepL_cons', bigSepL_cons', bigSepL_cons', bigSepL_cons', bigSepL_nil] at h
  refine h.trans ?_
  iintro ⟨H0, H1, H2, H3, -⟩
  isplitl [H0]; · iexact H0
  isplitl [H1]; · iexact H1
  isplitl [H2] <;> iassumption

set_option maxHeartbeats 1600000 in
/-- The four slabs and the sends of their chunks, with the wait at the barrier before the first send. -/
theorem wp_stageB (c : Dev nD) :
    iprop(PP m K ∗ OW c (O2 c peers) ∗ slabIn m c ∗ BA c cc0_scratch8 ∗ BA c cc0_scratch9 ∗ barNeed c ∗ bigSep Finset.univ fun k => rsTok (F := F) c k)
      ⊢ WP c (stageB c) (fun _ => iprop(OW c (O3 c peers) ∗ slabIn m c ∗ BA c cc0_scratch8 ∗ (((c : Thread nD τ).loc cc0_scratch9) ↦[rowSet (ch c)]{fullShare} partC m c)
        ∗ semVal (cell c none) 0 ∗ (bigSep Finset.univ fun k => rsCr (F := F) c k) ∗ bigSep Finset.univ fun k => outRows (F := F) c k)) := by
  unfold stageB barNeed
  iintro ⟨#HP, HO, Hin, H8, H9, ⟨Hbc, Hba⟩, Htok⟩
  ihave H9 := (part_slabs (F := F) c) $$ H9
  icases H9 with ⟨Hs0, Hs1, Hs2, Hs3⟩
  iapply (wp_seq c (wp_slab m c 0)) $$ [Hin H8 Hs0]
  · isplitl [Hin]; · iexact Hin
    isplitl [H8] <;> iassumption
  iintro %y ⟨Hin, H8, Hs0⟩
  iapply (wp_seq c (wp_barrier m K c (O2 c peers) (mayWait_of c _ (le_of_eq rfl) (above_O2 c peers)))) $$ [HO Hbc Hba]
  · isplitr; · iexact HP
    isplitl [HO]; · iexact HO
    isplitl [Hbc] <;> iassumption
  iintro %y ⟨HO, Hbar, H⟩
  ihave H := (barPay_all (F := F) c) $$ H
  icases H with ⟨Hslot, Hout⟩
  ihave H := (zip (fun k => rsSlot (F := F) c k) (fun k => rsTok (F := F) c k)) $$ [Hslot Htok]
  · isplitl [Hslot] <;> iassumption
  ihave H := (Entails.of_eq ((rs_order c (fun k => iprop(rsSlot (F := F) c k ∗ rsTok (F := F) c k))).trans (bigSep_groups _))) $$ H
  icases H with ⟨Hn0, Hn1, Hn2, Hn3⟩
  iapply (wp_seq c (wp_sendsA m K c 0 0 rfl peers [4, 5, 6, 7, 8, 9, 10, 11, 12, 13, 14] (by decide))) $$ [HO Hs0 Hn0]
  · isplitr; · iexact HP
    isplitl [HO]; · iexact HO
    isplitl [Hs0] <;> iassumption
  iintro %y ⟨HO, Hc0⟩
  iapply (wp_seq c (wp_slab m c 1)) $$ [Hin H8 Hs1]
  · isplitl [Hin]; · iexact Hin
    isplitl [H8] <;> iassumption
  iintro %y ⟨Hin, H8, Hs1⟩
  iapply (wp_seq c (wp_sendsA m K c 1 1 rfl [4, 5, 6, 7, 8, 9, 10, 11, 12, 13, 14] [8, 9, 10, 11, 12, 13, 14] (by decide))) $$ [HO Hs1 Hn1]
  · isplitr; · iexact HP
    isplitl [HO]; · iexact HO
    isplitl [Hs1] <;> iassumption
  iintro %y ⟨HO, Hc1⟩
  iapply (wp_seq c (wp_slab m c 2)) $$ [Hin H8 Hs2]
  · isplitl [Hin]; · iexact Hin
    isplitl [H8] <;> iassumption
  iintro %y ⟨Hin, H8, Hs2⟩
  iapply (wp_seq c (wp_sendsA m K c 2 2 rfl [8, 9, 10, 11, 12, 13, 14] [12, 13, 14] (by decide))) $$ [HO Hs2 Hn2]
  · isplitr; · iexact HP
    isplitl [HO]; · iexact HO
    isplitl [Hs2] <;> iassumption
  iintro %y ⟨HO, Hc2⟩
  iapply (wp_seq c (wp_slab m c 3)) $$ [Hin H8 Hs3]
  · isplitl [Hin]; · iexact Hin
    isplitl [H8] <;> iassumption
  iintro %y ⟨Hin, H8, Hs3⟩
  ihave Hs3 := (Entails.of_eq (own_chunks m c)) $$ Hs3
  icases Hs3 with ⟨Hs3, Hown⟩
  iapply (wp_fin c (wp_sendsB m K c)) $$ [HO Hs3 Hn3]
  · isplitr; · iexact HP
    isplitl [HO]; · iexact HO
    iapply (zip (fun r : Fin 3 => rsSPay m c (kk c (nB r))) (fun r => iprop(rsSlot (F := F) c (kk c (nB r)) ∗ rsTok c (kk c (nB r)))))
    isplitl [Hs3] <;> iassumption
  iintro %y ⟨HO, Hc3⟩
  isplitl [HO]; · iexact HO
  isplitl [Hin]; · iexact Hin
  isplitl [H8]; · iexact H8
  isplitl [Hown]; · iexact Hown
  isplitl [Hbar]; · iexact Hbar
  isplitl [Hc0 Hc1 Hc2 Hc3]
  · iapply (Entails.of_eq ((rs_order c (fun k => rsCr (F := F) c k)).trans (bigSep_groups _)).symm)
    isplitl [Hc0]; · iexact Hc0
    isplitl [Hc1]; · iexact Hc1
    isplitl [Hc2] <;> iassumption
  iexact Hout

/-! ## The sum, and the result passed on -/

def agTok (c : Dev nD) (j : Fin 15) : sProp 𝕄 := iprop(dutyTok ER (cell c (iAS j)) 0 0 ∗ dutyTok ER (cell (peer c j) (iAR j)) 0 0)
def agAt (c : Dev nD) (k : Fin 15) : sProp 𝕄 := iprop(cred (tallyAt (cell c (iAR k)) () NR) ∗ atPos ER (cell c (iAR k)) 0 ∅ 0)
def agGot (c : Dev nD) (k : Fin 15) : sProp 𝕄 := iprop(semVal (cell c (iAR k)) 0 ∗ agRPay m c k)
def agCr (c : Dev nD) (j : Fin 15) : sProp 𝕄 := cred (tallyAt (cell c (iAS j)) () NR)

set_option maxHeartbeats 1600000 in
/-- The partial chunks are awaited and summed, and the summed chunks are sent and awaited. -/
theorem wp_stageC (c : Dev nD) :
    iprop(PP m K ∗ OW c (O3 c peers) ∗ (bigSep Finset.univ fun k => rcvNeed (F := F) c k) ∗ (((c : Thread nD τ).loc cc0_scratch9) ↦[rowSet (ch c)]{fullShare} partC m c)
        ∗ (∃ f, ((c : Thread nD τ).loc cc0_stg3_0) ↦[rowSet (ch c)]{fullShare} f)
        ∗ (bigSep Finset.univ fun j => outRows (F := F) c j) ∗ (bigSep Finset.univ fun j => agTok (F := F) c j) ∗ bigSep Finset.univ fun k => agAt (F := F) c k)
      ⊢ WP c (stageC c) (fun _ => iprop(OW c 0 ∗ (bigSep Finset.univ fun k => rcvGive m c k) ∗ (((c : Thread nD τ).loc cc0_scratch9) ↦[rowSet (ch c)]{fullShare} partC m c)
        ∗ (((c : Thread nD τ).loc cc0_stg3_0) ↦[rowSet (ch c)]{shR 15} outC m) ∗ (bigSep Finset.univ fun j => agCr (F := F) c j) ∗ bigSep Finset.univ fun k => agGot m c k)) := by
  have h1 := wp_forL_univ c peers peers_all (by decide) (agSend c) (PP m K) (fun l => OW c (O3 c l))
    (fun j => iprop(agSPay m c j ∗ outRows (F := F) c j ∗ agTok c j)) (fun j => agCr (F := F) c j) (fun j l => by
      have h := wp_agSend m K c j l
      unfold agNeed at h
      unfold outRows agTok
      exact h)
  have h2 := wp_forL_univ c peers peers_all (by decide) (agWait c) (PP m K) (fun _ => OW c 0) (fun k => agAt (F := F) c k) (fun k => agGot m c k) (fun k l => by
    unfold agAt agGot
    exact wp_agWait m K c k)
  have h0 := wp_reduce m K c
  rw [← bigSep_univ_eq_bigSepL peers peers_all (by decide), ← bigSep_univ_eq_bigSepL peers peers_all (by decide)] at h0
  unfold stageC
  iintro ⟨#HP, HO, Hrc, Hp, Ho, Hrows, Htok, Hat⟩
  iapply (wp_seq c h0) $$ [HO Hrc Hp Ho]
  · isplitr; · iexact HP
    isplitl [HO]; · iexact HO
    isplitl [Hrc]; · iexact Hrc
    isplitl [Hp] <;> iassumption
  iintro %y ⟨HO, Hrc, Hp, Ho⟩
  ihave Ho := (out_shares m c).1 $$ Ho
  icases Ho with ⟨Hs, Ho⟩
  iapply (wp_seq c h1) $$ [HO Hs Hrows Htok]
  · isplitr; · iexact HP
    isplitl [HO]; · iexact HO
    iapply (zip (fun j => agSPay m c j) (fun j => iprop(outRows (F := F) c j ∗ agTok c j)))
    isplitl [Hs]; · iexact Hs
    iapply (zip (fun j => outRows (F := F) c j) (fun j => agTok (F := F) c j))
    isplitl [Hrows] <;> iassumption
  iintro %y ⟨HO, Hcr⟩
  iapply (wp_fin c h2) $$ [HO Hat]
  · isplitr; · iexact HP
    isplitl [HO]; · iexact HO
    iexact Hat
  iintro %y ⟨HO, Hgot⟩
  isplitl [HO]; · iexact HO
  isplitl [Hrc]; · iexact Hrc
  isplitl [Hp]; · iexact Hp
  isplitl [Ho]; · iexact Ho
  isplitl [Hcr] <;> iassumption

/-! ## The sends that have left -/

def agSentNeed (c : Dev nD) (j : Fin 15) : sProp 𝕄 := iprop(cred (tallyAt (cell c (iAS j)) () NR) ∗ atPos ER (cell c (iAS j)) 0 ∅ 0)
def agSentGive (c : Dev nD) (j : Fin 15) : sProp 𝕄 := iprop(semVal (cell c (iAS j)) 0 ∗ agSPay m c j)

/-- The waits for the sends from the other slabs. -/
theorem wp_sentsA (c : Dev nD) :
    iprop(PP m K ∗ OW c 0 ∗ bigSep Finset.univ fun u : Fin 3 => bigSep Finset.univ fun q : Fin 4 => sentNeed (F := F) c (kk c (nA u q)))
      ⊢ WP c (forL [0, 1, 2] fun u => forL [0, 1, 2, 3] (rsSentA c u))
        (fun _ => iprop(OW c 0 ∗ bigSep Finset.univ fun u : Fin 3 => bigSep Finset.univ fun q : Fin 4 => sentGive m c (kk c (nA u q)))) :=
  wp_forL_univ c ([0, 1, 2] : List (Fin 3)) (by decide) (by decide) (fun u => forL [0, 1, 2, 3] (rsSentA c u)) (PP m K) (fun _ => OW c 0)
    (fun u => bigSep Finset.univ fun q : Fin 4 => sentNeed (F := F) c (kk c (nA u q))) (fun u => bigSep Finset.univ fun q : Fin 4 => sentGive m c (kk c (nA u q)))
    fun u _ => wp_forL_univ c ([0, 1, 2, 3] : List (Fin 4)) (by decide) (by decide) (rsSentA c u) (PP m K) (fun _ => OW c 0)
      (fun q => sentNeed (F := F) c (kk c (nA u q))) (fun q => sentGive m c (kk c (nA u q))) fun q _ => wp_rsSentA m K c u q

/-- Three groups of four, as one family. -/
theorem bigSep_three (Φ : Fin 3 → sProp 𝕄) : bigSep Finset.univ Φ ⊣⊢ iprop(Φ 0 ∗ Φ 1 ∗ Φ 2) := by
  rw [bigSep_univ_eq_bigSepL (I := Fin 3) [0, 1, 2] (by decide) (by decide), bigSepL_cons', bigSepL_cons', bigSepL_cons', bigSepL_nil]
  constructor
  · iintro ⟨H0, H1, H2, -⟩
    isplitl [H0]; · iexact H0
    isplitl [H1] <;> iassumption
  · iintro ⟨H0, H1, H2⟩
    isplitl [H0]; · iexact H0
    isplitl [H1]; · iexact H1
    isplitl [H2]; · iexact H2
    iempintro

set_option maxHeartbeats 1600000 in
/-- The waits for all sends. -/
theorem wp_stageD (c : Dev nD) :
    iprop(PP m K ∗ OW c 0 ∗ (bigSep Finset.univ fun k => sentNeed (F := F) c k) ∗ bigSep Finset.univ fun j => agSentNeed (F := F) c j)
      ⊢ WP c (stageD c) (fun _ => iprop(OW c 0 ∗ (bigSep Finset.univ fun k => sentGive m c k) ∗ bigSep Finset.univ fun j => agSentGive m c j)) := by
  have h2 := wp_forL_univ c ([0, 1, 2] : List (Fin 3)) (by decide) (by decide) (rsSentB c) (PP m K) (fun _ => OW c 0)
    (fun r => sentNeed (F := F) c (kk c (nB r))) (fun r => sentGive m c (kk c (nB r))) fun r _ => wp_rsSentB m K c r
  have h3 := wp_forL_univ c peers peers_all (by decide) (agSent c) (PP m K) (fun _ => OW c 0) (fun k => agSentNeed (F := F) c k) (fun k => agSentGive m c k) (fun k l => by
    unfold agSentNeed agSentGive
    exact wp_agSent m K c k)
  unfold stageD
  iintro ⟨#HP, HO, Hs, Hg⟩
  ihave Hs := (Entails.of_eq ((rs_order c (fun k => sentNeed (F := F) c k)).trans (bigSep_groups _))) $$ Hs
  icases Hs with ⟨H0, H1, H2, H3⟩
  iapply (wp_seq c (wp_sentsA m K c)) $$ [HO H0 H1 H2]
  · isplitr; · iexact HP
    isplitl [HO]; · iexact HO
    iapply (bigSep_three (fun u : Fin 3 => bigSep Finset.univ fun q : Fin 4 => sentNeed (F := F) c (kk c (nA u q)))).2
    isplitl [H0]; · iexact H0
    isplitl [H1] <;> iassumption
  iintro %y ⟨HO, H⟩
  ihave H := (bigSep_three (fun u : Fin 3 => bigSep Finset.univ fun q : Fin 4 => sentGive m c (kk c (nA u q)))).1 $$ H
  icases H with ⟨H0, H1, H2⟩
  iapply (wp_seq c h2) $$ [HO H3]
  · isplitr; · iexact HP
    isplitl [HO] <;> iassumption
  iintro %y ⟨HO, H3⟩
  iapply (wp_fin c h3) $$ [HO Hg]
  · isplitr; · iexact HP
    isplitl [HO] <;> iassumption
  iintro %y ⟨HO, Hg⟩
  isplitl [HO]; · iexact HO
  isplitl [H0 H1 H2 H3]
  · iapply (Entails.of_eq ((rs_order c (fun k => sentGive m c k)).trans (bigSep_groups _)).symm)
    isplitl [H0]; · iexact H0
    isplitl [H1]; · iexact H1
    isplitl [H2] <;> iassumption
  iexact Hg

end Cert.KernelIdeal.Hand

end
-- ==== Proof.KernelIdeal.Body.lean ====
/-
  The body as a whole: what a device holds when its kernel starts, what it holds at the end, and that the body takes the
  one to the other.
-/
module

public import proofs.«01_k».proof.Proof.KernelIdeal.Stages
public import proofs.«01_k».proof.Proof.Gen.KernelIdeal.Launch
public import proofs.«01_k».proof.Proof.Gen.KernelIdeal.Frame
public import Idealize.ShloMosaic.Lib.Pipeline.Launch

@[expose] public section

set_option maxRecDepth 65536

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CI → ℕ)

/-! ## The semaphores of a device, by what they are for -/

abbrev CIs : Type := Unit ⊕ (Fin 8 ⊕ (Fin 8 ⊕ (Fin 15 ⊕ (Fin 15 ⊕ (Fin 15 ⊕ Fin 15)))))
def ciOf : CIs → CI
  | .inl _ => none
  | .inr (.inl h) => iL (semK h)
  | .inr (.inr (.inl h)) => iL (semV h)
  | .inr (.inr (.inr (.inl k))) => iRS k
  | .inr (.inr (.inr (.inr (.inl k)))) => iRR k
  | .inr (.inr (.inr (.inr (.inr (.inl k))))) => iAS k
  | .inr (.inr (.inr (.inr (.inr (.inr k))))) => iAR k
/-- The list of kinds names every cell exactly once. -/
theorem ciOf_bijective : Function.Bijective ciOf :=
  (Fintype.bijective_iff_surjective_and_card ciOf).mpr ⟨by unfold Function.Surjective; decide +kernel, by simp⟩
def ciE : CIs ≃ CI := Equiv.ofBijective ciOf ciOf_bijective

/-- A family over all a device's semaphores, taken apart. -/
theorem ci_split (Φ : CI → sProp 𝕄) : bigSep Finset.univ Φ
    = iprop(Φ none ∗ (bigSep Finset.univ fun h => Φ (iL (semK h))) ∗ (bigSep Finset.univ fun h => Φ (iL (semV h)))
      ∗ (bigSep Finset.univ fun k => Φ (iRS k)) ∗ (bigSep Finset.univ fun k => Φ (iRR k)) ∗ (bigSep Finset.univ fun k => Φ (iAS k)) ∗ bigSep Finset.univ fun k => Φ (iAR k)) := by
  rw [bigSep_univ_equiv ciE Φ, bigSep_univ_sum, bigSep_univ_sum, bigSep_univ_sum, bigSep_univ_sum, bigSep_univ_sum, bigSep_univ_sum]
  rw [bigSep_univ_eq_bigSepL (I := Unit) [()] (by decide) (by decide)]
  rfl

/-! ## What a device starts from -/

/-- Its positions at its own semaphores. -/
def posn (c : Dev nD) : sProp 𝕄 := bigSep Finset.univ fun i : CI => atPos ER (cell c i) 0 ∅ 0
/-- The tokens of the duties it pays. -/
def payToks (c : Dev nD) : sProp 𝕄 :=
  iprop((bigSep Finset.univ fun j : Fin 15 => dutyTok ER (cell (peer c j) none) 0 j)
    ∗ (bigSep Finset.univ fun h : Fin 8 => dutyTok ER (cell c (iL (semK h))) 0 0) ∗ (bigSep Finset.univ fun h : Fin 8 => dutyTok ER (cell c (iL (semV h))) 0 0)
    ∗ (bigSep Finset.univ fun k : Fin 15 => dutyTok ER (cell c (iRS k)) 0 0) ∗ (bigSep Finset.univ fun k : Fin 15 => dutyTok ER (cell (peer c k) (iRR k)) 0 0)
    ∗ (bigSep Finset.univ fun k : Fin 15 => dutyTok ER (cell c (iAS k)) 0 0) ∗ bigSep Finset.univ fun k : Fin 15 => dutyTok ER (cell (peer c k) (iAR k)) 0 0)
def linear (c : Dev nD) : sProp 𝕄 := iprop(posn c ∗ payToks c)
/-- What its peers owe it. -/
def credC (c : Dev nD) : sProp 𝕄 :=
  iprop(cred (tallyAt (cell c none) () 15) ∗ (bigSep Finset.univ fun k : Fin 15 => cred (tallyAt (cell c (iRR k)) () NR))
    ∗ bigSep Finset.univ fun k : Fin 15 => cred (tallyAt (cell c (iAR k)) () NR))
/-- The keys and the values, in main memory. -/
def hbm (c : Dev nD) : sProp 𝕄 := iprop(BF c main_arg2 (kArr m c) ∗ BF c main_arg3 (vArr m c))
/-- The kernel's own buffers, at any contents. -/
def scr (c : Dev nD) : sProp 𝕄 :=
  iprop(BA c cc0_scratch0 ∗ BA c cc0_scratch1 ∗ BA c cc0_scratch2 ∗ BA c cc0_scratch3 ∗ BA c cc0_scratch4 ∗ BA c cc0_scratch5
    ∗ BA c cc0_scratch6 ∗ BA c cc0_scratch7 ∗ BA c cc0_scratch8 ∗ BA c cc0_scratch9 ∗ BA c cc0_scratch10)
/-- All its semaphores at zero. -/
def sems (c : Dev nD) : sProp 𝕄 := bigSep Finset.univ fun i : CI => semVal (cell c i) 0

/-- Buffers and credit taken apart for the first stages. -/
theorem loads_intro (c : Dev nD) :
    iprop(BA c cc0_scratch0 ∗ BA c cc0_scratch1 ∗ hbm m c ∗ (bigSep Finset.univ fun h : Fin 8 => dutyTok ER (cell c (iL (semK h))) 0 0)
        ∗ bigSep Finset.univ fun h : Fin 8 => dutyTok ER (cell c (iL (semV h))) 0 0)
      ⊢ iprop((bigSep Finset.univ fun h => iprop(ldK m c h ∗ ldV m c h))
        ∗ (((c : Thread nD τ).loc main_arg2) ↦[otherHeads c]{fullShare} kArr m c) ∗ (((c : Thread nD τ).loc main_arg3) ↦[otherHeads c]{fullShare} vArr m c)) := by
  unfold hbm
  iintro ⟨H0, H1, ⟨HK, HV⟩, Htk, Htv⟩
  ihave H0 := (kf_any (F := F) c) $$ H0
  ihave H1 := (vf_any (F := F) c) $$ H1
  ihave HK := (k_heads c (kArr m c)).1 $$ HK
  icases HK with ⟨HK, HKr⟩
  ihave HV := (v_heads c (vArr m c)).1 $$ HV
  icases HV with ⟨HV, HVr⟩
  isplitr [HKr HVr]
  · iapply (zip (fun h => ldK m c h) (fun h => ldV m c h))
    unfold ldK ldV
    isplitl [H0 HK Htk]
    · iapply (zip (fun h => iprop(∃ f, ((c : Thread nD τ).loc cc0_scratch0) ↦[colSet h]{fullShare} f))
        (fun h => iprop((((c : Thread nD τ).loc main_arg2) ↦[headSet c h]{fullShare} kArr m c) ∗ dutyTok ER (cell c (iL (semK h))) 0 0)))
      isplitl [H0]; · iexact H0
      iapply (zip (fun h => (((c : Thread nD τ).loc main_arg2) ↦[headSet c h]{fullShare} kArr m c : sProp 𝕄)) (fun h => dutyTok ER (cell c (iL (semK h))) 0 0))
      isplitl [HK] <;> iassumption
    · iapply (zip (fun h => iprop(∃ f, ((c : Thread nD τ).loc cc0_scratch1) ↦[colSet h]{fullShare} f))
        (fun h => iprop((((c : Thread nD τ).loc main_arg3) ↦[headSet c h]{fullShare} vArr m c) ∗ dutyTok ER (cell c (iL (semV h))) 0 0)))
      isplitl [H1]; · iexact H1
      iapply (zip (fun h => (((c : Thread nD τ).loc main_arg3) ↦[headSet c h]{fullShare} vArr m c : sProp 𝕄)) (fun h => dutyTok ER (cell c (iL (semV h))) 0 0))
      isplitl [HV] <;> iassumption
  isplitl [HKr] <;> iassumption

/-- The result's rows at any contents: the own chunk's, and each peer's. -/
theorem out_any (c : Dev nD) : (BA c cc0_stg3_0 : sProp 𝕄)
    ⊢ iprop((∃ f, ((c : Thread nD τ).loc cc0_stg3_0) ↦[rowSet (ch c)]{fullShare} f)
      ∗ bigSep Finset.univ fun k : Fin 15 => iprop(∃ f, ((c : Thread nD τ).loc cc0_stg3_0) ↦[rowSet (ch (peer c k))]{fullShare} f)) := by
  iintro ⟨%f, H⟩
  ihave H := (out_rows c f).1 $$ H
  icases H with ⟨H0, H⟩
  isplitl [H0]; · iexists f; iexact H0
  iapply (show bigSep Finset.univ (fun k : Fin 15 => (((c : Thread nD τ).loc cc0_stg3_0) ↦[rowSet (ch (peer c k))]{fullShare} f : sProp 𝕄))
      ⊢ bigSep Finset.univ fun k : Fin 15 => iprop(∃ f, ((c : Thread nD τ).loc cc0_stg3_0) ↦[rowSet (ch (peer c k))]{fullShare} f) from
    bigSep_mono fun t _ => (show (((c : Thread nD τ).loc cc0_stg3_0) ↦[rowSet (ch (peer c t))]{fullShare} f : sProp 𝕄)
      ⊢ iprop(∃ f, ((c : Thread nD τ).loc cc0_stg3_0) ↦[rowSet (ch (peer c t))]{fullShare} f) from by
        iintro H; iexists f; iexact H)) $$ H

/-- What the signals need. -/
theorem signals_intro (c : Dev nD) :
    iprop(BA c cc0_scratch10 ∗ BA c cc0_stg3_0 ∗ bigSep Finset.univ fun j : Fin 15 => dutyTok ER (cell (peer c j) none) 0 j)
      ⊢ iprop((bigSep Finset.univ fun j => sigNeed (F := F) c j) ∗ ∃ f, ((c : Thread nD τ).loc cc0_stg3_0) ↦[rowSet (ch c)]{fullShare} f) := by
  iintro ⟨H10, Ho, Ht⟩
  ihave H10 := (rs_any (F := F) c) $$ H10
  ihave H10 := (show _ ⊢ bigSep Finset.univ fun j : Fin 15 => iprop(∃ f, ((c : Thread nD τ).loc cc0_scratch10) ↦[slotSet (Fin.rev j)]{fullShare} f) from
    Entails.of_eq (bigSep_univ_equiv Fin.revPerm fun k : Fin 15 => (iprop(∃ f, ((c : Thread nD τ).loc cc0_scratch10) ↦[slotSet k]{fullShare} f) : sProp 𝕄))) $$ H10
  ihave Ho := (out_any (F := F) c) $$ Ho
  icases Ho with ⟨Ho, Hr⟩
  isplitr [Ho]
  · unfold sigNeed lend
    iapply (zip (fun j : Fin 15 => dutyTok ER (cell (peer c j) none) 0 j) (fun j => iprop((∃ f, ((c : Thread nD τ).loc cc0_scratch10) ↦[slotSet (Fin.rev j)]{fullShare} f)
      ∗ ∃ f, ((c : Thread nD τ).loc cc0_stg3_0) ↦[rowSet (ch (peer c j))]{fullShare} f)))
    isplitl [Ht]; · iexact Ht
    iapply (zip (fun j : Fin 15 => iprop(∃ f, ((c : Thread nD τ).loc cc0_scratch10) ↦[slotSet (Fin.rev j)]{fullShare} f))
      (fun j => iprop(∃ f, ((c : Thread nD τ).loc cc0_stg3_0) ↦[rowSet (ch (peer c j))]{fullShare} f)))
    isplitl [H10] <;> iassumption
  iexact Ho

/-- The result put together. -/
theorem out_join (c : Dev nD) :
    iprop((((c : Thread nD τ).loc cc0_stg3_0) ↦[rowSet (ch c)]{shR 15} outC m) ∗ (bigSep Finset.univ fun j => agSPay m c j) ∗ bigSep Finset.univ fun k => agRPay m c k)
      ⊢ BF c cc0_stg3_0 (outC m) := by
  have hr : bigSep Finset.univ (fun k => agRPay m c k)
      = bigSep Finset.univ fun k : Fin 15 => (((c : Thread nD τ).loc cc0_stg3_0) ↦[rowSet (ch (peer c k))]{fullShare} outC m : sProp 𝕄) := by
    rw [bigSep_univ_equiv Fin.revPerm]
    exact bigSep_congr fun k _ => by unfold agRPay; rw [src_eq_peer]; rw [show Fin.rev (Fin.revPerm k) = k from Fin.rev_rev k]
  rw [hr]
  iintro ⟨H, Hs, Hr⟩
  iapply (out_rows c (outC m)).2
  isplitl [H Hs]
  · iapply (out_shares m c).2
    isplitl [Hs] <;> iassumption
  iexact Hr

def bodyStart (c : Dev nD) : sProp 𝕄 :=
  iprop(PP m K ∗ linear c ∗ credC c ∗ hbm m c ∗ scr c ∗ OW c (O₀ c) ∗ ins m c ∗ BA c cc0_stg3_0)
def bodyEnd (c : Dev nD) : sProp 𝕄 :=
  iprop(scr c ∗ sems c ∗ hbm m c ∗ OW c 0 ∗ ins m c ∗ BF c cc0_stg3_0 (outC m))

set_option maxHeartbeats 3200000 in
/-- The stages one after another. -/
theorem wp_stages (c : Dev nD) :
    bodyStart m K c ⊢ WP c (stageA c >>= fun _ => stageB c >>= fun _ => stageC c >>= fun _ => stageD c) (fun _ => bodyEnd m c) := by
  unfold bodyStart linear posn payToks credC scr O₀
  rw [ci_split]
  iintro ⟨#HP, ⟨⟨Hab, HaK, HaV, HaRS, HaRR, HaAS, HaAR⟩, HtB, HtK, HtV, HtRS, HtRR, HtAS, HtAR⟩, ⟨Hcb, HcRR, HcAR⟩, Hhbm,
    ⟨H0, H1, H2, H3, H4, H5, H6, H7, H8, H9, H10⟩, HO, Hin, Hout⟩
  ihave H := (loads_intro m c) $$ [H0 H1 Hhbm HtK HtV]
  · isplitl [H0]; · iexact H0
    isplitl [H1]; · iexact H1
    isplitl [Hhbm]; · iexact Hhbm
    isplitl [HtK] <;> iassumption
  icases H with ⟨Hld, HKr, HVr⟩
  ihave H := (signals_intro (F := F) c) $$ [H10 Hout HtB]
  · isplitl [H10]; · iexact H10
    isplitl [Hout] <;> iassumption
  icases H with ⟨Hsig, Hown⟩
  ihave Hla := (zip (fun h => (atPos ER (cell c (iL (semK h))) 0 ∅ 0 : sProp 𝕄)) (fun h => atPos ER (cell c (iL (semV h))) 0 ∅ 0)) $$ [HaK HaV]
  · isplitl [HaK] <;> iassumption
  iapply (wp_seq c (wp_stageA m K c)) $$ [HO Hin H2 H3 H4 H5 H6 H7 Hld Hla Hsig]
  · isplitr; · iexact HP
    isplitl [HO]; · iexact HO
    isplitl [Hin]; · iexact Hin
    isplitl [H2 H3 H4 H5 H6 H7]
    · unfold work
      isplitl [H2]; · iexact H2
      isplitl [H3]; · iexact H3
      isplitl [H4]; · iexact H4
      isplitl [H5]; · iexact H5
      isplitl [H6] <;> iassumption
    isplitl [Hld]; · iexact Hld
    isplitl [Hla]; · unfold ldAt; iexact Hla
    iexact Hsig
  iintro %y ⟨HO, Hin, Hdone, Hsl, Hlsem, HK, HV⟩
  iapply (wp_seq c (wp_stageB m K c)) $$ [HO Hsl H8 H9 Hcb Hab HtRS HtRR]
  · isplitr; · iexact HP
    isplitl [HO]; · iexact HO
    isplitl [Hsl]; · iexact Hsl
    isplitl [H8]; · iexact H8
    isplitl [H9]; · iexact H9
    isplitl [Hcb Hab]
    · unfold barNeed
      isplitl [Hcb] <;> iassumption
    unfold rsTok
    iapply (zip (fun k => (dutyTok ER (cell c (iRS k)) 0 0 : sProp 𝕄)) (fun k => dutyTok ER (cell (peer c k) (iRR k)) 0 0))
    isplitl [HtRS] <;> iassumption
  iintro %y ⟨HO, Hsl, H8, Hpo, HsB, HcRS, Hor⟩
  iapply (wp_seq c (wp_stageC m K c)) $$ [HO HcRR HaRR Hpo Hown Hor HtAS HtAR HcAR HaAR]
  · isplitr; · iexact HP
    isplitl [HO]; · iexact HO
    isplitl [HcRR HaRR]
    · unfold rcvNeed
      iapply (zip (fun k => (cred (tallyAt (cell c (iRR k)) () NR) : sProp 𝕄)) (fun k => atPos ER (cell c (iRR k)) 0 ∅ 0))
      isplitl [HcRR] <;> iassumption
    isplitl [Hpo]; · iexact Hpo
    isplitl [Hown]; · iexact Hown
    isplitl [Hor]; · iexact Hor
    isplitl [HtAS HtAR]
    · unfold agTok
      iapply (zip (fun k => (dutyTok ER (cell c (iAS k)) 0 0 : sProp 𝕄)) (fun k => dutyTok ER (cell (peer c k) (iAR k)) 0 0))
      isplitl [HtAS] <;> iassumption
    unfold agAt
    iapply (zip (fun k => (cred (tallyAt (cell c (iAR k)) () NR) : sProp 𝕄)) (fun k => atPos ER (cell c (iAR k)) 0 ∅ 0))
    isplitl [HcAR] <;> iassumption
  iintro %y ⟨HO, Hrg, Hpo, Hoo, HcAS, Hag⟩
  iapply (wp_fin c (wp_stageD m K c)) $$ [HO HcRS HaRS HcAS HaAS]
  · isplitr; · iexact HP
    isplitl [HO]; · iexact HO
    isplitl [HcRS HaRS]
    · unfold sentNeed rsCr
      iapply (zip (fun k => (cred (tallyAt (cell c (iRS k)) () NR) : sProp 𝕄)) (fun k => atPos ER (cell c (iRS k)) 0 ∅ 0))
      isplitl [HcRS] <;> iassumption
    unfold agSentNeed agCr
    iapply (zip (fun k => (cred (tallyAt (cell c (iAS k)) () NR) : sProp 𝕄)) (fun k => atPos ER (cell c (iAS k)) 0 ∅ 0))
    isplitl [HcAS] <;> iassumption
  iintro %y ⟨HO, Hsg, Hagg⟩
  unfold ldSem rcvGive agGot sentGive agSentGive
  ihave H := (unzip (fun h => (semVal (cell c (iL (semK h))) 0 : sProp 𝕄)) (fun h => semVal (cell c (iL (semV h))) 0)) $$ Hlsem
  icases H with ⟨HsK, HsV⟩
  ihave H := (unzip (fun k => (semVal (cell c (iRR k)) 0 : sProp 𝕄)) (fun k => rsRPay m c k)) $$ Hrg
  icases H with ⟨HsRR, Hrs⟩
  ihave H := (unzip (fun k => (semVal (cell c (iAR k)) 0 : sProp 𝕄)) (fun k => agRPay m c k)) $$ Hag
  icases H with ⟨HsAR, Har⟩
  ihave H := (unzip (fun k => (semVal (cell c (iRS k)) 0 : sProp 𝕄)) (fun k => rsSPay m c k)) $$ Hsg
  icases H with ⟨HsRS, Hps⟩
  ihave H := (unzip (fun k => (semVal (cell c (iAS k)) 0 : sProp 𝕄)) (fun k => agSPay m c k)) $$ Hagg
  icases H with ⟨HsAS, Has⟩
  unfold bodyEnd done slabIn sems hbm
  icases Hdone with ⟨H0, H1, H5, H6⟩
  icases Hsl with ⟨H4, H2, H3, H7⟩
  rw [ci_split]
  unfold scr
  isplitl [H0 H1 H2 H3 H4 H5 H6 H7 H8 Hpo Hps Hrs]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexact H8
    isplitl [Hpo Hps]
    · iexists (partC m c)
      iapply (part_rows c (partC m c)).2
      isplitl [Hpo]; · iexact Hpo
      unfold rsSPay
      iexact Hps
    iexists (rsC m c)
    unfold rsRPay
    iapply (Entails.of_eq (rs_slots c (rsC m c)).symm) $$ Hrs
  isplitl [HsB HsK HsV HsRS HsRR HsAS HsAR]
  · isplitl [HsB]; · iexact HsB
    isplitl [HsK]; · iexact HsK
    isplitl [HsV]; · iexact HsV
    isplitl [HsRS]; · iexact HsRS
    isplitl [HsRR]; · iexact HsRR
    isplitl [HsAS] <;> iassumption
  isplitl [HK HKr HV HVr]
  · isplitl [HK HKr]
    · iapply (k_heads c (kArr m c)).2
      isplitl [HK] <;> iassumption
    iapply (v_heads c (vArr m c)).2
    isplitl [HV] <;> iassumption
  isplitl [HO]; · iexact HO
  isplitl [Hin]; · iexact Hin
  iapply (out_join m c)
  isplitl [Hoo]; · iexact Hoo
  isplitl [Has] <;> iassumption

/-- The whole body on one device: from what it starts with to what it ends with. -/
theorem wp_body (c : Dev nD) : bodyStart m K c ⊢ WP c (body (F := F)) (fun _ => bodyEnd m c) := by
  have h := wp_stages m K c
  unfold WP at h
  unfold WP body
  simp only [Prog.lift, Prog.bind_op, Prog.bind_ret, wp_deviceId]
  exact h

end Cert.KernelIdeal.Hand

end
-- ==== Proof.KernelIdeal.Launch.lean ====
/-
  The launch: the cells' states and tokens as they are minted, how they are dealt to the devices, and the run of the
  whole program with what it leaves.
-/
module

public import proofs.«01_k».proof.Proof.KernelIdeal.Body
public import Idealize.ShloMosaic.Lib.Pipeline.Value
public import Idealize.ShloMosaic.Lib.Pipeline.CollectiveSegs

@[expose] public section

set_option maxRecDepth 65536

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CI → ℕ)

/-! ## The pipeline's proof data -/

def start (c : Dev nD) : sProp 𝕄 := iprop((∃ K, recs m K ∗ linear c) ∗ levAts L lv ∗ credC c ∗ hbm m c)
def Φ₀ (c : Dev nD) : sProp 𝕄 := iprop(start m c ∗ scr c)
def Φ₁ (c : Dev nD) : sProp 𝕄 := iprop(scr c ∗ sems c ∗ hbm m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xC m c
    | ⟨1, _⟩ => wqC m c
    | ⟨2, _⟩ => woC m c
    | ⟨3, _⟩ => outC m
  Φ t := match t with
    | ⟨0, _⟩ => Φ₀ m c
    | ⟨_ + 1, _⟩ => Φ₁ m c
  q _ := fullShare
  owed t := match t with
    | ⟨0, _⟩ => O₀ c
    | ⟨_ + 1, _⟩ => 0

/-- Owning a whole buffer at given contents, said of the buffer. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def ptPre (c : Dev nD) : sProp 𝕄 :=
  iprop(Φ₀ m c ∗ (dats m ρ 0 c).owesAt () t0_0.castSucc
    ∗ (∃ d, stg c cc0_stg0_0 ((dats m ρ 0 c).before (0 : Fin 4) t0_0 d)) ∗ (∃ d, stg c cc0_stg1_0 ((dats m ρ 0 c).before (1 : Fin 4) t0_0 d))
    ∗ (∃ d, stg c cc0_stg2_0 ((dats m ρ 0 c).before (2 : Fin 4) t0_0 d)) ∗ (∃ d, stg c cc0_stg3_0 ((dats m ρ 0 c).before (3 : Fin 4) t0_0 d)))
def ptPost (c : Dev nD) : sProp 𝕄 :=
  iprop(Φ₁ m c ∗ (dats m ρ 0 c).owesAt () t0_0.succ
    ∗ stg c cc0_stg0_0 (xC m c) ∗ stg c cc0_stg1_0 (wqC m c) ∗ stg c cc0_stg2_0 (woC m c) ∗ stg c cc0_stg3_0 (outC m))

/-- The whole body at the launch's one point. -/
abbrev theBody : PG F PUnit :=
  cc0__body (F := F) mX (Memref.isWhole_whole _) mWq (Memref.isWhole_whole _) mK (Memref.isWhole_whole _) mV (Memref.isWhole_whole _)
      mWo (Memref.isWhole_whole _) mOut (Memref.isWhole_whole _) mKf (Memref.isWhole_whole _) mVf (Memref.isWhole_whole _)
      mKb (Memref.isWhole_whole _) mVb (Memref.isWhole_whole _) mQ (Memref.isWhole_whole _) mXb (Memref.isWhole_whole _)
      mWqb (Memref.isWhole_whole _) mWob (Memref.isWhole_whole _) mCtx (Memref.isWhole_whole _) mPart (Memref.isWhole_whole _)
      mRs (Memref.isWhole_whole _) cc0_scratch11 cc0_scratch12 cc0_scratch13 cc0_scratch14 cc0_scratch15

set_option maxHeartbeats 1600000 in
/-- The body at the one grid point: from what the launch holds before it to what it holds after. -/
theorem pt_body (c : Dev nD) : ptPre m ρ c ⊢ WP c (theBody (F := F)) (fun _ => ptPost m ρ c) := by
  rw [show theBody (F := F) = body from body_eq]
  unfold ptPre Φ₀ start
  iintro ⟨⟨⟨⟨%K, #HR, Hlin⟩, #Hlev, Hcr, Hhbm⟩, Hscr⟩, Ho, ⟨%d0, %g0, %hg0, Hx⟩, ⟨%d1, %g1, %hg1, Hwq⟩, ⟨%d2, %g2, %hg2, Hwo⟩, ⟨%d3, %g3, %hg3, Hout⟩⟩
  have h0 : g0 = xC m c := by rw [hg0]; unfold Dat.before; rw [if_pos (fetch0_0 t0_0)]; rfl
  have h1 : g1 = wqC m c := by rw [hg1]; unfold Dat.before; rw [if_pos (fetch0_1 t0_0)]; rfl
  have h2 : g2 = woC m c := by rw [hg2]; unfold Dat.before; rw [if_pos (fetch0_2 t0_0)]; rfl
  subst h0 h1 h2
  unfold Dat.owesAt Pipeline.owesWithin
  icases Ho with ⟨%W, %hW, HO⟩
  rw [show (dats m ρ 0 c).owed t0_0.castSucc = O₀ c from rfl]
  iapply (wp_fin c (wp_body m K c)) $$ [Hlin Hcr Hhbm Hscr HO Hx Hwq Hwo Hout]
  · unfold bodyStart PP ins OW
    isplitr
    · isplitr; · iexact HR
      iexact Hlev
    isplitl [Hlin]; · iexact Hlin
    isplitl [Hcr]; · iexact Hcr
    isplitl [Hhbm]; · iexact Hhbm
    isplitl [Hscr]; · iexact Hscr
    isplitl [HO]; · iexists W; iexact HO
    isplitl [Hx Hwq Hwo]
    · isplitl [Hx]; · iexact Hx
      isplitl [Hwq] <;> iassumption
    iexists g3
    iexact Hout
  iintro %y H
  unfold bodyEnd ins OW ptPost Φ₁ Dat.owesAt Pipeline.owesWithin
  rw [show (dats m ρ 0 c).owed t0_0.succ = 0 from rfl]
  icases H with ⟨Hscr, Hsem, Hhbm, ⟨%W', HO⟩, ⟨Hx, Hwq, Hwo⟩, Hout⟩
  isplitl [Hscr Hsem Hhbm]
  · isplitl [Hscr]; · iexact Hscr
    isplitl [Hsem] <;> iassumption
  isplitl [HO]
  · iexists W'
    isplitr; · ipureintro; exact fun _ _ => Or.inl trivial
    iexact HO
  isplitl [Hx]
  · iexists _; isplitr; · (ipureintro; rfl)
    iexact Hx
  isplitl [Hwq]
  · iexists _; isplitr; · (ipureintro; rfl)
    iexact Hwq
  isplitl [Hwo]
  · iexists _; isplitr; · (ipureintro; rfl)
    iexact Hwo
  iexists _; isplitr; · (ipureintro; rfl)
  iexact Hout

/-- The library's obligation on the body of device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  exact pt_body m ρ c

/-! ## The launch -/

abbrev osem : Fin 76 → SemLoc sig := fun i => csem (some i)
/-- The semaphores the kernel declares are told apart by their numbers. -/
theorem ownSemFacts : Pipeline.OwnSemFacts cfg0.spec osem := by decide

/-- Every window is owned in full. -/
theorem share_eq (c : Dev nD) (w : Fin cfg0.W) : (dats m ρ 0 c).share w = fullShare := by unfold Dat.share; split <;> rfl

abbrev kcell (p : Dev nD × CI) : GSem nD τ sig := cell p.1 p.2
/-- Different devices or different semaphores are different cells. -/
theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- Two cells are the same when their devices and their semaphores are. -/
theorem cell_eq_iff {a b : Dev nD} {i j : CI} : cell a i = cell b j ↔ a = b ∧ i = j :=
  ⟨fun h => Prod.mk.inj (kcell_injective (a₁ := (a, i)) (a₂ := (b, j)) h), fun ⟨h, h'⟩ => by rw [h, h']⟩

def theCells : Finset (GSem nD τ sig) := Finset.univ.map ⟨kcell, kcell_injective⟩

/-- A device's cells' duties: the fifteen of its barrier, and one at each other semaphore. -/
abbrev TI : Type := Fin 15 ⊕ Fin 76
def tokOf (p : Dev nD × TI) : GSem nD τ sig × ℕ × Fin 15 := match p.2 with
  | .inl j => (cell p.1 none, 0, j)
  | .inr i => (cell p.1 (some i), 0, 0)
/-- Different duties have different tokens. -/
theorem tokOf_injective : Function.Injective tokOf := by
  rintro ⟨c, i | i⟩ ⟨c', j | j⟩ h
  · have h1 : cell c none = cell c' none := congrArg Prod.fst h
    have h2 : i = j := congrArg (fun x => x.2.2) h
    rw [(cell_eq_iff.mp h1).1, h2]
  · have h1 : cell c none = cell c' (some j) := congrArg Prod.fst h
    exact absurd (cell_eq_iff.mp h1).2 (fun h => by cases h)
  · have h1 : cell c (some i) = cell c' none := congrArg Prod.fst h
    exact absurd (cell_eq_iff.mp h1).2 (fun h => by cases h)
  · have h1 : cell c (some i) = cell c' (some j) := congrArg Prod.fst h
    rw [(cell_eq_iff.mp h1).1, Option.some.inj (cell_eq_iff.mp h1).2]
def theToks : Finset (GSem nD τ sig × ℕ × Fin 15) := Finset.univ.map ⟨tokOf, tokOf_injective⟩

def u₀ : UU := (initOf (Pipeline.cells cfgs cellOf_inj) (Pipeline.launchToks cfgs cellOf_inj), initOf theCells theToks)

/-- The tokens of the duties at device `c`'s cells. -/
def toks (c : Dev nD) : sProp 𝕄 :=
  iprop((bigSep Finset.univ fun j : Fin 15 => dutyTok ER (cell c none) 0 j)
    ∗ (bigSep Finset.univ fun h : Fin 8 => dutyTok ER (cell c (iL (semK h))) 0 0) ∗ (bigSep Finset.univ fun h : Fin 8 => dutyTok ER (cell c (iL (semV h))) 0 0)
    ∗ (bigSep Finset.univ fun k : Fin 15 => dutyTok ER (cell c (iRS k)) 0 0) ∗ (bigSep Finset.univ fun k : Fin 15 => dutyTok ER (cell c (iRR k)) 0 0)
    ∗ (bigSep Finset.univ fun k : Fin 15 => dutyTok ER (cell c (iAS k)) 0 0) ∗ bigSep Finset.univ fun k : Fin 15 => dutyTok ER (cell c (iAR k)) 0 0)

/-- A family over the kernel's own semaphores and one more assertion, as one over all a device's semaphores. -/
theorem ci_option (Φ : CI → sProp 𝕄) : bigSep Finset.univ Φ = iprop(Φ none ∗ bigSep Finset.univ fun i : Fin 76 => Φ (some i)) := by
  rw [bigSep_univ_equiv ((Equiv.optionEquivSumPUnit (Fin 76)).symm) Φ, bigSep_univ_sum]
  rw [show (Finset.univ : Finset PUnit.{1}) = {PUnit.unit} from rfl, bigSep_singleton]
  exact BI.Entails.antisymm BI.sep_comm BI.sep_comm

/-- The duty tokens as minted, device by device. -/
theorem toks_intro (c : Dev nD) : bigSep Finset.univ (fun t : TI => (dutyTok ER (tokOf (c, t)).1 (tokOf (c, t)).2.1 (tokOf (c, t)).2.2 : sProp 𝕄)) ⊢ toks c := by
  have h : iprop(emp ∗ bigSep Finset.univ fun i : Fin 76 => (dutyTok ER (cell c (some i)) 0 0 : sProp 𝕄)) = _ :=
    (ci_option (fun i => match i with | none => iprop(emp) | some i => dutyTok ER (cell c (some i)) 0 0)).symm.trans (ci_split _)
  rw [bigSep_univ_sum]
  have h' := Entails.of_eq h
  unfold toks
  show iprop((bigSep Finset.univ fun j : Fin 15 => dutyTok ER (cell c none) 0 j) ∗ (bigSep Finset.univ fun i : Fin 76 => (dutyTok ER (cell c (some i)) 0 0 : sProp 𝕄))) ⊢ _
  iintro ⟨H1, H2⟩
  isplitl [H1]; · iexact H1
  ihave H := h' $$ [H2]
  · isplitr; · iempintro
    iexact H2
  icases H with ⟨-, H⟩
  iexact H

/-- What the launch deals device `c`. -/
def G (c : Dev nD) : sProp 𝕄 :=
  iprop((bigSep Finset.univ fun k : CI => roundState ER (Rd m) (kcell (c, k)) 0)
    ∗ (bigSep Finset.univ fun k : CI => iprop(atPos ER (kcell (c, k)) 0 ∅ 0 ∗ reached ER (kcell (c, k)) 0)) ∗ toks c)
def G' (c : Dev nD) : sProp 𝕄 := iprop(∃ K, recs m K ∗ linear c)

/-- The launch's resource gives each device its cells' first state and its tokens. -/
theorem fund_cells : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun k : CI => Φ (kcell (c, k)) := by
    unfold theCells; rw [bigSep_map, bigSep_univ_prod]; rfl
  have hT : bigSep theToks (fun x => (dutyTok ER x.1 x.2.1 x.2.2 : sProp 𝕄)) ⊢ bigSep Finset.univ fun c : Dev nD => toks c := by
    unfold theToks; rw [bigSep_map, bigSep_univ_prod]
    exact bigSep_mono fun c _ => toks_intro c
  iintro HX
  imod (Rounds.fund ER (Rd m) theCells theToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-- The one semaphore outside the kernel's own is the barrier. -/
theorem unscopedSems0_eq (c : Dev nD) : (unscopedSems0 c : sProp 𝕄) = semVal (cell c none) 0 := by
  unfold unscopedSems0; rw [bigSep_eq_bigSepL_of_eq [csem none] (by decide) (by decide)]; rfl

/-- The semaphores of a device, the kernel's own and the barrier's. -/
theorem sems_eq (c : Dev nD) : (sems c : sProp 𝕄)
    = iprop(unscopedSems0 c ∗ Pipeline.ownSems0 (Ix := Unit) (Name := ℕ) (U := UU) (Lvl := ℕ) (Val := Elt F) (τ := τ) osem c) := by
  unfold sems
  rw [unscopedSems0_eq, ci_option]
  rfl

/-- A device's semaphores at zero become cells with an invariant. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems_eq (F := F) c).symm) $$ [Hos Hus]
  · isplitl [Hus] <;> iassumption
  unfold sems
  imod (show iprop((bigSep Finset.univ fun k : CI => semVal (kcell (c, k)) 0) ∗ bigSep Finset.univ fun k : CI => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The devices, turned so that number `k`'s peer of each is met. -/
def peerE (k : Fin 15) : Dev nD ≃ Dev nD := ⟨fun c => peer c k, fun c => src c k, fun c => src_peer c k, fun c => peer_src c k⟩

/-- Assertions dealt one to a peer: over all devices, the same. -/
theorem around (Φ : Dev nD → Fin 15 → sProp 𝕄) : (bigSep Finset.univ fun c : Dev nD => bigSep Finset.univ fun k : Fin 15 => Φ c k)
    = bigSep Finset.univ fun c : Dev nD => bigSep Finset.univ fun k : Fin 15 => Φ (peer c k) k := by
  rw [bigSep_univ_comm, bigSep_congr (s := Finset.univ) fun (k : Fin 15) _ => bigSep_univ_equiv (peerE k) (fun c => Φ c k), bigSep_univ_comm]
  rfl

/-- The tokens, held by the devices they are paid to, are handed to the devices that pay them. -/
theorem toks_around : (bigSep Finset.univ fun c : Dev nD => (toks c : sProp 𝕄)) ⊢ bigSep Finset.univ fun c : Dev nD => payToks c := by
  unfold toks payToks
  simp only [bigSep_sep']
  rw [around (fun c j => (dutyTok ER (cell c none) 0 j : sProp 𝕄)), around (fun c k => (dutyTok ER (cell c (iRR k)) 0 0 : sProp 𝕄)),
    around (fun c k => (dutyTok ER (cell c (iAR k)) 0 0 : sProp 𝕄))]

/-- A fact that can be used again may be used at every member of a family. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The devices' invariants are shared out to all of them, and the tokens go to the payers. -/
theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CI => iprop(∃ κ : ℕ, cellInv ER (Rd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd m) κ (kcell ck) : sProp 𝕄))) $$ HI
  icases HK with ⟨%K, #HI⟩
  ihave Htk := (toks_around (F := F)) $$ Htok
  iapply (with_persistent (R := recs m K) (Φ := fun c => linear c) fun c _ => by
    unfold G'
    iintro H
    iexists K
    iexact H)
  isplitr
  · unfold recs
    iapply (Entails.of_eq (bigSep_sep' Finset.univ (fun p : Dev nD × CI => cellInv ER (Rd m) (K p) (cell p.1 p.2)) (fun p => reached ER (cell p.1 p.2) 0)).symm)
    isplitl; · iexact HI
    iexact HR
  · unfold linear posn
    iapply (Entails.of_eq (bigSep_sep' Finset.univ (fun c : Dev nD => bigSep Finset.univ fun k : CI => (atPos ER (cell c k) 0 ∅ 0 : sProp 𝕄)) payToks).symm)
    isplitl [Hat]; · iexact Hat
    iexact Htk

/-- From the semaphores at zero to what each device starts with. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

/-- What a list of dues, each to one cell, amounts to at a cell. -/
theorem owl_at (dev : Fin 15 → Dev nD) (idx : Fin 15 → CI) (n : ℕ) (c : Dev nD) (i : CI) (l : List (Fin 15)) :
    owl (fun j => tallyAt (cell (dev j) (idx j)) () n) l (cell c i) () = (l.map fun j => if dev j = c ∧ idx j = i then n else 0).sum := by
  induction l with
  | nil => rfl
  | cons a l ih =>
    show owl _ l (cell c i) () + tallyAt (cell (dev a) (idx a)) () n (cell c i) () = _
    rw [ih, List.map_cons, List.sum_cons, Nat.add_comm, tallyAt_apply]
    congr 1
    by_cases h : dev a = c ∧ idx a = i
    · rw [if_pos h, if_pos ⟨cell_eq_iff.mpr ⟨h.1.symm, h.2.symm⟩, rfl⟩]
    · rw [if_neg h, if_neg fun h' => h ⟨(cell_eq_iff.mp h'.1).1.symm, (cell_eq_iff.mp h'.1).2.symm⟩]

/-- What all devices owe a cell. -/
theorem owed_at (c : Dev nD) (i : CI) : (∑ d : Dev nD, O₀ d (cell c i) ())
    = (∑ d : Dev nD, (peers.map fun j => if peer d j = c ∧ iAR j = i then NR else 0).sum)
      + (∑ d : Dev nD, (peers.map fun n => if peer d (kk d n) = c ∧ iRR (kk d n) = i then NR else 0).sum)
      + (∑ d : Dev nD, (peers.map fun j => if peer d j = c ∧ none = i then 1 else 0).sum) := by
  rw [← Finset.sum_add_distrib, ← Finset.sum_add_distrib]
  refine Finset.sum_congr rfl fun d _ => ?_
  rw [← owl_at (fun j => peer d j) (fun j => iAR j), ← owl_at (fun n => peer d (kk d n)) (fun n => iRR (kk d n)), ← owl_at (fun j => peer d j) (fun _ => none)]
  rfl

/-- One peer in one direction, counted. -/
theorem count_bar : ∀ c : Dev nD, (∑ d : Dev nD, (peers.map fun j => if peer d j = c then 1 else 0).sum) = 15 := by decide +kernel
/-- Over all devices, one pays the arrival of a given result chunk. -/
theorem count_AR (n : ℕ) (c : Dev nD) (k : Fin 15) : (∑ d : Dev nD, (peers.map fun j => if peer d j = c ∧ iAR j = iAR k then n else 0).sum) = n := by
  have h : ∀ (c : Dev nD) (k : Fin 15), (∑ d : Dev nD, (peers.map fun j => if peer d j = c ∧ iAR j = iAR k then 1 else 0).sum) = 1 := by decide +kernel
  calc _ = ∑ d : Dev nD, n * (peers.map fun j => if peer d j = c ∧ iAR j = iAR k then 1 else 0).sum :=
        Finset.sum_congr rfl fun d _ => by rw [← List.sum_map_mul_left]; simp only [mul_ite, mul_one, mul_zero]
    _ = n := by rw [← Finset.mul_sum, h, Nat.mul_one]
/-- Over all devices, one pays the arrival of a given scattered chunk. -/
theorem count_RR (n : ℕ) (c : Dev nD) (k : Fin 15) : (∑ d : Dev nD, (peers.map fun j => if peer d (kk d j) = c ∧ iRR (kk d j) = iRR k then n else 0).sum) = n := by
  have h : ∀ (c : Dev nD) (k : Fin 15), (∑ d : Dev nD, (peers.map fun j => if peer d (kk d j) = c ∧ iRR (kk d j) = iRR k then 1 else 0).sum) = 1 := by decide +kernel
  calc _ = ∑ d : Dev nD, n * (peers.map fun j => if peer d (kk d j) = c ∧ iRR (kk d j) = iRR k then 1 else 0).sum :=
        Finset.sum_congr rfl fun d _ => by rw [← List.sum_map_mul_left]; simp only [mul_ite, mul_one, mul_zero]
    _ = n := by rw [← Finset.mul_sum, h, Nat.mul_one]

/-- Dues that do not go to a cell count nothing there. -/
theorem count_none (n : ℕ) (dev : Dev nD → Fin 15 → Dev nD) (idx : Dev nD → Fin 15 → CI) (c : Dev nD) (i : CI) (h : ∀ d j, idx d j ≠ i) :
    (∑ d : Dev nD, (peers.map fun j => if dev d j = c ∧ idx d j = i then n else 0).sum) = 0 :=
  Finset.sum_eq_zero fun d _ => List.sum_eq_zero fun x hx => by
    obtain ⟨j, -, rfl⟩ := List.mem_map.mp hx
    exact if_neg fun h' => h d j h'.2

/-- A result's arrival is not a scattered chunk's. -/
theorem iAR_ne_iRR (j k : Fin 15) : iAR j ≠ iRR k := fun h => by
  have := congrArg Fin.val (Option.some.inj h)
  have h' : 61 + j.val = 31 + k.val := this
  omega

/-- All devices together owe a barrier fifteen. -/
theorem owed_bar (c : Dev nD) : (∑ d : Dev nD, O₀ d (cell c none) ()) = 15 := by
  rw [owed_at, count_none NR (fun d j => peer d j) (fun _ j => iAR j) c none (fun _ _ h => by cases h),
    count_none NR (fun d n => peer d (kk d n)) (fun d n => iRR (kk d n)) c none (fun _ _ h => by cases h)]
  simp only [and_true]
  rw [count_bar]
/-- All devices together owe the arrival of a scattered chunk one chunk. -/
theorem owed_RR (c : Dev nD) (k : Fin 15) : (∑ d : Dev nD, O₀ d (cell c (iRR k)) ()) = NR := by
  rw [owed_at, count_none NR (fun d j => peer d j) (fun _ j => iAR j) c (iRR k) (fun _ j => iAR_ne_iRR j k), count_RR,
    count_none 1 (fun d j => peer d j) (fun _ _ => none) c (iRR k) (fun _ _ h => by cases h), Nat.zero_add, Nat.add_zero]
/-- All devices together owe the arrival of a result chunk one chunk. -/
theorem owed_AR (c : Dev nD) (k : Fin 15) : (∑ d : Dev nD, O₀ d (cell c (iAR k)) ()) = NR := by
  rw [owed_at, count_AR, count_none NR (fun d n => peer d (kk d n)) (fun d n => iRR (kk d n)) c (iAR k) (fun d n h => iAR_ne_iRR k (kk d n) h.symm),
    count_none 1 (fun d j => peer d j) (fun _ _ => none) c (iAR k) (fun _ _ h => by cases h)]
  rfl

/-- What the launch credits at a cell is what all devices owe it. -/
theorem launch_at (c : Dev nD) (i : CI) (n : ℕ) (h : (∑ d : Dev nD, O₀ d (cell c i) ()) = n) :
    tallyOn (cell c i) (launchCredit (Pipeline.owing O₀) 0 (cell c i)) = (tallyAt (cell c i) () n : CellTallies nD τ sig Unit) := by
  unfold tallyAt; refine congrArg _ (Finsupp.ext fun u => ?_); cases u
  rw [Pipeline.launchCredit_owing, Finsupp.single_eq_same, h]

/-- The launch's credit is the credit each of the device's waits uses. -/
theorem creds (c : Dev nD) : (Pipeline.launchCred O₀ c : sProp 𝕄) ⊢ credC c := by
  have h1 : (Pipeline.launchCred O₀ c : sProp 𝕄) ⊢ bigSep Finset.univ fun i : CI => cred (tallyOn (cell c i) (launchCredit (Pipeline.owing O₀) 0 (cell c i))) := by
    unfold Pipeline.launchCred
    have h := bigSep_subset (Finset.subset_univ (Finset.univ.map ⟨csem, csem_injective⟩))
      (Φ := fun sm => (cred (tallyOn ((c.tc : Thread nD τ), sm) (launchCredit (Pipeline.owing O₀) 0 ((c.tc : Thread nD τ), sm))) : sProp 𝕄))
    rw [bigSep_map] at h
    exact h
  refine h1.trans ?_
  rw [ci_split, launch_at c none 15 (owed_bar c)]
  unfold credC
  iintro ⟨H0, -, -, -, H1, -, H2⟩
  isplitl [H0]; · iexact H0
  isplitl [H1]
  · iapply (Entails.of_eq (bigSep_congr fun k _ => by rw [launch_at c (iRR k) NR (owed_RR c k)])) $$ H1
  iapply (Entails.of_eq (bigSep_congr fun k _ => by rw [launch_at c (iAR k) NR (owed_AR c k)])) $$ H2

/-! ### The side conditions -/

/-- What the launch gives a device is what its run starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨Hr, Hlev, Hcr, -, HG⟩
  ihave Hc := (creds (F := F) c) $$ Hcr
  ihave Hr := (show _ ⊢ hbm m c from Entails.of_eq (Pipeline.unscopedRestP_eq_of_list (win := spec0) (c := c) Pipeline.Prefetch.none (fun b => m ((c : Thread nD τ).loc b)) [main_arg2, main_arg3] (by decide) (by decide))) $$ Hr
  imodintro
  unfold start G'
  isplitl
  · isplitl [HG]; · iexact HG
    isplitl [Hlev]; · iexact Hlev
    isplitl [Hc] <;> iassumption
  · iempintro

/-- The run's start and the kernel's own buffers make the state before the body. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

/-- The state after the body gives back the argument arrays, the semaphores at zero and the buffers. -/
theorem phi1_exit (c : Dev nD) :
    (dats m ρ 0 c).Φ (Fin.last cfg0.N) ⊢ iprop((unscopedSems0 c ∗ hbm m c) ∗ Pipeline.ownSems0 osem c ∗ Pipeline.scopedRest cfg0.spec c) := by
  rw [show (dats m ρ 0 c).Φ (Fin.last cfg0.N) = Φ₁ m c from rfl, scopedRest0_eq]
  unfold Φ₁ scr
  rw [sems_eq]
  iintro ⟨Hr, ⟨Hus, Hos⟩, Hh⟩
  isplitl [Hus Hh]
  · isplitl [Hus] <;> iassumption
  isplitl [Hos]; · iexact Hos
  iexact Hr

/-- The launch's own waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_of c _ (b := 0) (by fin_cases w <;> fin_cases s <;> decide) (by
      rcases t with ⟨_ | _, ht⟩
      · exact above_O1 c peers
      · exact fun g u h => absurd h (Nat.lt_irrefl 0))

/-! ### The run -/

/-- The result array ends at the summed result. -/
theorem final_out (c : Dev nD) : (dats m ρ 0 c).arrAt (3 : Fin 4) cfg0.N = outC m := by
  have hw : ∀ t : Fin cfg0.N, (cfg0.win (3 : Fin 4)).flush t = true := fun t => flush0_3 t
  refine (dats m ρ 0 c).arrAt_eq_of_cover (3 : Fin 4) (outC m) (fun t _ => ?_) fun i => ⟨t0_0, hw _, ?_⟩
  · rw [fin_N0 t]
    funext x
    refine congrArg (outC m) (funext fun a => Fin.ext ?_)
    match a with
    | ⟨0, _⟩ => exact (Nat.zero_add _).symm.trans (congrArg (0 + ·) (Nat.one_mul _).symm)
    | ⟨1, _⟩ => exact (Nat.zero_add _).symm.trans (congrArg (0 + ·) (Nat.one_mul _).symm)
  · show i ∈ ((View.whole main_v1).slice (win0_3.rect t0_0)).set
    rw [View.set_slice_whole, Rect.mem_set_unit]
    intro a
    match a with
    | ⟨0, _⟩ => exact ⟨Nat.zero_le _, (i 0).isLt⟩
    | ⟨1, _⟩ => exact ⟨Nat.zero_le _, (i 1).isLt⟩

/-- What the run leaves. -/
def Final (r : PUnit × MemSt nD τ sig (Elt F)) : Prop :=
  (∀ c : Dev nD, r.2.mem ((c.tc : Thread nD τ).loc main_v1) = outC m
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4))
  ∧ r.2.sem = fun _ => 0

set_option maxHeartbeats 1600000 in
/-- From any memory with all counters at zero, every fair execution ends, with the summed result on every device, the
    arguments as they were and every counter back at zero. -/
theorem run_main : θ_run defs (onTc (τ := τ) (main (F := F))) (s₀ m ρ) (Final m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => iprop(unscopedSems0 c ∗ hbm m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c.tc : Thread nD τ).loc main_arg2) = m ((c.tc : Thread nD τ).loc main_arg2)
      ∧ s.mem ((c.tc : Thread nD τ).loc main_arg3) = m ((c.tc : Thread nD τ).loc main_arg3))
    (hY := fun c s' => by
      unfold hbm
      iintro ⟨⟨Hu, H2, H3⟩, -, HSI⟩
      icombine HSI H2 gives %h2
      icombine HSI H3 gives %h3
      imod (Pipeline.unscopedSems0_read (X := unscopedSems0 c) (c := c) fupd_intro s') $$ [Hu HSI] with ⟨%hs, HSI⟩
      · isplitl [Hu] <;> iassumption
      imodintro
      isplitr
      · ipureintro
        exact ⟨hs, Buf.eq_of_forall_mem_univ h2, Buf.eq_of_forall_mem_univ h3⟩
      iexact HSI)
    (hQ := fun s h hs => ⟨fun c => ⟨((h c).1 (3 : Fin 4)).trans (final_out m ρ c),
        ((h c).1 (0 : Fin 4)).trans ((dats m ρ 0 c).arrAt_in (0 : Fin 4) rfl _), ((h c).1 (1 : Fin 4)).trans ((dats m ρ 0 c).arrAt_in (1 : Fin 4) rfl _),
        (h c).2.2.2.1, (h c).2.2.2.2, ((h c).1 (2 : Fin 4)).trans ((dats m ρ 0 c).arrAt_in (2 : Fin 4) rfl _)⟩,
      sem_eq_zero hs fun c => (h c).2.2.1⟩)

end Cert.KernelIdeal.Hand

end
-- ==== Proof.Value.Spec.lean ====
/- The attention as plain arithmetic on the extended reals: the reference's form, the kernel's form, and their
   equality where the scores are real. -/
module

public import Idealize.ShloMosaic.Lib.Pointwise

@[expose] public section

noncomputable section

namespace Cert.Value

open Idealize.ShloMosaic

/-! ## Real numbers among the extended reals -/

/-- The number is real: neither infinity. -/
def IsReal (a : EReal) : Prop := ∃ r : ℝ, a = (r : EReal)

/-- A product of reals is real. -/
theorem IsReal.mul {a b : EReal} (ha : IsReal a) (hb : IsReal b) : IsReal (a * b) := by
  obtain ⟨r, rfl⟩ := ha
  obtain ⟨q, rfl⟩ := hb
  exact ⟨r * q, (EReal.coe_mul r q).symm⟩

/-- A finite sum of real numbers, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem IsReal.sum {ι : Type} (s : Finset ι) (f : ι → EReal) (h : ∀ i, IsReal (f i)) : IsReal (∑ i ∈ s, f i) := by
  choose g hg using h
  refine ⟨∑ i ∈ s, g i, ?_⟩
  rw [coe_sum]
  exact Finset.sum_congr rfl fun i _ => hg i

/-- A real factor that is not negative enters a sum. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- A number whose absolute value is below infinity is real. -/
theorem isReal_of_abs {a : EReal} (h : max a (-a) < ⊤) : IsReal a := by
  induction a with
  | bot => simp at h
  | top => simp at h
  | coe r => exact ⟨r, rfl⟩

/-! ## The weights of one row -/

/-- The exponential of a score that is real or minus infinity, as a real number. -/
def expR (s : EReal) : ℝ := (Ideal.exp s).toReal

/-- A score's exponential is that real number. -/
theorem exp_eq {s : EReal} (h : s = ⊥ ∨ IsReal s) : Ideal.exp s = (expR s : EReal) := by
  rcases h with rfl | ⟨r, rfl⟩ <;> simp [expR]

/-- It is not negative. -/
theorem expR_nonneg {s : EReal} (h : s = ⊥ ∨ IsReal s) : 0 ≤ expR s := by
  rcases h with rfl | ⟨r, rfl⟩ <;> simp [expR, Real.exp_nonneg]

/-- A real score's exponential is positive. -/
theorem expR_pos {s : EReal} (h : IsReal s) : 0 < expR s := by
  obtain ⟨r, rfl⟩ := h
  simp [expR, Real.exp_pos]

/-- Subtracting a real number from a score divides its exponential. -/
theorem exp_sub {s : EReal} (h : s = ⊥ ∨ IsReal s) (M : ℝ) : Ideal.exp (s - (M : EReal)) = ((expR s * Real.exp (-M) : ℝ) : EReal) := by
  rcases h with rfl | ⟨r, rfl⟩
  · rw [EReal.bot_sub]; simp [expR]
  · rw [← EReal.coe_sub, Ideal.exp_coe, sub_eq_add_neg, Real.exp_add]; simp [expR]

/-- The greatest of finitely many scores, one of them real and none plus infinity, is real. -/
theorem fold_max_real {n : Nat} (s : Fin n → EReal) (h : ∀ i, s i = ⊥ ∨ IsReal (s i)) (i₀ : Fin n) (h₀ : IsReal (s i₀)) :
    IsReal (Finset.fold max ⊥ s Finset.univ) := by
  have hlt : Finset.fold max ⊥ s Finset.univ < ⊤ :=
    Finset.fold_max_lt ⊤ |>.mpr ⟨bot_lt_top, fun i _ => by
      rcases h i with e | ⟨r, e⟩ <;> rw [e]
      · exact bot_lt_top
      · exact EReal.coe_lt_top r⟩
  have hle : s i₀ ≤ Finset.fold max ⊥ s Finset.univ := Finset.le_fold_max _ |>.mpr (Or.inr ⟨i₀, Finset.mem_univ _, le_rfl⟩)
  obtain ⟨r, hr⟩ := h₀
  induction hM : Finset.fold max ⊥ s Finset.univ with
  | bot => rw [hM, hr] at hle; simp at hle
  | top => rw [hM] at hlt; exact absurd hlt (lt_irrefl _)
  | coe q => exact ⟨q, rfl⟩

/-- Weighing values by unshifted exponentials and dividing once is weighing them by the quotients of the shifted
    exponentials: the shift cancels, and the positive real divisor enters the sum. -/
theorem softmax_eq {n : Nat} (s v : Fin n → EReal) (h : ∀ i, s i = ⊥ ∨ IsReal (s i)) (i₀ : Fin n) (h₀ : IsReal (s i₀)) (M : ℝ) :
    Ideal.div (∑ i, Ideal.exp (s i) * v i) (∑ i, Ideal.exp (s i))
      = ∑ i, v i * Ideal.div (Ideal.exp (s i - (M : EReal))) (∑ k, Ideal.exp (s k - (M : EReal))) := by
  have hS : 0 < ∑ i, expR (s i) :=
    Finset.sum_pos' (fun i _ => expR_nonneg (h i)) ⟨i₀, Finset.mem_univ _, expR_pos h₀⟩
  have hc : 0 < Real.exp (-M) := Real.exp_pos _
  have e1 : ∑ i, Ideal.exp (s i) = ((∑ i, expR (s i) : ℝ) : EReal) := by
    rw [coe_sum]; exact Finset.sum_congr rfl fun i _ => exp_eq (h i)
  have e2 : ∑ k, Ideal.exp (s k - (M : EReal)) = (((∑ i, expR (s i)) * Real.exp (-M) : ℝ) : EReal) := by
    rw [Finset.sum_mul, coe_sum]; exact Finset.sum_congr rfl fun i _ => exp_sub (h i) M
  rw [e1, e2, Ideal.div_coe hS.ne', sum_mul_coe _ _ _ (by positivity)]
  refine Finset.sum_congr rfl fun i _ => ?_
  rw [exp_eq (h i), exp_sub (h i) M, Ideal.div_coe (mul_pos hS hc).ne', ← EReal.coe_mul, mul_comm (expR (s i) : EReal) (v i), mul_assoc, ← EReal.coe_mul]
  congr 2
  field_simp

/-! ## The two forms -/

/-- The factor both programs scale scores by. -/
def scale : EReal := Ideal.ofBits .f32 0x3DB504F3#32

/-- The factor is real. -/
theorem scale_real : IsReal scale := by
  unfold scale Ideal.ofBits Ideal.ieee
  norm_num
  exact ⟨_, rfl⟩

/-- Query `R` sees key `k`: the same block of 64, the first block, or the two blocks' sum a multiple of three. -/
def keep (R k : Fin 1024) : Prop := R.val / 64 = k.val / 64 ∨ k.val / 64 = 0 ∨ (R.val / 64 + k.val / 64) % 3 = 0

instance (R k : Fin 1024) : Decidable (keep R k) := by unfold keep; infer_instance

/-- Column `T` of head `H`. -/
def col (H T : Fin 128) : Fin 16384 := ⟨H.val * 128 + T.val, by omega⟩

section
variable (X : Fin 1024 → Fin 1024 → EReal) (Wq : Fin 1024 → Fin 16384 → EReal) (K V : Fin 1024 → Fin 128 → Fin 128 → EReal)
  (Wo : Fin 16384 → Fin 1024 → EReal)

/-- The projected queries. -/
def proj (R : Fin 1024) (H T : Fin 128) : EReal := ∑ i, X R i * Wq i (col H T)
/-- The scaled product of a query and a key. -/
def score (R : Fin 1024) (H : Fin 128) (k : Fin 1024) : EReal := (∑ t, proj X Wq R H t * K k H t) * scale
/-- The masked score. -/
def masked (R : Fin 1024) (H : Fin 128) (k : Fin 1024) : EReal := if keep R k then score X Wq K R H k else ⊥
/-- A row's greatest score. -/
def top (R : Fin 1024) (H : Fin 128) : EReal := Finset.fold max ⊥ (masked X Wq K R H) Finset.univ
/-- The reference's attention. -/
def ctxRef (R : Fin 1024) (H T : Fin 128) : EReal :=
  ∑ k, V k H T * Ideal.div (Ideal.exp (masked X Wq K R H k - top X Wq K R H)) (∑ k', Ideal.exp (masked X Wq K R H k' - top X Wq K R H))
/-- The reference's result. -/
def outRef (R y : Fin 1024) : EReal :=
  ∑ J : Fin 16384, ctxRef X Wq K V R ⟨J.val / 128, by omega⟩ ⟨J.val % 128, Nat.mod_lt _ (by decide)⟩ * Wo J y

/-- The kernel's score: the mask is added. -/
def biased (R : Fin 1024) (H : Fin 128) (k : Fin 1024) : EReal := score X Wq K R H k + (if keep R k then 0 else ⊥)
/-- The kernel's attention. -/
def ctxKer (R : Fin 1024) (H T : Fin 128) : EReal :=
  Ideal.div (∑ k, Ideal.exp (biased X Wq K R H k) * V k H T) (∑ k, Ideal.exp (biased X Wq K R H k))
/-- Device `d`'s share of the kernel's result. -/
def partKer (d : Fin 16) (R y : Fin 1024) : EReal :=
  ∑ j : Fin 1024, ctxKer X Wq K V R ⟨8 * d.val + j.val / 128, by omega⟩ ⟨j.val % 128, Nat.mod_lt _ (by decide)⟩ * Wo ⟨1024 * d.val + j.val, by omega⟩ y

variable (hX : ∀ R i, IsReal (X R i)) (hW : ∀ i J, IsReal (Wq i J)) (hK : ∀ k H t, IsReal (K k H t))
include hX hW hK

/-- The scores are real. -/
theorem score_real (R : Fin 1024) (H : Fin 128) (k : Fin 1024) : IsReal (score X Wq K R H k) :=
  (IsReal.sum _ _ fun t => (IsReal.sum _ _ fun i => (hX R i).mul (hW i _)).mul (hK k H t)).mul scale_real

/-- Adding the mask and selecting by it agree. -/
theorem biased_eq (R : Fin 1024) (H : Fin 128) (k : Fin 1024) : biased X Wq K R H k = masked X Wq K R H k := by
  unfold biased masked
  split
  · exact add_zero _
  · exact EReal.add_bot _

/-- A masked score is real or minus infinity. -/
theorem masked_real (R : Fin 1024) (H : Fin 128) (k : Fin 1024) : masked X Wq K R H k = ⊥ ∨ IsReal (masked X Wq K R H k) := by
  unfold masked
  split
  · exact Or.inr (score_real X Wq K hX hW hK R H k)
  · exact Or.inl rfl

/-- Every query sees the first key. -/
theorem masked_zero (R : Fin 1024) (H : Fin 128) : IsReal (masked X Wq K R H 0) := by
  unfold masked
  rw [if_pos (show keep R 0 from Or.inr (Or.inl rfl))]
  exact score_real X Wq K hX hW hK R H 0

/-- The two forms of the attention agree. -/
theorem ctx_eq (R : Fin 1024) (H T : Fin 128) : ctxKer X Wq K V R H T = ctxRef X Wq K V R H T := by
  obtain ⟨M, hM⟩ := fold_max_real (masked X Wq K R H) (masked_real X Wq K hX hW hK R H) 0 (masked_zero X Wq K hX hW hK R H)
  have hb : biased X Wq K R H = masked X Wq K R H := funext (biased_eq X Wq K hX hW hK R H)
  unfold ctxKer ctxRef top
  rw [hM, hb]
  exact softmax_eq _ (fun k => V k H T) (masked_real X Wq K hX hW hK R H) 0 (masked_zero X Wq K hX hW hK R H) M

/-- The devices' shares add up to the reference's result. -/
theorem out_eq (R y : Fin 1024) : ∑ d, partKer X Wq K V Wo d R y = outRef X Wq K V Wo R y := by
  unfold partKer outRef
  simp only [ctx_eq X Wq K V hX hW hK]
  rw [← (finProdFinEquiv (m := 16) (n := 1024)).sum_comp (fun J : Fin 16384 =>
    ctxRef X Wq K V R ⟨J.val / 128, by omega⟩ ⟨J.val % 128, Nat.mod_lt _ (by decide)⟩ * Wo J y), Fintype.sum_prod_type]
  refine Finset.sum_congr rfl fun d _ => Finset.sum_congr rfl fun j _ => ?_
  have e : (finProdFinEquiv (m := 16) (n := 1024) (d, j)).val = j.val + 1024 * d.val := rfl
  congr 1
  · congr 1 <;> apply Fin.ext <;> simp only [e] <;> omega
  · congr 1
    apply Fin.ext
    simp only [e]
    omega
end

end Cert.Value
-- ==== Proof.Value.Pre.lean ====
/- What the precondition says of the elements. -/
module

public import proofs.«01_k».proof.Proof.Gen.Pre_finite_scores_KernelIdeal
public import proofs.«01_k».proof.Proof.Value.Spec
public import Idealize.ShloMosaic.Lib.ReduceAll

@[expose] public section

noncomputable section

namespace Cert.Pre_finite_scores_KernelIdeal.Hand

open Cert.Pre_finite_scores_KernelIdeal Cert.Pre_finite_scores_KernelIdeal.Gen Cert.Value Idealize.ShloMosaic Idealize.SL.Sem

/-- A bit that is the conjunction of two holds when both do. -/
theorem and_bits : ∀ a b : BitVec 1, IntOp.andi a b = 1#1 → a = 1#1 ∧ b = 1#1 := by decide

/-- The word of plus infinity. -/
theorem pos_inf : Ideal.ofBits .f32 0x7F800000#32 = ⊤ := by simp [Ideal.ofBits, Ideal.ieee]

/-- An absolute value compared below infinity is a real number's. -/
theorem real_of_bit (a : EReal) (h : Ideal.cmp .olt (max a (-a)) ⊤ = 1#1) : IsReal a := by
  apply isReal_of_abs
  by_contra hn
  rw [Ideal.cmp] at h
  simp [hn] at h

instance : Subsingleton S_.Idx := ⟨fun a b => funext fun i => i.elim0⟩

/-- The precondition makes the inputs, the query weights and the keys real. -/
theorem real_of_pre (x : FVec Ideal S1x1024x1024 .f32) (wq : FVec Ideal S1024x1024 .f32) (k v : FVec Ideal S1x1024x128x128 .f32) (wo : FVec Ideal S1024x1024 .f32)
    (h : fn (F := Ideal) x wq k v wo = fun _ => 1#1) :
    (∀ i, IsReal (x i)) ∧ (∀ i, IsReal (wq i)) ∧ (∀ i, IsReal (k i)) := by
  have h0 := congrFun h ix0
  dsimp only [fn] at h0
  obtain ⟨h1, h4⟩ := and_bits _ _ h0
  obtain ⟨h2, h3⟩ := and_bits _ _ h1
  refine ⟨fun i => ?_, fun i => ?_, fun i => ?_⟩
  · have e : Ideal.cmp .olt (max (x i) (-(x i))) (Ideal.ofBits .f32 0x7F800000#32) = 1#1 := Host.reduce_andi_all _ _ _ _ _ h2 i
    rw [pos_inf] at e
    exact real_of_bit _ e
  · have e : Ideal.cmp .olt (max (wq i) (-(wq i))) (Ideal.ofBits .f32 0x7F800000#32) = 1#1 := Host.reduce_andi_all _ _ _ _ _ h3 i
    rw [pos_inf] at e
    exact real_of_bit _ e
  · have e : Ideal.cmp .olt (max (k i) (-(k i))) (Ideal.ofBits .f32 0x7F800000#32) = 1#1 := Host.reduce_andi_all _ _ _ _ _ h4 i
    rw [pos_inf] at e
    exact real_of_bit _ e

end Cert.Pre_finite_scores_KernelIdeal.Hand
-- ==== Proof.Value.RefStages.lean ====
/- The reference's result, cut into stages: each stage takes the arrays before it. -/
module

public import proofs.«01_k».proof.Proof.Gen.ReferenceIdeal.Run
public import Idealize.ShloMosaic.Lib.Pointwise

@[expose] public section

noncomputable section

namespace Cert.ReferenceIdeal.Hand

open Cert.ReferenceIdeal Cert.ReferenceIdeal.Gen Idealize.ShloMosaic Idealize.ShloMosaic.TcCoe Idealize.SL.Sem

/-- Each position's block. -/
def rBlk : IVec S1024 32 :=
  select (andi (cmpi .ne (signi (iotaInDim S1024 32 0)) (broadcastInDim S1024 ![] bcast_S_S1024 (signi (id (constantI S_ 32 64#32)))))
      (cmpi .ne (Host.remsi (iotaInDim S1024 32 0) (broadcastInDim S1024 ![] bcast_S_S1024 (id (constantI S_ 32 64#32)))) (broadcastInDim S1024 ![] bcast_S_S1024 (constantI S_ 32 0#32))))
    (subi (Host.divsi (iotaInDim S1024 32 0) (broadcastInDim S1024 ![] bcast_S_S1024 (id (constantI S_ 32 64#32)))) (broadcastInDim S1024 ![] bcast_S_S1024 (constantI S_ 32 1#32)))
    (Host.divsi (iotaInDim S1024 32 0) (broadcastInDim S1024 ![] bcast_S_S1024 (id (constantI S_ 32 64#32))))

/-- The divisor three, as the remainder prints it. -/
def rThree : IVec S_ 32 := select (cmpi .eq (id (constantI S_ 32 3#32)) (constantI S_ 32 0#32)) (constantI S_ 32 1#32) (id (constantI S_ 32 3#32))

/-- The sum of a query's block and a key's. -/
def rSumB (b : IVec S1024 32) : IVec S1024x1024 32 :=
  addi (broadcastInDim S1024x1024 ![0, 1] bcast_S1024x1_S1024x1024_0_1 (broadcastInDim S1024x1 ![0] bcast_S1024_S1024x1_0 b))
    (broadcastInDim S1024x1024 ![0, 1] bcast_S1x1024_S1024x1024_0_1 (broadcastInDim S1x1024 ![1] bcast_S1024_S1x1024_1 b))

/-- Which keys a query sees. -/
def rMask (b : IVec S1024 32) (w : IVec S1024x1024 32) (three : IVec S_ 32) : IVec S1024x1024 1 :=
  ori (ori (cmpi .eq (broadcastInDim S1024x1024 ![0, 1] bcast_S1024x1_S1024x1024_0_1 (broadcastInDim S1024x1 ![0] bcast_S1024_S1024x1_0 b))
        (broadcastInDim S1024x1024 ![0, 1] bcast_S1x1024_S1024x1024_0_1 (broadcastInDim S1x1024 ![1] bcast_S1024_S1x1024_1 b)))
      (broadcastInDim S1024x1024 ![0, 1] bcast_S1x1024_S1024x1024_0_1
        (cmpi .eq (broadcastInDim S1x1024 ![1] bcast_S1024_S1x1024_1 b) (broadcastInDim S1x1024 ![] bcast_S_S1x1024 (constantI S_ 32 0#32)))))
    (cmpi .eq
      (select (andi (cmpi .ne (cmpi .slt (Host.remsi w (broadcastInDim S1024x1024 ![] bcast_S_S1024x1024 three)) (broadcastInDim S1024x1024 ![] bcast_S_S1024x1024 (constantI S_ 32 0#32)))
            (broadcastInDim S1024x1024 ![] bcast_S_S1024x1024 (cmpi .slt three (constantI S_ 32 0#32))))
          (cmpi .ne (Host.remsi w (broadcastInDim S1024x1024 ![] bcast_S_S1024x1024 three)) (broadcastInDim S1024x1024 ![] bcast_S_S1024x1024 (constantI S_ 32 0#32))))
        (addi (Host.remsi w (broadcastInDim S1024x1024 ![] bcast_S_S1024x1024 three)) (broadcastInDim S1024x1024 ![] bcast_S_S1024x1024 three))
        (Host.remsi w (broadcastInDim S1024x1024 ![] bcast_S_S1024x1024 three)))
      (broadcastInDim S1024x1024 ![] bcast_S_S1024x1024 (constantI S_ 32 0#32)))

/-- Whether a query sees any key. -/
def rKeep (k : IVec S1024x1024 1) : IVec S1024 1 := Host.reduce IntOp.ori k (constantI S_ 1 0#1) reducesTo_S1024x1024_S1024_d1 h_S_

/-- The projected queries. -/
def rQ (x : FVec Ideal S1x1024x1024 .f32) (wq : FVec Ideal S1024x16384 .f32) : FVec Ideal S1x1024x128x128 .f32 :=
  shapeCast _ (Host.dotGeneral dot_S1x1024x1024_S1024x16384_S1x1024x16384_2_0_01_1_n_n none x wq) shapeCasts_S1x1024x16384_S1x1024x128x128

/-- The products of queries and keys. -/
def rDot (q k : FVec Ideal S1x1024x128x128 .f32) : FVec Ideal S1x128x1024x1024 .f32 :=
  Host.dotGeneral dot_S1x1024x128x128_S1x1024x128x128_S1x128x1024x1024_3_3_1_1_02_02 none q k

/-- The masked scores. -/
def rS (k : IVec S1024x1024 1) (d : FVec Ideal S1x128x1024x1024 .f32) : FVec Ideal S1x128x1024x1024 .f32 :=
  select (broadcastInDim S1x128x1024x1024 ![0, 1, 2, 3] bcast_S1x1x1024x1024_S1x128x1024x1024_0_1_2_3 (broadcastInDim S1x1x1024x1024 ![2, 3] bcast_S1024x1024_S1x1x1024x1024_2_3 k))
    (mulf d (broadcastInDim S1x128x1024x1024 ![] bcast_S_S1x128x1024x1024 (constant S_ .f32 0x3DB504F3#32)))
    (broadcastInDim S1x128x1024x1024 ![] bcast_S_S1x128x1024x1024 (id (constant S_ .f32 0xFF800000#32)))

/-- Each row's greatest score. -/
def rMax (s : FVec Ideal S1x128x1024x1024 .f32) : FVec Ideal S1x128x1024 .f32 :=
  Host.reduce FloatOps.maximumf s (constant S_ .f32 0xFF800000#32) reducesTo_S1x128x1024x1024_S1x128x1024_d3 h_S_

/-- The exponentials of the scores less their row's greatest. -/
def rE (s : FVec Ideal S1x128x1024x1024 .f32) (mx : FVec Ideal S1x128x1024 .f32) : FVec Ideal S1x128x1024x1024 .f32 :=
  Host.exp (subf s (broadcastInDim S1x128x1024x1024 ![0, 1, 2, 3] bcast_S1x128x1024x1_S1x128x1024x1024_0_1_2_3 (broadcastInDim S1x128x1024x1 ![0, 1, 2] bcast_S1x128x1024_S1x128x1024x1_0_1_2 mx)))

/-- Each row's sum. -/
def rSum (e : FVec Ideal S1x128x1024x1024 .f32) : FVec Ideal S1x128x1024 .f32 :=
  Host.reduceAdd e (constant S_ .f32 0x00000000#32) reducesTo_S1x128x1024x1024_S1x128x1024_d3 h_S_

/-- The weights. -/
def rW (kp : IVec S1024 1) (e : FVec Ideal S1x128x1024x1024 .f32) (d : FVec Ideal S1x128x1024 .f32) : FVec Ideal S1x128x1024x1024 .f32 :=
  select (broadcastInDim S1x128x1024x1024 ![0, 1, 2, 3] bcast_S1x1x1024x1_S1x128x1024x1024_0_1_2_3 (broadcastInDim S1x1x1024x1 ![2] bcast_S1024_S1x1x1024x1_2 kp))
    (Host.divf e
      (broadcastInDim S1x128x1024x1024 ![0, 1, 2, 3] bcast_S1x128x1024x1_S1x128x1024x1024_0_1_2_3
        (select (broadcastInDim S1x128x1024x1 ![0, 1, 2, 3] bcast_S1x1x1024x1_S1x128x1024x1_0_1_2_3 (broadcastInDim S1x1x1024x1 ![2] bcast_S1024_S1x1x1024x1_2 kp))
          (broadcastInDim S1x128x1024x1 ![0, 1, 2] bcast_S1x128x1024_S1x128x1024x1_0_1_2 d)
          (broadcastInDim S1x128x1024x1 ![] bcast_S_S1x128x1024x1 (id (constant S_ .f32 0x3F800000#32))))))
    (broadcastInDim S1x128x1024x1024 ![] bcast_S_S1x128x1024x1024 (id (constant S_ .f32 0x00000000#32)))

/-- The attention's result, heads side by side. -/
def rCtx (v : FVec Ideal S1x1024x128x128 .f32) (w : FVec Ideal S1x128x1024x1024 .f32) : FVec Ideal S1x1024x16384 .f32 :=
  shapeCast _ (transpose S1x1024x128x128 [0, 3, 1, 2] (Host.dotGeneral dot_S1x1024x128x128_S1x128x1024x1024_S1x128x128x1024_1_3_3_2_02_01 none v w)
    transposes_S1x128x128x1024_S1x1024x128x128_0_3_1_2) shapeCasts_S1x1024x128x128_S1x1024x16384

/-- The result. -/
def rRes (ctx : FVec Ideal S1x1024x16384 .f32) (wo : FVec Ideal S16384x1024 .f32) : FVec Ideal S1024x1024 .bf16 :=
  truncf .bf16 (shapeCast _ (Host.dotGeneral dot_S1x1024x16384_S16384x1024_S1x1024x1024_2_0_01_1_n_n none ctx wo) shapeCasts_S1x1024x1024_S1024x1024) bitsLt_bf16_f32

/-- The scores of a query and a key, masked. -/
def rScores (x : FVec Ideal S1x1024x1024 .f32) (wq : FVec Ideal S1024x16384 .f32) (k : FVec Ideal S1x1024x128x128 .f32) : FVec Ideal S1x128x1024x1024 .f32 :=
  rS (rMask rBlk (rSumB rBlk) rThree) (rDot (rQ x wq) k)

/-- The exponentials of the masked scores. -/
def rExps (x : FVec Ideal S1x1024x1024 .f32) (wq : FVec Ideal S1024x16384 .f32) (k : FVec Ideal S1x1024x128x128 .f32) : FVec Ideal S1x128x1024x1024 .f32 :=
  rE (rScores x wq k) (rMax (rScores x wq k))

/-- The reference's result is its stages composed. -/
theorem res_stages (m : (ℓ : Loc nD τ sig) → Buf (Elt Ideal) ℓ) (c : Dev nD) :
    Value.res_main_v46 (F := Ideal) m c
      = rRes (rCtx (m ((c.tc : Thread nD τ).loc main_arg3))
          (rW (rKeep (rMask rBlk (rSumB rBlk) rThree))
            (rExps (m ((c.tc : Thread nD τ).loc main_arg0)) (m ((c.tc : Thread nD τ).loc main_arg1)) (m ((c.tc : Thread nD τ).loc main_arg2)))
            (rSum (rExps (m ((c.tc : Thread nD τ).loc main_arg0)) (m ((c.tc : Thread nD τ).loc main_arg1)) (m ((c.tc : Thread nD τ).loc main_arg2))))))
        (m ((c.tc : Thread nD τ).loc main_arg4)) := rfl

end Cert.ReferenceIdeal.Hand
-- ==== Proof.Value.RefValue.lean ====
/- The reference's result, element by element. -/
module

public import proofs.«01_k».proof.Proof.Value.RefStages
public import proofs.«01_k».proof.Proof.Value.Spec

@[expose] public section

noncomputable section

namespace Cert.ReferenceIdeal.Hand

open Cert.ReferenceIdeal Cert.ReferenceIdeal.Gen Cert.Value Idealize.ShloMosaic Idealize.ShloMosaic.TcCoe Idealize.SL.Sem

/-- A bit, from a proposition. -/
abbrev bit (p : Prop) [Decidable p] : BitVec 1 := if p then 1#1 else 0#1

/-- A position's block is its quotient by 64. -/
theorem rBlk_apply (R : Fin 1024) : rBlk (ix1 R) = BitVec.ofNat 32 (R.val / 64) := by
  pointwise [rBlk, id_eq]
  revert R
  decide +kernel

/-- The mask's bit is the mask. -/
theorem rMask_apply (R k : Fin 1024) : rMask rBlk (rSumB rBlk) rThree (ix2 R k) = bit (keep R k) := by
  pointwise [rMask, rSumB, rThree, id_eq]
  rw [rBlk_apply, rBlk_apply]
  refine Eq.trans ?_ (show bit (R.val / 64 = k.val / 64 ∨ k.val / 64 = 0 ∨ (R.val / 64 + k.val / 64) % 3 = 0) = bit (keep R k) from
    if_congr Iff.rfl rfl rfl)
  have ha : R.val / 64 < 16 := by omega
  have hb : k.val / 64 < 16 := by omega
  generalize R.val / 64 = a at ha ⊢
  generalize k.val / 64 = b at hb ⊢
  revert b
  revert a
  decide +kernel

/-- Every query sees a key. -/
theorem rKeep_apply (R : Fin 1024) : rKeep (rMask rBlk (rSumB rBlk) rThree) (ix1 R) = 1#1 := by
  pointwise [rKeep]
  have hone : ∀ (n : Nat) (f : Fin n → BitVec 1) (i₀ : Fin n), f i₀ = 1#1 → Finset.fold IntOp.ori (0#1) f Finset.univ = 1#1 := by
    intro n f i₀ h
    rw [← Finset.insert_erase (Finset.mem_univ i₀), Finset.fold_insert (Finset.notMem_erase _ _), h]
    generalize Finset.fold IntOp.ori _ _ _ = b
    revert b
    decide
  refine hone _ _ 0 ?_
  rw [rMask_apply, bit, if_pos (show keep R 0 from Or.inr (Or.inl rfl))]

/-- The word of minus infinity. -/
theorem neg_inf : Ideal.ofBits .f32 0xFF800000#32 = ⊥ := by simp [Ideal.ofBits, Ideal.ieee]

section
variable (x : FVec Ideal S1x1024x1024 .f32) (wq : FVec Ideal S1024x16384 .f32) (k v : FVec Ideal S1x1024x128x128 .f32) (wo : FVec Ideal S16384x1024 .f32)

/-- The input, by coordinates. -/
abbrev xA : Fin 1024 → Fin 1024 → EReal := fun R i => x (ix3 0 R i)
/-- The query weights, by coordinates. -/
abbrev wqA : Fin 1024 → Fin 16384 → EReal := fun i J => wq (ix2 i J)
/-- The keys or the values, by coordinates. -/
abbrev kA : Fin 1024 → Fin 128 → Fin 128 → EReal := fun κ H T => k (ix4 0 κ H T)
/-- The output weights, by coordinates. -/
abbrev woA : Fin 16384 → Fin 1024 → EReal := fun J y => wo (ix2 J y)

/-- The projected queries. -/
theorem rQ_apply (R : Fin 1024) (H T : Fin 128) : rQ x wq (ix4 0 R H T) = proj (xA x) (wqA wq) R H T := by
  pointwise [rQ]
  unfold proj col
  rfl

/-- The masked scores. -/
theorem rScores_apply (R κ : Fin 1024) (H : Fin 128) :
    rScores x wq k (ix4 0 H R κ) = masked (xA x) (wqA wq) (kA k) R H κ := by
  unfold rScores
  have hm := rMask_apply R κ
  generalize rMask rBlk (rSumB rBlk) rThree = mk at hm ⊢
  have hq : ∀ T, rQ x wq (ix4 0 R H T) = proj (xA x) (wqA wq) R H T := fun T => rQ_apply x wq R H T
  generalize rQ x wq = q at hq ⊢
  pointwise [rS, rDot, id_eq]
  rw [hm, neg_inf]
  simp only [hq]
  unfold masked score scale
  by_cases h : keep R κ
  · simp [h, Scalar.select]
  · simp [h, Scalar.select]

/-- A row's greatest score. -/
theorem rMax_apply (R : Fin 1024) (H : Fin 128) :
    rMax (rScores x wq k) (ix3 0 H R) = top (xA x) (wqA wq) (kA k) R H := by
  have hs : ∀ κ, rScores x wq k (ix4 0 H R κ) = masked (xA x) (wqA wq) (kA k) R H κ := fun κ => rScores_apply x wq k R κ H
  generalize rScores x wq k = s at hs ⊢
  pointwise [rMax]
  rw [neg_inf]
  simp only [hs]
  unfold top
  rfl

/-- The exponentials. -/
theorem rExps_apply (R κ : Fin 1024) (H : Fin 128) :
    rExps x wq k (ix4 0 H R κ) = Ideal.exp (masked (xA x) (wqA wq) (kA k) R H κ - top (xA x) (wqA wq) (kA k) R H) := by
  unfold rExps
  have hs := rScores_apply x wq k R κ H
  have hm := rMax_apply x wq k R H
  generalize rMax (rScores x wq k) = mx at hm ⊢
  generalize rScores x wq k = s at hs ⊢
  pointwise [rE]
  rw [hs, hm]

/-- The weights. -/
theorem rW_apply (R κ : Fin 1024) (H : Fin 128) :
    rW (rKeep (rMask rBlk (rSumB rBlk) rThree)) (rExps x wq k) (rSum (rExps x wq k)) (ix4 0 H R κ)
      = Ideal.div (Ideal.exp (masked (xA x) (wqA wq) (kA k) R H κ - top (xA x) (wqA wq) (kA k) R H))
          (∑ κ', Ideal.exp (masked (xA x) (wqA wq) (kA k) R H κ' - top (xA x) (wqA wq) (kA k) R H)) := by
  have hk := rKeep_apply R
  generalize rKeep (rMask rBlk (rSumB rBlk) rThree) = kp at hk ⊢
  have he : ∀ κ, rExps x wq k (ix4 0 H R κ) = _ := fun κ => rExps_apply x wq k R κ H
  generalize rExps x wq k = e at he ⊢
  have hd : rSum e (ix3 0 H R) = ∑ κ', Ideal.exp (masked (xA x) (wqA wq) (kA k) R H κ' - top (xA x) (wqA wq) (kA k) R H) := by
    pointwise [rSum]
    simp only [he]
  generalize rSum e = d at hd ⊢
  pointwise [rW, id_eq]
  rw [hk, he, hd]
  exact if_pos rfl

/-- The attention. -/
theorem rCtx_apply (R : Fin 1024) (J : Fin 16384) :
    rCtx v (rW (rKeep (rMask rBlk (rSumB rBlk) rThree)) (rExps x wq k) (rSum (rExps x wq k))) (ix3 0 R J)
      = ctxRef (xA x) (wqA wq) (kA k) (kA v) R ⟨J.val / 128, by omega⟩ ⟨J.val % 128, Nat.mod_lt _ (by decide)⟩ := by
  have hw : ∀ H κ, rW (rKeep (rMask rBlk (rSumB rBlk) rThree)) (rExps x wq k) (rSum (rExps x wq k)) (ix4 0 H R κ) = _ :=
    fun H κ => rW_apply x wq k R κ H
  generalize rW (rKeep (rMask rBlk (rSumB rBlk) rThree)) (rExps x wq k) (rSum (rExps x wq k)) = w at hw ⊢
  pointwise [rCtx]
  simp only [hw]
  unfold ctxRef
  rfl

/-- The reference's result. -/
theorem rRes_apply (R y : Fin 1024) :
    rRes (rCtx v (rW (rKeep (rMask rBlk (rSumB rBlk) rThree)) (rExps x wq k) (rSum (rExps x wq k)))) wo (ix2 R y)
      = outRef (xA x) (wqA wq) (kA k) (kA v) (woA wo) R y := by
  have hc : ∀ J, rCtx v (rW (rKeep (rMask rBlk (rSumB rBlk) rThree)) (rExps x wq k) (rSum (rExps x wq k))) (ix3 0 R J) = _ :=
    fun J => rCtx_apply x wq k v R J
  generalize rCtx v (rW (rKeep (rMask rBlk (rSumB rBlk) rThree)) (rExps x wq k) (rSum (rExps x wq k))) = ctx at hc ⊢
  pointwise [rRes]
  simp only [hc]
  unfold outRef
  rfl
end

end Cert.ReferenceIdeal.Hand
-- ==== Proof.Value.KerValue.lean ====
/- The kernel's result, element by element. -/
module

public import proofs.«01_k».proof.Proof.KernelIdeal.Content
public import proofs.«01_k».proof.Proof.Value.Spec

@[expose] public section

noncomputable section

namespace Cert.KernelIdeal.Hand

open Cert.KernelIdeal Cert.KernelIdeal.Gen Cert.Value Idealize.ShloMosaic Idealize.ShloMosaic.TcCoe Idealize.SL.Sem

/-- A pair of coordinates, in the two spellings. -/
theorem pair_eq {a b : Nat} (x : Fin a) (y : Fin b) : Shape.pair (d := ![a, b]) x y = ix2 x y := by
  funext i
  match i with
  | ⟨0, _⟩ => rfl
  | ⟨1, _⟩ => rfl

/-! ## The operations -/

/-- The projection. -/
theorem pay4_apply (x : Vec Ideal S1x1024x1024 .f32) (w : Vec Ideal S1024x1024 .f32) (R J : Fin 1024) :
    k0_pay4 (F := Ideal) (k0_pay2 (F := Ideal) (k0_pay1 (F := Ideal) x)) (k0_pay3 (F := Ideal) w) (ix2 R J) = ∑ i : Fin 1024, x (ix3 0 R i) * w (ix2 i J) := by
  pointwise [k0_pay1, k0_pay2, k0_pay3, k0_pay4]

/-- The gathered keys, values and output weights keep their elements. -/
theorem pay7_apply (x : Vec Ideal S1024x1024 .f32) (R J : Fin 1024) : k0_pay7 (F := Ideal) (k0_pay6 (F := Ideal) x) (ix2 R J) = x (ix2 R J) := by
  pointwise [k0_pay7, k0_pay6]
/-- The gathered values keep their elements. -/
theorem pay8_apply (x : Vec Ideal S1024x1024 .f32) (R J : Fin 1024) : k0_pay8 (F := Ideal) x (ix2 R J) = x (ix2 R J) := by
  pointwise [k0_pay8]
/-- The output weights keep their elements. -/
theorem pay5_apply (x : Vec Ideal S1024x1024 .f32) (R J : Fin 1024) : k0_pay5 (F := Ideal) x (ix2 R J) = x (ix2 R J) := by
  pointwise [k0_pay5]

/-- A slab's product with the output weights. -/
theorem pay25_apply (x : Vec Ideal S256x1024 .bf16) (w : Vec Ideal S1024x1024 .bf16) (r : Fin 256) (y : Fin 1024) :
    k0_pay25 (F := Ideal) x w (ix2 r y) = ∑ j : Fin 1024, x (ix2 r j) * w (ix2 j y) := by
  pointwise [k0_pay25]

/-- One head of a slab's attention. -/
theorem pay19_apply (b : FVec Ideal S256x1024 .f32) (q : Vec Ideal S256x128 .bf16) (k v : Vec Ideal S1024x128 .bf16) (r : Fin 256) (t : Fin 128) :
    k0_pay19 (F := Ideal) b q k v (ix2 r t)
      = Ideal.div (∑ κ : Fin 1024, Ideal.exp ((∑ i : Fin 128, q (ix2 r i) * k (ix2 κ i)) * scale + b (ix2 r κ)) * v (ix2 κ t))
          (∑ κ : Fin 1024, Ideal.exp ((∑ i : Fin 128, q (ix2 r i) * k (ix2 κ i)) * scale + b (ix2 r κ))) := by
  pointwise [k0_pay19]
  rfl

/-! ## The mask -/

/-- A key's block. -/
theorem kBlk_apply (κ : Fin 1024) : kBlk (ix2 0 κ) = BitVec.ofNat 32 (κ.val / 64) := by
  pointwise [kBlk, k0_pay12, k0_pay10, k0_pay11]
  revert κ
  decide +kernel

/-- A query's block within its slab. -/
theorem pay9_apply (r : Fin 256) : k0_pay9 (ix2 r 0) = BitVec.ofNat 32 (r.val / 64) := by
  pointwise [k0_pay9]
  revert r
  decide +kernel

/-- A slab's first block. -/
theorem slabW_eq (c : Dev nD) (u : Fin 4) : Scalar.muli (slabW c u) 4#32 = BitVec.ofNat 32 (4 * (slabOf c u).val) := by
  revert c u
  decide +kernel

/-- Row `r` of a device's slab in turn `u`. -/
def rowOf (c : Dev nD) (u : Fin 4) (r : Fin 256) : Fin 1024 := ⟨256 * (slabOf c u).val + r.val, by have := (slabOf c u).isLt; omega⟩

/-- A query's block. -/
theorem qBlk_apply (c : Dev nD) (u : Fin 4) (r : Fin 256) : qBlk (slabW c u) (ix2 r 0) = BitVec.ofNat 32 ((rowOf c u r).val / 64) := by
  show k0_pay9 (ix2 r 0) + Scalar.muli (slabW c u) 4#32 = _
  rw [pay9_apply, slabW_eq, ← BitVec.ofNat_add]
  congr 1
  show _ = (256 * (slabOf c u).val + r.val) / 64
  omega

/-- The mask's bit of two blocks. -/
theorem mask_word : ∀ a < 16, ∀ b < 16,
    IntOp.ori (IntOp.ori (IntOp.cmpi .eq (BitVec.ofNat 32 b) (BitVec.ofNat 32 a)) (IntOp.cmpi .eq (BitVec.ofNat 32 b) 0#32))
        (IntOp.cmpi .eq (IntOp.remsi .vector (IntOp.addi (BitVec.ofNat 32 b) (BitVec.ofNat 32 a)) 3#32) 0#32)
      = if a = b ∨ b = 0 ∨ (a + b) % 3 = 0 then 1#1 else 0#1 := by
  decide +kernel

/-- What the mask adds to a score. -/
theorem bias_apply (c : Dev nD) (u : Fin 4) (r : Fin 256) (κ : Fin 1024) :
    bias (F := Ideal) c u (ix2 r κ) = if keep (rowOf c u r) κ then 0 else ⊥ := by
  have hn : Named.named (F := Ideal) Cert.KernelIdeal.κ "mask" (φ := .f32) 0xCE6E6B28#32 = ⊥ := rfl
  unfold bias
  pointwise [k0_pay15]
  rw [hn, kBlk_apply, qBlk_apply, mask_word _ (by have := (rowOf c u r).isLt; omega) _ (by have := κ.isLt; omega)]
  by_cases h : keep (rowOf c u r) κ
  · rw [if_pos h, if_pos (show _ ∨ _ ∨ _ from h)]; rfl
  · rw [if_neg h, if_neg (show ¬ (_ ∨ _ ∨ _) from h)]; rfl

/-! ## The arrays -/

section
variable (m : (ℓ : Loc nD τ sig) → Buf (Elt Ideal) ℓ)

/-- A device's number. -/
abbrev dn (c : Dev nD) : Fin 16 := ⟨c.val, c.isLt⟩
/-- The head a device's column belongs to. -/
def hd (c : Dev nD) (J : Fin 1024) : Fin 128 := ⟨8 * c.val + J.val / 128, by have : c.val < 16 := c.isLt; omega⟩
/-- A column's place in its head. -/
def wi (J : Fin 1024) : Fin 128 := ⟨J.val % 128, Nat.mod_lt _ (by decide)⟩

/-- A device's row of the output weights, in the whole. -/
def woRow (c : Dev nD) (j : Fin 1024) : Fin 16384 := ⟨1024 * c.val + j.val, by have : c.val < 16 := c.isLt; omega⟩

/-- A staged input is the array. -/
theorem xC_eq (c : Dev nD) : xC m c = m ((c : Thread nD τ).loc main_arg0) := by
  funext x
  refine congrArg (m ((c : Thread nD τ).loc main_arg0)) (funext fun a => Fin.ext ?_)
  match a with
  | ⟨0, _⟩ => exact (congrArg (0 + ·) (Nat.one_mul _)).trans (Nat.zero_add _)
  | ⟨1, _⟩ => exact (congrArg (0 + ·) (Nat.one_mul _)).trans (Nat.zero_add _)
  | ⟨2, _⟩ => exact (congrArg (0 + ·) (Nat.one_mul _)).trans (Nat.zero_add _)
/-- The query weights the kernel reads are the device's columns as given. -/
theorem wqC_eq (c : Dev nD) : wqC m c = m ((c : Thread nD τ).loc main_arg1) := by
  funext x
  refine congrArg (m ((c : Thread nD τ).loc main_arg1)) (funext fun a => Fin.ext ?_)
  match a with
  | ⟨0, _⟩ => exact (congrArg (0 + ·) (Nat.one_mul _)).trans (Nat.zero_add _)
  | ⟨1, _⟩ => exact (congrArg (0 + ·) (Nat.one_mul _)).trans (Nat.zero_add _)
/-- The output weights the kernel reads are the device's rows as given. -/
theorem woC_eq (c : Dev nD) : woC m c = m ((c : Thread nD τ).loc main_arg4) := by
  funext x
  refine congrArg (m ((c : Thread nD τ).loc main_arg4)) (funext fun a => Fin.ext ?_)
  match a with
  | ⟨0, _⟩ => exact (congrArg (0 + ·) (Nat.one_mul _)).trans (Nat.zero_add _)
  | ⟨1, _⟩ => exact (congrArg (0 + ·) (Nat.one_mul _)).trans (Nat.zero_add _)

/-- One head's rows and columns, as an element of its slice. -/
theorem squeeze_head (κ : Fin 1024) (t : Fin 128) :
    Shape.reshapeEquiv (s := S1x1024x1x128) (s' := S1024x128) squeezes_S1x1024x1x128_S1024x128.numel_eq (ix2 κ t) = ix4 0 κ 0 t := by
  pointwise

/-- One head of an array, read through its slice. -/
theorem head_read (f : Vec Ideal S1x1024x128x128 .f32) (c : Dev nD) (h : Fin 8) (κ : Fin 1024) (t : Fin 128) :
    f ((Rect.unit (s := S1x1024x128x128) (k0_off1 c (BitVec.ofNat 32 h.val)) S1x1024x1x128.size (k0_off1_inb c h)).emb
        (Shape.reshapeEquiv (s := S1x1024x1x128) (s' := S1024x128) squeezes_S1x1024x1x128_S1024x128.numel_eq (ix2 κ t)))
      = f (ix4 0 κ ⟨8 * c.val + h.val, by have : c.val < 16 := c.isLt; omega⟩ t) := by
  rw [squeeze_head]
  refine congrArg f (funext fun a => Fin.ext ?_)
  have e := k0_off1_eq c h
  match a with
  | ⟨0, _⟩ => exact (congrArg (· + 1 * 0) (congrFun e 0)).trans rfl
  | ⟨1, _⟩ => exact (congrArg (· + 1 * κ.val) (congrFun e 1)).trans ((congrArg (0 + ·) (Nat.one_mul _)).trans (Nat.zero_add _))
  | ⟨2, _⟩ => exact (congrArg (· + 1 * 0) (congrFun e 2)).trans rfl
  | ⟨3, _⟩ => exact (congrArg (· + 1 * t.val) (congrFun e 3)).trans ((congrArg (0 + ·) (Nat.one_mul _)).trans (Nat.zero_add _))

/-- The gathered keys. -/
theorem kfC_apply (c : Dev nD) (κ J : Fin 1024) : kfC m c (ix2 κ J) = m ((c : Thread nD τ).loc main_arg2) (ix4 0 κ (hd c J) (wi J)) := by
  refine Eq.trans ?_ (head_read (m ((c : Thread nD τ).loc main_arg2)) c (hdOf (ix2 κ J)) κ (wi J))
  show (headM mK c (hdOf (ix2 κ J))).view.read (Elt Ideal) (kArr m c) (Shape.pair (d := ![1024, 128]) κ (wi J)) = _
  rw [pair_eq]
  rfl
/-- The gathered values. -/
theorem vfC_apply (c : Dev nD) (κ J : Fin 1024) : vfC m c (ix2 κ J) = m ((c : Thread nD τ).loc main_arg3) (ix4 0 κ (hd c J) (wi J)) := by
  refine Eq.trans ?_ (head_read (m ((c : Thread nD τ).loc main_arg3)) c (hdOf (ix2 κ J)) κ (wi J))
  show (headM mV c (hdOf (ix2 κ J))).view.read (Elt Ideal) (vArr m c) (Shape.pair (d := ![1024, 128]) κ (wi J)) = _
  rw [pair_eq]
  rfl

/-- Column `t` of a device's head `h`. -/
def colOf (h : Fin 8) (t : Fin 128) : Fin 1024 := ⟨128 * h.val + t.val, by omega⟩

/-- The queries of a slab's head. -/
theorem q_read (c : Dev nD) (u : Fin 4) (h : Fin 8) (f : Vec Ideal S1024x1024 .bf16) (r : Fin 256) (t : Fin 128) :
    mQ.view.readAt (Elt Ideal) (Rect.unit (s := S1024x1024) (qoff c u h) S256x128.size (qoff_inb c u h)).toLoadRect f (ix2 r t)
      = f (ix2 (rowOf c u r) (colOf h t)) := by
  refine congrArg f (funext fun a => Fin.ext ?_)
  have e := qoff_eq c u h
  match a with
  | ⟨0, _⟩ => exact (congrArg (· + 1 * r.val) (congrFun e 0)).trans (congrArg (256 * (slabOf c u).val + ·) (Nat.one_mul _))
  | ⟨1, _⟩ => exact (congrArg (· + 1 * t.val) (congrFun e 1)).trans (congrArg (128 * h.val + ·) (Nat.one_mul _))
/-- The keys of a head. -/
theorem k_read (h : Fin 8) (f : Vec Ideal S1024x1024 .bf16) (κ : Fin 1024) (t : Fin 128) :
    mKb.view.readAt (Elt Ideal) (Rect.unit (s := S1024x1024) ![0, 128 * h.val] S1024x128.size (inbC h)).toLoadRect f (ix2 κ t) = f (ix2 κ (colOf h t)) := by
  refine congrArg f (funext fun a => Fin.ext ?_)
  match a with
  | ⟨0, _⟩ => exact (congrArg (0 + ·) (Nat.one_mul _)).trans (Nat.zero_add _)
  | ⟨1, _⟩ => exact congrArg (128 * h.val + ·) (Nat.one_mul _)
/-- The values of a head. -/
theorem v_read (h : Fin 8) (f : Vec Ideal S1024x1024 .bf16) (κ : Fin 1024) (t : Fin 128) :
    mVb.view.readAt (Elt Ideal) (Rect.unit (s := S1024x1024) ![0, 128 * h.val] S1024x128.size (inbC h)).toLoadRect f (ix2 κ t) = f (ix2 κ (colOf h t)) := by
  refine congrArg f (funext fun a => Fin.ext ?_)
  match a with
  | ⟨0, _⟩ => exact (congrArg (0 + ·) (Nat.one_mul _)).trans (Nat.zero_add _)
  | ⟨1, _⟩ => exact congrArg (128 * h.val + ·) (Nat.one_mul _)

/-! ## A device's share -/

variable (X : Fin 1024 → Fin 1024 → EReal) (Wq : Fin 1024 → Fin 16384 → EReal) (K V : Fin 1024 → Fin 128 → Fin 128 → EReal)
  (Wo : Fin 16384 → Fin 1024 → EReal)
  (hx : ∀ (c : Dev nD) R i, m ((c : Thread nD τ).loc main_arg0) (ix3 0 R i) = X R i)
  (hw : ∀ (c : Dev nD) i J, m ((c : Thread nD τ).loc main_arg1) (ix2 i J) = Wq i (col (hd c J) (wi J)))
  (hk : ∀ (c : Dev nD) κ H T, m ((c : Thread nD τ).loc main_arg2) (ix4 0 κ H T) = K κ H T)
  (hv : ∀ (c : Dev nD) κ H T, m ((c : Thread nD τ).loc main_arg3) (ix4 0 κ H T) = V κ H T)
  (ho : ∀ (c : Dev nD) j y, m ((c : Thread nD τ).loc main_arg4) (ix2 j y) = Wo (woRow c j) y)
include hx hw hk hv

/-- The projected queries. -/
theorem qC_apply (c : Dev nD) (R J : Fin 1024) : qC m c (ix2 R J) = proj X Wq R (hd c J) (wi J) := by
  unfold qC xbC wqbC
  rw [pay4_apply, xC_eq, wqC_eq]
  exact Finset.sum_congr rfl fun i _ => congrArg₂ (· * ·) (hx c R i) (hw c i J)

/-- The keys of the device's heads. -/
theorem kbC_apply (c : Dev nD) (κ J : Fin 1024) : kbC m c (ix2 κ J) = K κ (hd c J) (wi J) := by
  unfold kbC
  rw [pay7_apply, kfC_apply]
  exact hk c κ _ _
/-- The values of the device's heads. -/
theorem vbC_apply (c : Dev nD) (κ J : Fin 1024) : vbC m c (ix2 κ J) = V κ (hd c J) (wi J) := by
  unfold vbC
  rw [pay8_apply, vfC_apply]
  exact hv c κ _ _

/-- One head of a slab's attention. -/
theorem ctxH_apply (c : Dev nD) (u : Fin 4) (h : Fin 8) (r : Fin 256) (t : Fin 128) :
    ctxH m c u h (ix2 r t) = ctxKer X Wq K V (rowOf c u r) (hd c (colOf h t)) t := by
  have hw' : ∀ i, hd c (colOf h i) = hd c (colOf h t) := fun i => Fin.ext (by
    show 8 * c.val + (128 * h.val + i.val) / 128 = 8 * c.val + (128 * h.val + t.val) / 128
    have := i.isLt
    have := t.isLt
    omega)
  have hi : ∀ i, wi (colOf h i) = i := fun i => Fin.ext (by
    show (128 * h.val + i.val) % 128 = i.val
    have := i.isLt
    omega)
  have hs : ∀ κ : Fin 1024, (∑ i : Fin 128,
        mQ.view.readAt (Elt Ideal) (Rect.unit (s := S1024x1024) (qoff c u h) S256x128.size (qoff_inb c u h)).toLoadRect (qC m c) (ix2 r i)
          * mKb.view.readAt (Elt Ideal) (Rect.unit (s := S1024x1024) ![0, 128 * h.val] S1024x128.size (inbC h)).toLoadRect (kbC m c) (ix2 κ i)) * scale
        + bias (F := Ideal) c u (ix2 r κ) = biased X Wq K (rowOf c u r) (hd c (colOf h t)) κ := by
    intro κ
    unfold biased score
    rw [bias_apply]
    congr 2
    refine Finset.sum_congr rfl fun i _ => ?_
    rw [q_read, k_read, qC_apply m X Wq K V hx hw hk hv, kbC_apply m X Wq K V hx hw hk hv, hw' i, hi i]
  unfold ctxH
  rw [pay19_apply]
  unfold ctxKer
  congr 1
  · refine Finset.sum_congr rfl fun κ _ => ?_
    rw [hs κ, v_read, vbC_apply m X Wq K V hx hw hk hv, hi t]
  · exact Finset.sum_congr rfl fun κ _ => congrArg Ideal.exp (hs κ)

/-- The slab's attention, all heads. -/
theorem ctxC_apply (c : Dev nD) (u : Fin 4) (r : Fin 256) (j : Fin 1024) :
    ctxC m c u (ix2 r j) = ctxKer X Wq K V (rowOf c u r) (hd c j) (wi j) := by
  show ctxH m c u ⟨j.val / 128, _⟩ (Shape.pair (d := ![256, 128]) r (wi j)) = _
  rw [pair_eq, ctxH_apply m X Wq K V hx hw hk hv]
  have : colOf ⟨j.val / 128, by omega⟩ (wi j) = j := Fin.ext (by
    show 128 * (j.val / 128) + j.val % 128 = j.val
    omega)
  rw [this]

include ho

/-- The slab's rows of the device's partial result. -/
theorem slabC_apply (c : Dev nD) (u : Fin 4) (r : Fin 256) (y : Fin 1024) :
    slabC m c u (ix2 r y) = partKer X Wq K V Wo (dn c) (rowOf c u r) y := by
  unfold slabC wobC
  rw [pay25_apply]
  unfold partKer
  refine Finset.sum_congr rfl fun j _ => ?_
  rw [ctxC_apply m X Wq K V hx hw hk hv, pay5_apply, woC_eq]
  exact congrArg (_ * ·) (ho c j y)

/-- The device's partial result. -/
theorem partC_apply (c : Dev nD) (R y : Fin 1024) : partC m c (ix2 R y) = partKer X Wq K V Wo (dn c) R y := by
  show slabC m c (turnOf c ⟨R.val / 256, _⟩) (Shape.pair (d := ![256, 1024]) (⟨R.val % 256, _⟩ : Fin 256) y) = _
  rw [pair_eq, slabC_apply m X Wq K V Wo hx hw hk hv ho]
  congr 1
  apply Fin.ext
  show 256 * (slabOf c (turnOf c ⟨R.val / 256, _⟩)).val + R.val % 256 = R.val
  rw [slabOf_turnOf]
  show 256 * (R.val / 256) + R.val % 256 = R.val
  omega

/-! ## The sum over the devices -/

/-- Row `r` of chunk `i`. -/
def chRow (i : Fin 16) (r : Fin 64) : Fin 1024 := ⟨64 * i.val + r.val, by omega⟩

/-- What slot `k` adds. -/
theorem rsAt_apply (c : Dev nD) (k : Fin 15) (r : Fin 64) (y : Fin 1024) :
    rsAt m c k (ix3 0 r y) = partKer X Wq K V Wo (dn (src c k)) (chRow (ch c) r) y := by
  rw [← partC_apply m X Wq K V Wo hx hw hk hv ho]
  have e : rsAt m c k (ix3 0 r y) = rsC m c (ix3 k r y) := by
    refine congrArg (rsC m c) (funext fun a => Fin.ext ?_)
    match a with
    | ⟨0, _⟩ => rfl
    | ⟨1, _⟩ => exact (congrArg (0 + ·) (Nat.one_mul _)).trans (Nat.zero_add _)
    | ⟨2, _⟩ => exact (congrArg (0 + ·) (Nat.one_mul _)).trans (Nat.zero_add _)
  rw [e]
  exact congrArg (partC m (src c k)) (pair_eq _ _)

/-- The device's own chunk. -/
theorem acc0_apply (c : Dev nD) (r : Fin 64) (y : Fin 1024) :
    acc0 m c (ix2 r y) = partKer X Wq K V Wo (dn c) (chRow (ch c) r) y := by
  rw [← partC_apply m X Wq K V Wo hx hw hk hv ho]
  refine congrArg (partC m c) (funext fun a => Fin.ext ?_)
  have e := off26_eq c
  match a with
  | ⟨0, _⟩ => exact (congrArg (· + 1 * r.val) (congrFun e 0)).trans (congrArg (64 * (ch c).val + ·) (Nat.one_mul _))
  | ⟨1, _⟩ => exact (congrArg (· + 1 * y.val) (congrFun e 1)).trans ((congrArg (0 + ·) (Nat.one_mul _)).trans (Nat.zero_add _))

/-- The sum over a list of peers. -/
theorem accs_apply (c : Dev nD) (r : Fin 64) (y : Fin 1024) (l : List (Fin 15)) (a : FVec Ideal S64x1024 .f32) :
    accs m c l a (ix2 r y) = a (ix2 r y) + (l.map fun k => partKer X Wq K V Wo (dn (src c k)) (chRow (ch c) r) y).sum := by
  induction l generalizing a with
  | nil => exact (add_zero _).symm
  | cons k l ih =>
    have hv' : accVal a (rsAt m c k) (ix2 r y) = a (ix2 r y) + partKer X Wq K V Wo (dn (src c k)) (chRow (ch c) r) y := by
      rw [← rsAt_apply m X Wq K V Wo hx hw hk hv ho]
      generalize rsAt m c k = w
      pointwise [accVal]
    rw [List.map_cons, List.sum_cons, ← add_assoc, ← hv']
    exact ih (accVal a (rsAt m c k))

omit hx hw hk hv ho in
/-- A device and the fifteen before it are all the devices. -/
theorem sum_all (f : Fin 16 → EReal) (c : Dev nD) : f (dn c) + (peers.map fun k => f (dn (src c k))).sum = ∑ d, f d := by
  have h1 : (peers.map fun k => f (dn (src c k))).sum = ∑ k : Fin 15, f (dn (src c k)) := by
    rw [← List.sum_ofFn]
    rfl
  have hu : (Finset.univ : Finset (Fin 16)) = insert (dn c) (Finset.univ.image fun k : Fin 15 => dn (src c k)) := by
    clear h1; revert c; decide +kernel
  have hn : dn c ∉ Finset.univ.image fun k : Fin 15 => dn (src c k) := by
    clear h1 hu; revert c; decide +kernel
  have hi : ∀ k k' : Fin 15, dn (src c k) = dn (src c k') → k = k' := by
    clear h1 hu hn; revert c; decide +kernel
  rw [h1, hu, Finset.sum_insert hn, Finset.sum_image fun k _ k' _ h => hi k k' h]

/-- The result. -/
theorem outC_apply (R y : Fin 1024) : outC m (ix2 R y) = ∑ d, partKer X Wq K V Wo d R y := by
  show redC m (owner ⟨R.val / 64, _⟩) (Shape.pair (d := ![64, 1024]) (⟨R.val % 64, _⟩ : Fin 64) y) = _
  rw [pair_eq]
  show accs m (owner ⟨R.val / 64, _⟩) peers (acc0 m (owner ⟨R.val / 64, _⟩)) (ix2 (⟨R.val % 64, _⟩ : Fin 64) y) = _
  rw [accs_apply m X Wq K V Wo hx hw hk hv ho, acc0_apply m X Wq K V Wo hx hw hk hv ho, sum_all (fun d => partKer X Wq K V Wo d _ y)]
  have : chRow (ch (owner ⟨R.val / 64, by omega⟩)) ⟨R.val % 64, Nat.mod_lt _ (by decide)⟩ = R := by
    rw [ch_owner]
    exact Fin.ext (by show 64 * (R.val / 64) + R.val % 64 = R.val; omega)
  rw [this]
end

end Cert.KernelIdeal.Hand
-- ==== Proof.Value.Agree.lean ====
/- The kernel's result on every device is the reference's. -/
module

public import proofs.«01_k».proof.Proof.Value.RefValue
public import proofs.«01_k».proof.Proof.Value.KerValue
public import Idealize.ShloMosaic.Lib.Layout

@[expose] public section

noncomputable section

namespace Cert.Value

open Idealize.ShloMosaic Idealize.ShloMosaic.TcCoe Idealize.SL.Sem
open Cert.ReferenceIdeal.Hand (xA wqA kA woA)
open Cert.KernelIdeal.Hand (hd wi woRow)

/-- A device's column, in the whole. -/
theorem col_hd (c : Dev Cert.KernelIdeal.nD) (J : Fin 1024) : (col (hd c J) (wi J)).val = c.val * 1024 + J.val := by
  show (8 * c.val + J.val / 128) * 128 + J.val % 128 = c.val * 1024 + J.val
  omega

/-- Every column is some device's. -/
theorem col_cover (J : Fin 16384) : ∃ (c : Dev Cert.KernelIdeal.nD) (j : Fin 1024), col (hd c j) (wi j) = J :=
  ⟨⟨J.val / 1024, by show _ < 16; omega⟩, ⟨J.val % 1024, Nat.mod_lt _ (by decide)⟩, Fin.ext (by
    rw [col_hd]
    show J.val / 1024 * 1024 + J.val % 1024 = J.val
    omega)⟩

/-- Device `c`'s block of columns, at an element. -/
theorem block_cols (f : Vec Ideal ⟨2, ![1024, 16384]⟩ .f32) (c : Dev Cert.KernelIdeal.nD) (i J : Fin 1024) :
    Layout.block ⟨2, ![1024, 1024]⟩ ⟨2, ![1024, 16384]⟩ 1 16 c f (by decide) (ix2 i J) = f (ix2 i (col (hd c J) (wi J))) := by
  rw [Layout.block_apply]
  refine congrArg f (funext fun a => Fin.ext ?_)
  match a with
  | ⟨0, _⟩ => rfl
  | ⟨1, _⟩ => exact (col_hd c J).symm

/-- Device `c`'s block of rows, at an element. -/
theorem block_rows (f : Vec Ideal ⟨2, ![16384, 1024]⟩ .f32) (c : Dev Cert.KernelIdeal.nD) (j y : Fin 1024) :
    Layout.block ⟨2, ![1024, 1024]⟩ ⟨2, ![16384, 1024]⟩ 0 16 c f (by decide) (ix2 j y) = f (ix2 (woRow c j) y) := by
  rw [Layout.block_apply]
  refine congrArg f (funext fun a => Fin.ext ?_)
  match a with
  | ⟨0, _⟩ => exact congrArg (· + j.val) (Nat.mul_comm c.val 1024)
  | ⟨1, _⟩ => rfl

/-- Where the inputs, the query weights and the keys are real and the devices hold their blocks of the reference's
    arguments, the kernel's result is the reference's. -/
theorem outC_eq (m : (ℓ : Loc Cert.KernelIdeal.nD Cert.KernelIdeal.τ Cert.KernelIdeal.sig) → Buf (Elt Ideal) ℓ)
    (x : Vec Ideal Cert.ReferenceIdeal.S1x1024x1024 .f32) (wq : Vec Ideal Cert.ReferenceIdeal.S1024x16384 .f32)
    (k v : Vec Ideal Cert.ReferenceIdeal.S1x1024x128x128 .f32) (wo : Vec Ideal Cert.ReferenceIdeal.S16384x1024 .f32)
    (h0 : ∀ c : Dev Cert.KernelIdeal.nD, m ((c.tc : Thread Cert.KernelIdeal.nD Cert.KernelIdeal.τ).loc Cert.KernelIdeal.main_arg0) = x)
    (h1 : ∀ c : Dev Cert.KernelIdeal.nD, m ((c.tc : Thread Cert.KernelIdeal.nD Cert.KernelIdeal.τ).loc Cert.KernelIdeal.main_arg1)
      = Layout.block ⟨2, ![1024, 1024]⟩ ⟨2, ![1024, 16384]⟩ 1 16 c wq (by decide))
    (h2 : ∀ c : Dev Cert.KernelIdeal.nD, m ((c.tc : Thread Cert.KernelIdeal.nD Cert.KernelIdeal.τ).loc Cert.KernelIdeal.main_arg2) = k)
    (h3 : ∀ c : Dev Cert.KernelIdeal.nD, m ((c.tc : Thread Cert.KernelIdeal.nD Cert.KernelIdeal.τ).loc Cert.KernelIdeal.main_arg3) = v)
    (h4 : ∀ c : Dev Cert.KernelIdeal.nD, m ((c.tc : Thread Cert.KernelIdeal.nD Cert.KernelIdeal.τ).loc Cert.KernelIdeal.main_arg4)
      = Layout.block ⟨2, ![1024, 1024]⟩ ⟨2, ![16384, 1024]⟩ 0 16 c wo (by decide))
    (rx : ∀ i, IsReal (x i))
    (rw' : ∀ (c : Dev Cert.KernelIdeal.nD) i, IsReal (Layout.block ⟨2, ![1024, 1024]⟩ ⟨2, ![1024, 16384]⟩ 1 16 c wq (by decide) i))
    (rk : ∀ i, IsReal (k i)) (R y : Fin 1024) :
    Cert.KernelIdeal.Hand.outC m (ix2 R y) = outRef (xA x) (wqA wq) (kA k) (kA v) (woA wo) R y := by
  rw [Cert.KernelIdeal.Hand.outC_apply m (xA x) (wqA wq) (kA k) (kA v) (woA wo)
    (fun c R i => congrFun (h0 c) (ix3 0 R i))
    (fun c i J => (congrFun (h1 c) (ix2 i J)).trans (block_cols wq c i J))
    (fun c κ H T => congrFun (h2 c) (ix4 0 κ H T))
    (fun c κ H T => congrFun (h3 c) (ix4 0 κ H T))
    (fun c j y => (congrFun (h4 c) (ix2 j y)).trans (block_rows wo c j y))]
  refine out_eq (xA x) (wqA wq) (kA k) (kA v) (woA wo) (fun R i => rx _) (fun i J => ?_) (fun κ H t => rk _) R y
  obtain ⟨c, j, rfl⟩ := col_cover J
  have h := rw' c (ix2 i j)
  rw [block_cols] at h
  exact h

end Cert.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import Idealize.ShloMosaic.Lib.Quiescent
public import proofs.«01_k».proof.Proof.KernelIdeal.Launch
public import proofs.«01_k».proof.Proof.Kernel.Launch
public import proofs.«01_k».proof.Proof.Value.Pre
public import proofs.«01_k».proof.Proof.Value.Agree

@[expose] public section

noncomputable section

namespace Cert.Proof

open Idealize.ShloMosaic Idealize.SL.Sem

/-- The kernel runs from every memory, leaves its arguments and ends with every counter at zero. -/
theorem frame_Kernel : Cert.quiescent_Kernel := fun m g _ =>
  (θ_run _ _ _).mono (fun _ h => ⟨fun c => (h.1 c).2, h.2⟩) (Cert.Kernel.Hand.run_main (F := Bits) m g)

/-- So does the kernel read at the extended reals. -/
theorem frame_KernelIdeal : Cert.quiescent_KernelIdeal := fun m g _ =>
  (θ_run _ _ _).mono (fun _ h => ⟨fun c => (h.1 c).2, h.2⟩) (Cert.KernelIdeal.Hand.run_main (F := Ideal) m g)

/-- So does the reference read at the extended reals. -/
theorem frame_ReferenceIdeal : Cert.quiescent_ReferenceIdeal := fun m g _ =>
  (θ_run _ _ _).mono (fun r h => ⟨fun c => (h c).2, sem_eq_zero_of_no_sems (by decide) r.2⟩) (Cert.ReferenceIdeal.Value.run (F := Ideal) m g)

/-- The one rewrite, of the mask's constant to its name, is the rule's. -/
theorem preserves : Cert.preserves_Kernel_KernelIdeal :=
  IdealRules.named_const.statement Cert.KernelIdeal.κ "mask" .f32 0xCE6E6B28#32 ⊥ rfl

/-- Where the inputs, the query weights and the keys are finite, every device ends holding the reference's result. -/
theorem algebraic : Cert.algebraic_KernelIdeal_ReferenceIdeal_pre_finite_scores_KernelIdeal := by
  intro m g m' g' hpre hargs
  have hreal := fun c => Cert.Pre_finite_scores_KernelIdeal.Hand.real_of_pre _ _ _ _ _ (hpre c)
  have hout : Cert.KernelIdeal.Hand.outC m = Cert.ReferenceIdeal.Value.res_main_v46 (F := Ideal) m' 0 := by
    rw [Cert.ReferenceIdeal.Hand.res_stages]
    funext i
    rw [eq_ix2 i]
    refine Eq.trans ?_ (Cert.ReferenceIdeal.Hand.rRes_apply _ _ _ _ _ (i 0) (i 1)).symm
    refine Cert.Value.outC_eq m _ _ _ _ _ (fun c => (hargs c).1) (fun c => (hargs c).2.1) (fun c => (hargs c).2.2.1)
      (fun c => (hargs c).2.2.2.1) (fun c => (hargs c).2.2.2.2) (fun j => ?_) (fun c j => ?_) (fun j => ?_) _ _
    · have h := (hreal 0).1 j
      rw [(hargs 0).1] at h
      exact h
    · have h := (hreal c).2.1 j
      rw [(hargs c).2.1] at h
      exact h
    · have h := (hreal 0).2.2 j
      rw [(hargs 0).2.2.1] at h
      exact h
  refine ⟨Cert.ReferenceIdeal.Value.res_main_v46 (F := Ideal) m' 0, ?_, ?_⟩
  · exact (θ_run _ _ _).mono (fun _ h c => ⟨(h.1 c).1.trans hout, (h.1 c).2⟩) (Cert.KernelIdeal.Hand.run_main (F := Ideal) m g)
  · exact (θ_run _ _ _).mono (fun _ h => h 0) (Cert.ReferenceIdeal.Value.run (F := Ideal) m' g')

/-- Everything claimed. -/
theorem claim : Cert.Claim := ⟨Cert.Kernel.Gen.facts, Cert.KernelIdeal.Gen.facts, Cert.ReferenceIdeal.Gen.facts,
  Cert.Pre_finite_scores_KernelIdeal.Gen.facts, Cert.Pre_finite_scores_ReferenceIdeal.Gen.facts,
  frame_Kernel, frame_KernelIdeal, fun m g _ => frame_KernelIdeal m g trivial,
  frame_ReferenceIdeal, fun m g _ => frame_ReferenceIdeal m g trivial, preserves, algebraic⟩

end Cert.Proof

end
